-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x8192 : Shape := ⟨2, ![1024, 8192]⟩
abbrev S1 : Shape := ⟨1, ![1]⟩
abbrev S4096x8192 : Shape := ⟨2, ![4096, 8192]⟩
abbrev S1024x4096 : Shape := ⟨2, ![1024, 4096]⟩
abbrev S256x4096 : Shape := ⟨2, ![256, 4096]⟩
abbrev S2 : Shape := ⟨1, ![2]⟩
abbrev S_ : Shape := ⟨0, ![]⟩
abbrev S256x1024 : Shape := ⟨2, ![256, 1024]⟩

abbrev nBuf : Space → Nat
  | .hbm => 5
  | .vmem => 8
  | .smem => 2
  | _ => 0

abbrev bufTy : (tb : Table) → Fin (tcTables nBuf tb) → BufTy
  | .hbm, ⟨0, _⟩ => ⟨S4096x1024, .f32⟩
  | .hbm, ⟨1, _⟩ => ⟨S1024x8192, .f32⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x1024, .f32⟩
  | .local _ .vmem, ⟨1, _⟩ => ⟨S1024x8192, .f32⟩
  | .local _ .vmem, ⟨2, _⟩ => ⟨S1024x4096, .bf16⟩
  | .local _ .vmem, ⟨3, _⟩ => ⟨S1024x4096, .bf16⟩
  | .local _ .vmem, ⟨4, _⟩ => ⟨S1024x4096, .bf16⟩
  | .local _ .vmem, ⟨5, _⟩ => ⟨S1024x4096, .bf16⟩
  | .local _ .vmem, ⟨6, _⟩ => ⟨S256x4096, .f32⟩
  | .local _ .vmem, ⟨7, _⟩ => ⟨S256x4096, .f32⟩
  | .local _ .smem, ⟨0, _⟩ => ⟨S1, .f32⟩
  | .local _ .smem, ⟨1, _⟩ => ⟨S1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 3 → Bool
  | ⟨0, _⟩ => true
  | ⟨1, _⟩ => true
  | ⟨2, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 3 10 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 2

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_7 : BitVec 32 := 1#32
  let v12 : BitVec 32 := Scalar.muli v7 c1_i32_7
  let v13 : BitVec 32 := Scalar.addi c0_i32 v12
  v13.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_9 : BitVec 32 := 1#32
  let v14 : BitVec 32 := Scalar.muli v4 c1_i32_9
  let v15 : BitVec 32 := Scalar.addi c0_i32_10 v14
  v15.toNat
def k0_off1 (d0 : Dev nD) (c0_i32_11 : BitVec 32) (c0_i32_13 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.addi v2 c0_i32_11
  let c4_i32_12 : BitVec 32 := 4#32
  let v17 : BitVec 32 := Scalar.remsi v16 c4_i32_12
  let c1024_i32 : BitVec 32 := 1024#32
  let v18 : BitVec 32 := Scalar.muli v17 c1024_i32
  let v19 : BitVec 32 := Scalar.addi v18 c0_i32_13
  let v20 : Index := Scalar.indexCast v19
  let c0_14 : Index := 0#32
  ![v20.toNat, 0]
def k0_dev3 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_39 : BitVec 32 := 1#32
  let v74 : BitVec 32 := Scalar.muli v4 c1_i32_39
  let v75 : BitVec 32 := Scalar.addi c0_i32_40 v74
  v75.toNat
def k0_dev4 (d0 : Dev nD) : Nat :=
  let c0_i32_77 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_76 : BitVec 32 := 1#32
  let v138 : BitVec 32 := Scalar.muli v7 c1_i32_76
  let v139 : BitVec 32 := Scalar.addi c0_i32_77 v138
  v139.toNat
def k0_dev5 (d0 : Dev nD) : Nat :=
  let c0_i32_132 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_131 : BitVec 32 := 1#32
  let v224 : BitVec 32 := Scalar.muli v7 c1_i32_131
  let v225 : BitVec 32 := Scalar.addi c0_i32_132 v224
  v225.toNat
def k0_dev6 (d0 : Dev nD) : Nat :=
  let c0_i32_139 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_138 : BitVec 32 := 1#32
  let v228 : BitVec 32 := Scalar.muli v4 c1_i32_138
  let v229 : BitVec 32 := Scalar.addi c0_i32_139 v228
  v229.toNat
def k0_dev7 (d0 : Dev nD) : Nat :=
  let c0_i32_189 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_188 : BitVec 32 := 1#32
  let v310 : BitVec 32 := Scalar.muli v4 c1_i32_188
  let v311 : BitVec 32 := Scalar.addi c0_i32_189 v310
  v311.toNat
def k0_dev8 (d0 : Dev nD) : Nat :=
  let c0_i32_196 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_195 : BitVec 32 := 1#32
  let v314 : BitVec 32 := Scalar.muli v7 c1_i32_195
  let v315 : BitVec 32 := Scalar.addi c0_i32_196 v314
  v315.toNat
def k0_dev9 (d0 : Dev nD) : Nat :=
  let c0_i32_252 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_251 : BitVec 32 := 1#32
  let v400 : BitVec 32 := Scalar.muli v7 c1_i32_251
  let v401 : BitVec 32 := Scalar.addi c0_i32_252 v400
  v401.toNat
def k0_dev10 (d0 : Dev nD) : Nat :=
  let c0_i32_259 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_258 : BitVec 32 := 1#32
  let v404 : BitVec 32 := Scalar.muli v4 c1_i32_258
  let v405 : BitVec 32 := Scalar.addi c0_i32_259 v404
  v405.toNat
def k0_dev11 (d0 : Dev nD) : Nat :=
  let c0_i32_309 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_308 : BitVec 32 := 1#32
  let v486 : BitVec 32 := Scalar.muli v4 c1_i32_308
  let v487 : BitVec 32 := Scalar.addi c0_i32_309 v486
  v487.toNat
def k0_dev12 (d0 : Dev nD) : Nat :=
  let c0_i32_316 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_315 : BitVec 32 := 1#32
  let v490 : BitVec 32 := Scalar.muli v7 c1_i32_315
  let v491 : BitVec 32 := Scalar.addi c0_i32_316 v490
  v491.toNat
def k0_dev13 (d0 : Dev nD) : Nat :=
  let c0_i32_389 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_388 : BitVec 32 := 1#32
  let v625 : BitVec 32 := Scalar.muli v7 c1_i32_388
  let v626 : BitVec 32 := Scalar.addi c0_i32_389 v625
  v626.toNat
def k0_dev14 (d0 : Dev nD) : Nat :=
  let c0_i32_456 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_455 : BitVec 32 := 1#32
  let v752 : BitVec 32 := Scalar.muli v4 c1_i32_455
  let v753 : BitVec 32 := Scalar.addi c0_i32_456 v752
  v753.toNat
def k0_dev15 (d0 : Dev nD) : Nat :=
  let c0_i32_463 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_462 : BitVec 32 := 1#32
  let v756 : BitVec 32 := Scalar.muli v4 c1_i32_462
  let v757 : BitVec 32 := Scalar.addi c0_i32_463 v756
  v757.toNat
def k0_dev16 (d0 : Dev nD) : Nat :=
  let c0_i32_470 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_469 : BitVec 32 := 1#32
  let v764 : BitVec 32 := Scalar.muli v7 c1_i32_469
  let v765 : BitVec 32 := Scalar.addi c0_i32_470 v764
  v765.toNat
def k0_off2 (d0 : Dev nD) (c1_i32_327 : BitVec 32) (c0_i32_475 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v504 : BitVec 32 := Scalar.addi v2 c1_i32_327
  let c4_i32_328 : BitVec 32 := 4#32
  let v505 : BitVec 32 := Scalar.remsi v504 c4_i32_328
  let c1024_i32_329 : BitVec 32 := 1024#32
  let v506 : BitVec 32 := Scalar.muli v505 c1024_i32_329
  let v775 : BitVec 32 := Scalar.addi v506 c0_i32_475
  let c0_i32_477 : BitVec 32 := 0#32
  ![v775.toNat, 0]
def k0_off3 (d0 : Dev nD) (c3_i32_394 : BitVec 32) (c0_i32_511 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v631 : BitVec 32 := Scalar.addi v2 c3_i32_394
  let c4_i32_395 : BitVec 32 := 4#32
  let v632 : BitVec 32 := Scalar.remsi v631 c4_i32_395
  let c1024_i32_396 : BitVec 32 := 1024#32
  let v633 : BitVec 32 := Scalar.muli v632 c1024_i32_396
  let v823 : BitVec 32 := Scalar.addi v633 c0_i32_511
  let c4096_i32 : BitVec 32 := 4096#32
  ![v823.toNat, 4096]
def k0_dev17 (d0 : Dev nD) : Nat :=
  let c0_i32_562 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_561 : BitVec 32 := 1#32
  let v884 : BitVec 32 := Scalar.muli v7 c1_i32_561
  let v885 : BitVec 32 := Scalar.addi c0_i32_562 v884
  v885.toNat
def k0_dev18 (d0 : Dev nD) : Nat :=
  let c0_i32_569 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_568 : BitVec 32 := 1#32
  let v890 : BitVec 32 := Scalar.muli v4 c1_i32_568
  let v891 : BitVec 32 := Scalar.addi c0_i32_569 v890
  v891.toNat
def k0_dev19 (d0 : Dev nD) : Nat :=
  let c0_i32_576 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_575 : BitVec 32 := 1#32
  let v894 : BitVec 32 := Scalar.muli v4 c1_i32_575
  let v895 : BitVec 32 := Scalar.addi c0_i32_576 v894
  v895.toNat
def k0_dev20 (d0 : Dev nD) : Nat :=
  let c0_i32_583 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_582 : BitVec 32 := 1#32
  let v902 : BitVec 32 := Scalar.muli v7 c1_i32_582
  let v903 : BitVec 32 := Scalar.addi c0_i32_583 v902
  v903.toNat
def k0_dev21 (d0 : Dev nD) : Nat :=
  let c0_i32_676 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_675 : BitVec 32 := 1#32
  let v1022 : BitVec 32 := Scalar.muli v7 c1_i32_675
  let v1023 : BitVec 32 := Scalar.addi c0_i32_676 v1022
  v1023.toNat
def k0_dev22 (d0 : Dev nD) : Nat :=
  let c0_i32_683 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_682 : BitVec 32 := 1#32
  let v1028 : BitVec 32 := Scalar.muli v4 c1_i32_682
  let v1029 : BitVec 32 := Scalar.addi c0_i32_683 v1028
  v1029.toNat
def k0_dev23 (d0 : Dev nD) : Nat :=
  let c0_i32_690 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_689 : BitVec 32 := 1#32
  let v1032 : BitVec 32 := Scalar.muli v4 c1_i32_689
  let v1033 : BitVec 32 := Scalar.addi c0_i32_690 v1032
  v1033.toNat
def k0_dev24 (d0 : Dev nD) : Nat :=
  let c0_i32_697 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_696 : BitVec 32 := 1#32
  let v1040 : BitVec 32 := Scalar.muli v7 c1_i32_696
  let v1041 : BitVec 32 := Scalar.addi c0_i32_697 v1040
  v1041.toNat
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Proof.Proto.lean ====
/-
The exchange of the kernel as a protocol: two rings of four devices, one in each direction. Direction `false`
sends to the right neighbour, direction `true` to the left one. On each ring a device sends six times: three
partial sums, then three finished chunks. A send's landing is one round of the receiver's receive cell, the
source buffer coming back one round of the sender's own send cell, and a freed landing buffer is handed back to
the sender by one round of its credit cell (the very first one by the barrier cell).
-/
module

public import proofs.«01_k».proof.Proof.Gen.KernelIdeal
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources: the pipeline library's copy and the exchange's (duties named by `Bool`, credit indexed
  by the round), and the counters of the local copies -/

abbrev URing : Type := URounds (GSem nD τ sig) Bool
abbrev UAll : Type := UR sig nD τ × (URing × Counters)

local notation "𝕄" => MT nD τ sig ℕ (Elt F) ℕ UAll ℕ

abbrev EPipe : Emb (UR sig nD τ) (MT nD τ sig ℕ (Elt F) ℕ UAll ℕ) := embL
abbrev EMid : Emb (URing × Counters) (MT nD τ sig ℕ (Elt F) ℕ UAll ℕ) := embR
abbrev ERing : Emb URing (MT nD τ sig ℕ (Elt F) ℕ UAll ℕ) := (Emb.inl : Emb URing (URing × Counters)).trans EMid
/-- The exclusive counters the local copies run on. -/
abbrev ECnt : UEmb Counters (MT nD τ sig ℕ (Elt F) ℕ UAll ℕ) := countersEmb

abbrev 𝒱₀ : Variants := Variants.none

/-! ## The two rings -/

/-- Whom a device sends to: the right neighbour in direction `false`, the left one in direction `true`. -/
def nxt (d : Bool) (c : Dev nD) : Dev nD :=
  ⟨(c.val + (if d then 3 else 1)) % 4, Nat.mod_lt _ (by decide)⟩
/-- Whom it receives from. -/
def prv (d : Bool) (c : Dev nD) : Dev nD :=
  ⟨(c.val + (if d then 1 else 3)) % 4, Nat.mod_lt _ (by decide)⟩

theorem prv_nxt (d : Bool) (c : Dev nD) : prv d (nxt d c) = c := by revert d c; decide
theorem nxt_prv (d : Bool) (c : Dev nD) : nxt d (prv d c) = c := by revert d c; decide
theorem nxt_not (d : Bool) (c : Dev nD) : nxt (!d) c = prv d c := by revert d c; decide

/-- The ring as a permutation of the devices. -/
def ring (d : Bool) : Dev nD ≃ Dev nD := ⟨nxt d, prv d, prv_nxt d, nxt_prv d⟩

/-! ## The buffers -/

/-- The contents of an exchanged buffer. -/
abbrev Cont (F : FTy → Type) : Type := S1024x4096.Idx → Elt F .bf16

/-- The exchanged buffers: direction, and whether it is the second (`true`, where the partial sums land) or the
    first (`false`, where they are formed). -/
abbrev buf : Bool → Bool → Memref sig .tc .vmem S1024x4096 .bf16
  | false, false => Memref.whole cc0_scratch0
  | false, true => Memref.whole cc0_scratch1
  | true, false => Memref.whole cc0_scratch2
  | true, true => Memref.whole cc0_scratch3

/-- A share of a buffer at given contents. -/
def pts (c : Dev nD) (d b : Bool) (q : PosShare TreeShare) (f : Cont F) : sProp 𝕄 :=
  match d, b with
  | false, false => (Memref.whole cc0_scratch0).view.loc (c : Thread nD τ) ↦[(Memref.whole cc0_scratch0).view.set]{q} f
  | false, true => (Memref.whole cc0_scratch1).view.loc (c : Thread nD τ) ↦[(Memref.whole cc0_scratch1).view.set]{q} f
  | true, false => (Memref.whole cc0_scratch2).view.loc (c : Thread nD τ) ↦[(Memref.whole cc0_scratch2).view.set]{q} f
  | true, true => (Memref.whole cc0_scratch3).view.loc (c : Thread nD τ) ↦[(Memref.whole cc0_scratch3).view.set]{q} f

omit [FloatOps F] in
instance pts_storable (c : Dev nD) (d b : Bool) (q) (f : Cont F) : BI.Storable (upEmb : UEmb _ 𝕄) (pts c d b q f) := by
  cases d <;> cases b <;> unfold pts <;> infer_instance

/-- One transfer's credit. -/
def N : ℕ := (Memref.whole cc0_scratch1 : Memref sig .tc .vmem S1024x4096 .bf16).view.dmaCredit
theorem N_pos : 0 < N := View.dmaCredit_pos _ (by decide)
theorem credit_eq (d b : Bool) : (buf d b).view.dmaCredit = N := by cases d <;> cases b <;> rfl
attribute [irreducible] N

/-- The buffer the `j`-th send lands in is the second one, except the fifth's (`j = 4`); -/
def dstB (j : ℕ) : Bool := !(j == 4)
/-- its source is the other one. -/
def srcB (j : ℕ) : Bool := j == 4

/-- The share of the source lent to the `j`-th send: all of it for a partial sum, half for a finished chunk (the
    other half stays for the reads that copy the chunk out meanwhile). -/
def lent (j : ℕ) : PosShare TreeShare := if j < 3 then fullShare else fullShare.left

/-! ## The cells -/

/-- The kinds of cells of one device: the barrier, and per direction the send, receive and credit cells. -/
inductive Kd
  | bar
  | snd (d : Bool)
  | rcv (d : Bool)
  | crd (d : Bool)
deriving DecidableEq

namespace Kd
def equiv : Kd ≃ Option (Fin 3 × Bool) where
  toFun | bar => none | snd d => some (0, d) | rcv d => some (1, d) | crd d => some (2, d)
  invFun | none => bar | some (0, d) => snd d | some (1, d) => rcv d | some (2, d) => crd d
  left_inv k := by cases k <;> rfl
  right_inv o := by
    rcases o with _ | ⟨i, d⟩
    · rfl
    · fin_cases i <;> rfl
instance : Fintype Kd := Fintype.ofEquiv _ equiv.symm
end Kd

/-- The semaphore of each kind. -/
def semOf : Kd → SemLoc sig
  | .bar => .reg (2 : Sem sig)
  | .snd false => .dma (4 : DmaSem sig)
  | .snd true => .dma (5 : DmaSem sig)
  | .rcv false => .dma (6 : DmaSem sig)
  | .rcv true => .dma (7 : DmaSem sig)
  | .crd false => .reg (0 : Sem sig)
  | .crd true => .reg (1 : Sem sig)

/-- The kind of a semaphore, if the exchange uses it. -/
def kindOf : SemLoc sig → Option Kd
  | .reg i => if i = (2 : Sem sig) then some .bar else if i = (0 : Sem sig) then some (.crd false) else if i = (1 : Sem sig) then some (.crd true) else none
  | .dma i => if i = (4 : DmaSem sig) then some (.snd false) else if i = (5 : DmaSem sig) then some (.snd true)
      else if i = (6 : DmaSem sig) then some (.rcv false) else if i = (7 : DmaSem sig) then some (.rcv true) else none

theorem kindOf_semOf (k : Kd) : kindOf (semOf k) = some k := by
  rcases k with _ | d | d | d <;> first | rfl | (cases d <;> rfl)

theorem semOf_injective : Function.Injective semOf := fun a b h => by
  have := (kindOf_semOf a).symm.trans ((congrArg kindOf h).trans (kindOf_semOf b))
  exact Option.some.inj this

/-- A device's cell of a kind. -/
abbrev cell (c : Dev nD) (k : Kd) : GSem nD τ sig := ((c : Thread nD τ), semOf k)

/-- How many rounds a kind's cells have. -/
def rounds : Kd → ℕ
  | .bar => 1
  | .snd _ => 6
  | .rcv _ => 6
  | .crd _ => 5

/-! ## The schedule, at what each device sends -/

/-- `S d c j`: what device `c`'s `j`-th send of direction `d` carries. -/
abbrev Sent (F : FTy → Type) : Type := Bool → Dev nD → ℕ → Cont F

section Sched
variable (S : Sent F)

/-- What permits device `c`'s `j`-th send: the landing buffer on its target, at whatever it holds, and that the
    target's receive cell has reached that round. -/
def permit (c : Dev nD) (d : Bool) (j : ℕ) : sProp 𝕄 :=
  iprop((∃ f, pts (nxt d c) d (dstB j) fullShare f) ∗ reached ERing (cell (nxt d c) (.rcv d)) j)

/-- What one round's duty of a kind hands its owner. -/
def pay (c : Dev nD) (k : Kd) (r : ℕ) (b : Bool) : sProp 𝕄 :=
  match k with
  | .bar => permit c b 0
  | .snd d => pts c d (srcB r) (lent r) (S d c r)
  | .rcv d => iprop(pts c d (dstB r) fullShare (S d (prv d c) r) ∗ reached ERing (cell (prv d c) (.crd d)) r)
  | .crd d => permit c d (r + 1)

/-- The duties of a kind's round. -/
def duts (k : Kd) (r : ℕ) : Finset Bool :=
  match k with
  | .bar => if r < 1 then Finset.univ else ∅
  | .snd _ => if r < 6 then {false} else ∅
  | .rcv _ => if r < 6 then {false} else ∅
  | .crd _ => if r < 5 then {false} else ∅

/-- Their amounts. -/
def amt : Kd → ℕ
  | .bar => 1
  | .snd _ => N
  | .rcv _ => N
  | .crd _ => 1

theorem amt_pos (k : Kd) : 0 < amt k :=
  match k with
  | .bar => Nat.one_pos
  | .snd _ => N_pos
  | .rcv _ => N_pos
  | .crd _ => Nat.one_pos

/-- The schedule of all cells. -/
def Rd : Rounds.Schedule (GSem nD τ sig) Bool 𝕄 where
  duties g r := if g.1.2 = .tc then (match kindOf g.2 with | some k => duts k r | none => ∅) else ∅
  unitless _ := False
  amount g _ _ := match kindOf g.2 with | some k => amt k | none => 1
  payload g r b := match kindOf g.2 with | some k => pay S g.1.1 k r b | none => iprop(emp)
  amount_pos g _ _ _ := by
    cases h : kindOf g.2 with
    | none => exact Nat.one_pos
    | some k => exact amt_pos k

omit [FloatOps F] in
instance permit_storable (c d j) : BI.Storable (upEmb : UEmb _ 𝕄) (permit (F := F) c d j) := by unfold permit; infer_instance
omit [FloatOps F] in
instance pay_storable (c k r b) : BI.Storable (upEmb : UEmb _ 𝕄) (pay S c k r b) := by cases k <;> unfold pay <;> infer_instance

omit [FloatOps F] in
instance Rd_payload_storable (g : GSem nD τ sig) (r : ℕ) (b : Bool) :
    BI.Storable (upEmb : UEmb _ 𝕄) ((Rd S).payload g r b) := by
  show BI.Storable upEmb (match kindOf g.2 with | some k => pay S g.1.1 k r b | none => iprop(emp))
  cases kindOf g.2 <;> infer_instance

omit [FloatOps F] in
theorem Rd_duties (c : Dev nD) (k : Kd) (r : ℕ) : (Rd S).duties (cell c k) r = duts k r := by
  dsimp only [Rd]; rw [if_pos rfl, kindOf_semOf]
omit [FloatOps F] in
theorem Rd_amount (c : Dev nD) (k : Kd) (r : ℕ) (b : Bool) : (Rd S).amount (cell c k) r b = amt k := by
  dsimp only [Rd]; rw [kindOf_semOf]
omit [FloatOps F] in
theorem Rd_payload (c : Dev nD) (k : Kd) (r : ℕ) (b : Bool) : (Rd S).payload (cell c k) r b = pay S c k r b := by
  dsimp only [Rd]; rw [kindOf_semOf]

theorem duts_later (k : Kd) : ∀ r, rounds k ≤ r → duts k r = ∅ := fun r hr => by
  cases k <;> exact if_neg (Nat.not_lt.mpr hr)

omit [FloatOps F] in
theorem Rd_later (c : Dev nD) (k : Kd) : ∀ r, rounds k ≤ r → (Rd S).duties (cell c k) r = ∅ := fun r hr =>
  (Rd_duties S c k r).trans (duts_later k r hr)

omit [FloatOps F] in
theorem Rd_expect (c : Dev nD) (k : Kd) (r : ℕ) : (Rd S).expect (cell c k) r = (duts k r).card * amt k := by
  unfold Schedule.expect Schedule.amountOf
  rw [Rd_duties, Finset.sum_congr rfl fun d _ => Rd_amount S c k r d, Finset.sum_const, smul_eq_mul]

/-- A round with the one duty `false`. -/
def single (k : Kd) (r : ℕ) : Prop := duts k r = {false}

theorem single_snd (d : Bool) {r : ℕ} (h : r < 6) : duts (.snd d) r = {false} := if_pos h
theorem single_rcv (d : Bool) {r : ℕ} (h : r < 6) : duts (.rcv d) r = {false} := if_pos h
theorem single_crd (d : Bool) {r : ℕ} (h : r < 5) : duts (.crd d) r = {false} := if_pos h

omit [FloatOps F] in
theorem rest_single (c : Dev nD) (k : Kd) (r : ℕ) (h : duts k r = {false}) :
    bigSep ((Rd S).duties (cell c k) r \ ∅) (fun b => (Rd S).payload (cell c k) r b) = pay S c k r false := by
  rw [Finset.sdiff_empty, Rd_duties, h, bigSep_singleton, Rd_payload]

omit [FloatOps F] in
theorem rest_bar (c : Dev nD) :
    bigSep ((Rd S).duties (cell c .bar) 0 \ ∅) (fun b => (Rd S).payload (cell c .bar) 0 b) = iprop(permit c false 0 ∗ permit c true 0) := by
  rw [Finset.sdiff_empty, Rd_duties, show duts .bar 0 = Finset.univ from rfl,
    bigSep_univ_eq_bigSepL [false, true] (by decide) (by decide), bigSepL_cons_cons, bigSepL_singleton, Rd_payload, Rd_payload]
  rfl

end Sched

/-! ## What each device owes, in the order in which it pays -/

/-- The payments of device `c` in program order: the cell's device and kind, and the round. -/
def payAt (c : Dev nD) : ℕ → Dev nD × Kd × ℕ
  | 0 => (prv false c, .bar, 0)
  | 1 => (prv true c, .bar, 0)
  | 2 => (nxt false c, .rcv false, 0)
  | 3 => (nxt true c, .rcv true, 0)
  | 4 => (prv false c, .crd false, 0)
  | 5 => (nxt false c, .rcv false, 1)
  | 6 => (prv true c, .crd true, 0)
  | 7 => (nxt true c, .rcv true, 1)
  | 8 => (prv false c, .crd false, 1)
  | 9 => (nxt false c, .rcv false, 2)
  | 10 => (prv true c, .crd true, 1)
  | 11 => (nxt true c, .rcv true, 2)
  | 12 => (prv false c, .crd false, 2)
  | 13 => (prv true c, .crd true, 2)
  | 14 => (nxt false c, .rcv false, 3)
  | 15 => (nxt true c, .rcv true, 3)
  | 16 => (prv false c, .crd false, 3)
  | 17 => (prv true c, .crd true, 3)
  | 18 => (nxt false c, .rcv false, 4)
  | 19 => (nxt true c, .rcv true, 4)
  | 20 => (prv false c, .crd false, 4)
  | 21 => (prv true c, .crd true, 4)
  | 22 => (nxt false c, .rcv false, 5)
  | _ => (nxt true c, .rcv true, 5)

/-- The place of a round's payment in that order: its level. -/
def place (k : Kd) (r : ℕ) : ℕ :=
  match k with
  | .bar => 1
  | .snd _ => 0
  | .rcv d => (if r = 0 then 2 + d.toNat else if r = 1 then 5 + 2 * d.toNat else if r = 2 then 9 + 2 * d.toNat
      else if r = 3 then 14 + d.toNat else if r = 4 then 18 + d.toNat else 22 + d.toNat)
  | .crd d => (if r = 0 then 4 + 2 * d.toNat else if r = 1 then 8 + 2 * d.toNat else if r = 2 then 12 + d.toNat
      else if r = 3 then 16 + d.toNat else 20 + d.toNat)

theorem place_payAt (c : Dev nD) (p : ℕ) (hp : p < 24) : p ≤ place (payAt c p).2.1 (payAt c p).2.2 ∧ 1 ≤ place (payAt c p).2.1 (payAt c p).2.2
    ∧ (payAt c p).2.2 < 6 := by
  have h : ∀ (p : Fin 24) (c : Dev nD), p.val ≤ place (payAt c p.val).2.1 (payAt c p.val).2.2
      ∧ 1 ≤ place (payAt c p.val).2.1 (payAt c p.val).2.2 ∧ (payAt c p.val).2.2 < 6 := by decide
  exact h ⟨p, hp⟩ c

/-- One payment as a tally. -/
def payT (x : Dev nD × Kd × ℕ) : CellTallies nD τ sig ℕ := tallyAt (cell x.1 x.2.1) x.2.2 (amt x.2.1)

/-- What is still owed when `k` payments remain. -/
def owe (c : Dev nD) : ℕ → CellTallies nD τ sig ℕ
  | 0 => 0
  | k + 1 => owe c k + payT (payAt c (23 - k))

theorem owe_pos {c : Dev nD} {k : ℕ} (hk : k ≤ 24) {g : GSem nD τ sig} {u : ℕ} (h : 0 < owe c k g u) :
    ∃ p, 24 - k ≤ p ∧ p < 24 ∧ g = cell (payAt c p).1 (payAt c p).2.1 ∧ u = (payAt c p).2.2 := by
  induction k with
  | zero => exact absurd h (Nat.lt_irrefl 0)
  | succ k ih =>
    unfold owe at h
    rw [Pi.add_apply, Finsupp.add_apply] at h
    by_cases h' : 0 < owe c k g u
    · obtain ⟨p, h1, h2, h3⟩ := ih (by omega) h'
      exact ⟨p, by omega, h2, h3⟩
    · have h0 : owe c k g u = 0 := Nat.eq_zero_of_not_pos h'
      rw [h0, Nat.zero_add] at h
      unfold payT at h
      rw [tallyAt_apply] at h
      by_cases hc : g = cell (payAt c (23 - k)).1 (payAt c (23 - k)).2.1 ∧ u = (payAt c (23 - k)).2.2
      · exact ⟨23 - k, by omega, by omega, hc.1, hc.2⟩
      · rw [if_neg hc] at h; exact absurd h (Nat.lt_irrefl 0)

/-- The indices a cell's credit may carry, and their levels. -/
def L (g : GSem nD τ sig) : Finset ℕ := if g.1.2 = .tc then Finset.range 6 else ∅
def lv (g : GSem nD τ sig) (r : ℕ) : ℕ := match kindOf g.2 with | some k => place k r | none => 0

theorem L_of_ne (g : GSem nD τ sig) (h : g.1.2 ≠ .tc) : L g = ∅ := if_neg h
theorem L_tc (c : Dev nD) (sm : SemLoc sig) : L ((c : Thread nD τ), sm) = Finset.range 6 := if_pos rfl
theorem lv_cell (c : Dev nD) (k : Kd) (r : ℕ) : lv (cell c k) r = place k r := by unfold lv; rw [kindOf_semOf]

omit [FloatOps F] in
/-- A wait below everything still owed is allowed. -/
theorem mayWait (c : Dev nD) (sm : SemLoc sig) (r k : ℕ) (hr : r < 6) (hk : k ≤ 24)
    (hl : lv ((c : Thread nD τ), sm) r < max 1 (24 - k)) :
    (levAts L lv : sProp 𝕄) ⊢ MayWait (c : Thread nD τ) sm r (owe c k) :=
  MayOwe.of_cut (L := L) (lev := lv) (lv ((c : Thread nD τ), sm) r)
    (fun p hp => by rw [Finset.mem_singleton.mp hp, L_tc]; exact Finset.mem_range.mpr hr)
    (fun g u hg => by
      obtain ⟨p, h1, h2, rfl, rfl⟩ := owe_pos hk hg
      rw [L_tc]; exact Finset.mem_range.mpr (place_payAt c p h2).2.2)
    (fun p hp => by rw [Finset.mem_singleton.mp hp])
    (fun g u hg => by
      obtain ⟨p, h1, h2, rfl, rfl⟩ := owe_pos hk hg
      rw [lv_cell]
      have := place_payAt c p h2
      omega)

end Cert.KernelIdeal.Hand

end
-- ==== Proof.Values.lean ====
/-
What the kernel computes, as functions of the devices' inputs: the strips of a chunk, what each send carries, and
the result array. No separation logic here.
-/
module

public import proofs.«01_k».proof.Proof.Proto
public import proofs.«01_k».proof.Proof.Gen.KernelIdeal.Skeleton

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- What the devices are called with. -/
structure Inp (F : FTy → Type) where
  x : Dev nD → S4096x1024.Idx → Elt F .f32
  w : Dev nD → S1024x8192.Idx → Elt F .f32
  sx : Dev nD → S1.Idx → Elt F .f32
  sw : Dev nD → S1.Idx → Elt F .f32

/-! ## Strips -/

/-- The place inside its strip of an index of an exchanged buffer. -/
def inStrip (i : S1024x4096.Idx) : S256x4096.Idx
  | ⟨0, _⟩ => ⟨(i 0).val % 256, Nat.mod_lt _ (by decide)⟩
  | ⟨1, _⟩ => ⟨(i 1).val, (i 1).isLt⟩

/-- The strip of an index. -/
def stripOf (i : S1024x4096.Idx) : Fin 4 := ⟨(i 0).val / 256, Nat.div_lt_of_lt_mul (i 0).isLt⟩

/-- The index of an exchanged buffer at a place of a strip. -/
def atStrip (k : Fin 4) (x : S256x4096.Idx) : S1024x4096.Idx
  | ⟨0, _⟩ => ⟨256 * k.val + (x 0).val, by have h : (x 0).val < 256 := (x 0).isLt; have := k.isLt; show _ < 1024; omega⟩
  | ⟨1, _⟩ => ⟨(x 1).val, (x 1).isLt⟩

theorem strip_inb (k : Fin 4) : ∀ a, (![256 * k.val, 0] : Fin 2 → ℕ) a + S256x4096.size a ≤ S1024x4096.size a := by
  revert k; decide

/-- Strip `k` of a buffer's contents. -/
def rdS (k : Fin 4) (f : Cont F) : Vec F S256x4096 .bf16 :=
  (Memref.whole cc0_scratch0).view.readAt (Elt F)
    (Rect.unit (s := S1024x4096) ![256 * k.val, 0] S256x4096.size (strip_inb k)).toLoadRect f

/-- Four strips, assembled. -/
def asm (v : Fin 4 → Vec F S256x4096 .bf16) : Cont F := fun i => v (stripOf i) (inStrip i)

theorem stripOf_atStrip (k : Fin 4) (x : S256x4096.Idx) : stripOf (atStrip k x) = k := by
  have h : (x 0).val < 256 := (x 0).isLt
  apply Fin.ext
  show (256 * k.val + (x 0).val) / 256 = k.val
  omega

theorem inStrip_atStrip (k : Fin 4) (x : S256x4096.Idx) : inStrip (atStrip k x) = x := by
  have h : (x 0).val < 256 := (x 0).isLt
  funext a
  rcases a with ⟨_ | _ | a, ha⟩
  · apply Fin.ext
    show (256 * k.val + (x 0).val) % 256 = (x 0).val
    omega
  · rfl
  · exact absurd (show a + 2 < 2 from ha) (by omega)

theorem atStrip_inStrip (i : S1024x4096.Idx) : atStrip (stripOf i) (inStrip i) = i := by
  funext a
  rcases a with ⟨_ | _ | a, ha⟩
  · apply Fin.ext
    show 256 * ((i 0).val / 256) + (i 0).val % 256 = (i 0).val
    omega
  · rfl
  · exact absurd (show a + 2 < 2 from ha) (by omega)

theorem strip_emb (k : Fin 4) (off : Fin 2 → ℕ) (hoff : off = ![256 * k.val, 0])
    (inb : ∀ a, off a + S256x4096.size a ≤ S1024x4096.size a) (x : S256x4096.Idx) :
    (Rect.unit (s := S1024x4096) off S256x4096.size inb).emb x = atStrip k x := by
  subst hoff
  funext a
  rcases a with ⟨_ | _ | a, ha⟩
  · apply Fin.ext
    show 256 * k.val + 1 * (x 0).val = 256 * k.val + (x 0).val
    omega
  · apply Fin.ext
    show 0 + 1 * (x 1).val = (x 1).val
    omega
  · exact absurd (show a + 2 < 2 from ha) (by omega)

theorem rdS_apply (k : Fin 4) (f : Cont F) (x : S256x4096.Idx) : rdS k f x = f (atStrip k x) :=
  congrArg f (strip_emb k _ rfl (strip_inb k) x)

theorem rdS_asm (v : Fin 4 → Vec F S256x4096 .bf16) (k : Fin 4) : rdS k (asm v) = v k := by
  funext x
  rw [rdS_apply]
  show v (stripOf (atStrip k x)) (inStrip (atStrip k x)) = v k x
  rw [stripOf_atStrip, inStrip_atStrip]

/-! ## What is loaded -/

section
variable (I : Inp F)

/-- The rows of `x` the strip `k` of the chunk `r` places on is computed from. -/
def xStrip (c : Dev nD) (r k : Fin 4) : Vec F S256x1024 .f32 :=
  (Memref.whole cc0_stg0_0).view.readAt (Elt F)
    (Rect.unit (s := S4096x1024) (k0_off1 c (BitVec.ofNat 32 r.val) (BitVec.ofNat 32 (256 * k.val))) S256x1024.size
      (Gen.k0_off1_inb c r k)).toLoadRect (I.x c)

/-- The half of the columns of `w` a direction computes with. -/
def wHalf (c : Dev nD) : Bool → Vec F S1024x4096 .f32
  | false => (Memref.whole cc0_stg1_0).view.readAt (Elt F)
      (Rect.unit (s := S1024x8192) ![0, 0] S1024x4096.size inb_S1024x8192_S1024x4096_0_0).toLoadRect (I.w c)
  | true => (Memref.whole cc0_stg1_0).view.readAt (Elt F)
      (Rect.unit (s := S1024x8192) ![0, 4096] S1024x4096.size inb_S1024x8192_S1024x4096_0_4096).toLoadRect (I.w c)

/-- The product of the two scales. -/
def scl (c : Dev nD) : F .f32 :=
  k0_pay2 (((Memref.whole cc0_stg2_0).access (Rect.unit (s := S1) ![0] S1.size inb_S1_S1_0)).read (Elt F) (I.sx c)
      (Shape.Idx.first (numel1_S1.symm ▸ Nat.one_pos)))
    (((Memref.whole cc0_stg3_0).access (Rect.unit (s := S1) ![0] S1.size inb_S1_S1_0)).read (Elt F) (I.sw c)
      (Shape.Idx.first (numel1_S1.symm ▸ Nat.one_pos)))

/-- How many places on the chunk of a direction's step `s` lies. -/
def place4 : Bool → Fin 4 → Fin 4
  | false, 0 => 0
  | false, 1 => 3
  | false, 2 => 2
  | false, 3 => 1
  | true, s => s

/-! ## What is sent -/

/-- What the `j`-th send of direction `d` from device `c` carries: partial sums first, then finished chunks. -/
def snt (d : Bool) : ℕ → Dev nD → Cont F
  | 0, c => asm fun k => k0_pay5 (xStrip I c (place4 d 0) k) (wHalf I c d)
  | 1, c => asm fun k => k0_pay16 (xStrip I c (place4 d 1) k) (wHalf I c d) (rdS k (snt d 0 (prv d c)))
  | 2, c => asm fun k => k0_pay16 (xStrip I c (place4 d 2) k) (wHalf I c d) (rdS k (snt d 1 (prv d c)))
  | 3, c => asm fun k => k0_pay38 (scl I c) (xStrip I c (place4 d 3) k) (wHalf I c d) (rdS k (snt d 2 (prv d c)))
  | j + 4, c => snt d (j + 3) (prv d c)

/-- A strip of what is computed for the `j`-th send. -/
def stv (d : Bool) (c : Dev nD) (k : Fin 4) : ℕ → Vec F S256x4096 .bf16
  | 0 => k0_pay5 (xStrip I c (place4 d 0) k) (wHalf I c d)
  | 1 => k0_pay16 (xStrip I c (place4 d 1) k) (wHalf I c d) (rdS k (snt I d 0 (prv d c)))
  | 2 => k0_pay16 (xStrip I c (place4 d 2) k) (wHalf I c d) (rdS k (snt I d 1 (prv d c)))
  | _ => k0_pay38 (scl I c) (xStrip I c (place4 d 3) k) (wHalf I c d) (rdS k (snt I d 2 (prv d c)))

theorem snt_asm (d : Bool) (c : Dev nD) (j : ℕ) (hj : j < 4) : snt I d j c = asm fun k => stv I d c k j := by
  match j, hj with
  | 0, _ => rfl
  | 1, _ => rfl
  | 2, _ => rfl
  | 3, _ => rfl

theorem snt_fwd (d : Bool) (c : Dev nD) (j : ℕ) (hj : 3 ≤ j) : snt I d (j + 1) c = snt I d j (prv d c) := by
  obtain ⟨j, rfl⟩ := Nat.exists_eq_add_of_le' hj
  rfl

theorem snt_atStrip (d : Bool) (c : Dev nD) (j : ℕ) (hj : j < 4) (k : Fin 4) (x : S256x4096.Idx) :
    snt I d j c (atStrip k x) = stv I d c k j x := by
  rw [snt_asm I d c j hj]
  show stv I d c (stripOf (atStrip k x)) j (inStrip (atStrip k x)) = _
  rw [stripOf_atStrip, inStrip_atStrip]

/-! ## The result array -/

/-- How many places on the `t`-th chunk a device stores lies: its own, then the received ones. -/
def place4o : Bool → Fin 4 → Fin 4
  | false, 0 => 1
  | false, 1 => 0
  | false, 2 => 3
  | false, 3 => 2
  | true, 0 => 3
  | true, 1 => 0
  | true, 2 => 1
  | true, 3 => 2

/-- The strip `k` of the `t`-th stored chunk. -/
def ost (d : Bool) (c : Dev nD) (t k : Fin 4) : FVec F S256x4096 .f32 := k0_pay1 (rdS k (snt I d (3 + t.val) c))

/-- The direction, chunk, strip and place of an index of the result. -/
def dirO (i : S4096x8192.Idx) : Bool := decide (4096 ≤ (i 1).val)
def chunkO (i : S4096x8192.Idx) : Dev nD := ⟨(i 0).val / 1024, Nat.div_lt_of_lt_mul (i 0).isLt⟩
def stripO (i : S4096x8192.Idx) : Fin 4 := ⟨(i 0).val % 1024 / 256, by omega⟩
def inO (i : S4096x8192.Idx) : S256x4096.Idx
  | ⟨0, _⟩ => ⟨(i 0).val % 256, Nat.mod_lt _ (by decide)⟩
  | ⟨1, _⟩ => ⟨(i 1).val % 4096, Nat.mod_lt _ (by decide)⟩

/-- The result, the same on every device: each chunk as its finishing device finished it. -/
def outG : S4096x8192.Idx → Elt F .f32 := fun i => ost I (dirO i) (prv (dirO i) (chunkO i)) 0 (stripO i) (inO i)

/-- The device that finished the `t`-th chunk a device stores. -/
def finisher (d : Bool) (c : Dev nD) : ℕ → Dev nD
  | 0 => c
  | t + 1 => finisher d (prv d c) t

theorem snt_finisher (d : Bool) (c : Dev nD) (t : ℕ) : snt I d (3 + t) c = snt I d 3 (finisher d c t) := by
  induction t generalizing c with
  | zero => rfl
  | succ t ih => exact (snt_fwd I d c (3 + t) (by omega)).trans (ih (prv d c))

/-- The chunk `r` places on. -/
def onDev (c : Dev nD) (r : Fin 4) : Dev nD := ⟨(c.val + r.val) % 4, Nat.mod_lt _ (by decide)⟩

theorem prv_onDev (d : Bool) (c : Dev nD) (t : Fin 4) : prv d (onDev c (place4o d t)) = finisher d c t.val := by
  revert d c t; decide

theorem ost_finisher (d : Bool) (c : Dev nD) (t k : Fin 4) : ost I d c t k = ost I d (prv d (onDev c (place4o d t))) 0 k := by
  unfold ost
  rw [snt_finisher, prv_onDev]
  rfl

/-- The index of the result at a place of a strip of a chunk. -/
def atO (d : Bool) (b : Dev nD) (k : Fin 4) (x : S256x4096.Idx) : S4096x8192.Idx
  | ⟨0, _⟩ => ⟨1024 * b.val + 256 * k.val + (x 0).val, by
      have h : (x 0).val < 256 := (x 0).isLt; have := k.isLt; have hb : b.val < 4 := b.isLt; show _ < 4096; omega⟩
  | ⟨1, _⟩ => ⟨4096 * d.toNat + (x 1).val, by
      have h : (x 1).val < 4096 := (x 1).isLt; have := Bool.toNat_le d; show _ < 8192; omega⟩

theorem outG_atO (d : Bool) (c : Dev nD) (t k : Fin 4) (x : S256x4096.Idx) :
    outG I (atO d (onDev c (place4o d t)) k x) = ost I d c t k x := by
  have h0 : (x 0).val < 256 := (x 0).isLt
  have h1 : (x 1).val < 4096 := (x 1).isLt
  generalize hb : onDev c (place4o d t) = b
  have hd : dirO (atO d b k x) = d := by
    unfold dirO
    show decide (4096 ≤ 4096 * d.toNat + (x 1).val) = d
    cases d
    · exact decide_eq_false (by simp only [Bool.toNat_false]; omega)
    · exact decide_eq_true (by simp only [Bool.toNat_true]; omega)
  have hc : chunkO (atO d b k x) = b := by
    apply Fin.ext
    show (1024 * b.val + 256 * k.val + (x 0).val) / 1024 = b.val
    have := k.isLt; omega
  have hk : stripO (atO d b k x) = k := by
    apply Fin.ext
    show (1024 * b.val + 256 * k.val + (x 0).val) % 1024 / 256 = k.val
    have := k.isLt; omega
  have hx : inO (atO d b k x) = x := by
    funext a
    rcases a with ⟨_ | _ | a, ha⟩
    · apply Fin.ext
      show (1024 * b.val + 256 * k.val + (x 0).val) % 256 = (x 0).val
      omega
    · apply Fin.ext
      show (4096 * d.toNat + (x 1).val) % 4096 = (x 1).val
      omega
    · exact absurd (show a + 2 < 2 from ha) (by omega)
  unfold outG
  rw [hd, hc, hk, hx, ost_finisher I d c t k, hb]

theorem atO_in (i : S4096x8192.Idx) : atO (dirO i) (chunkO i) (stripO i) (inO i) = i := by
  have h0 : (i 0).val < 4096 := (i 0).isLt
  have h1 : (i 1).val < 8192 := (i 1).isLt
  funext a
  rcases a with ⟨_ | _ | a, ha⟩
  · apply Fin.ext
    show 1024 * ((i 0).val / 1024) + 256 * ((i 0).val % 1024 / 256) + (i 0).val % 256 = (i 0).val
    omega
  · apply Fin.ext
    show 4096 * (decide (4096 ≤ (i 1).val)).toNat + (i 1).val % 4096 = (i 1).val
    by_cases h : 4096 ≤ (i 1).val
    · rw [decide_eq_true h, Bool.toNat_true]; omega
    · rw [decide_eq_false h, Bool.toNat_false]; omega
  · exact absurd (show a + 2 < 2 from ha) (by omega)

theorem chunk_stored (d : Bool) (c b : Dev nD) : ∃ t : Fin 4, onDev c (place4o d t) = b := by revert d c b; decide

/-! ## Agreement, by strips -/

/-- Contents agree with `G` on the first `n` strips. -/
def Agr (G f : Cont F) (n : ℕ) : Prop := ∀ i : S1024x4096.Idx, (i 0).val < 256 * n → f i = G i

omit [FloatOps F] in
theorem Agr_zero (G f : Cont F) : Agr G f 0 := fun i h => absurd h (by omega)

omit [FloatOps F] in
theorem Agr_four {G f : Cont F} (h : Agr G f 4) : f = G := funext fun i => h i (i 0).isLt

/-- The result agrees with `G` on what device `c` has stored: `n d` strips of direction `d`, chunk after chunk. -/
def AgrO (c : Dev nD) (G f : S4096x8192.Idx → Elt F .f32) (n : Bool → ℕ) : Prop :=
  ∀ d t k x, 4 * t.val + k.val < n d → f (atO d (onDev c (place4o d t)) k x) = G (atO d (onDev c (place4o d t)) k x)

omit [FloatOps F] in
theorem AgrO_zero (c : Dev nD) (G f : S4096x8192.Idx → Elt F .f32) : AgrO c G f (fun _ => 0) :=
  fun d t k x h => absurd h (Nat.not_lt_zero _)

omit [FloatOps F] in
theorem AgrO_all {c : Dev nD} {G f : S4096x8192.Idx → Elt F .f32} {n : Bool → ℕ} (hn : ∀ d, n d = 16) (h : AgrO c G f n) : f = G :=
  funext fun i => by
    obtain ⟨t, ht⟩ := chunk_stored (dirO i) c (chunkO i)
    have := h (dirO i) t (stripO i) (inO i) (by rw [hn]; have := t.isLt; have := (stripO i).isLt; omega)
    rwa [ht, atO_in] at this

theorem atO_inj {d d' : Bool} {c : Dev nD} {t t' k k' : Fin 4} {x x' : S256x4096.Idx}
    (h : atO d (onDev c (place4o d t)) k x = atO d' (onDev c (place4o d' t')) k' x') : d = d' ∧ t = t' ∧ k = k' ∧ x = x' := by
  have h0 : (x 0).val < 256 := (x 0).isLt
  have h0' : (x' 0).val < 256 := (x' 0).isLt
  have h1 : (x 1).val < 4096 := (x 1).isLt
  have h1' : (x' 1).val < 4096 := (x' 1).isLt
  have e1 : 4096 * d.toNat + (x 1).val = 4096 * d'.toNat + (x' 1).val := congrArg Fin.val (congrFun h 1)
  have e0 : 1024 * (onDev c (place4o d t)).val + 256 * k.val + (x 0).val
      = 1024 * (onDev c (place4o d' t')).val + 256 * k'.val + (x' 0).val := congrArg Fin.val (congrFun h 0)
  have hd : d = d' := by cases d <;> cases d' <;> simp only [Bool.toNat_false, Bool.toNat_true] at e1 <;> first | rfl | omega
  subst hd
  have hk := k.isLt
  have hk' := k'.isLt
  have hb : onDev c (place4o d t) = onDev c (place4o d t') := Fin.ext (by omega)
  have ht : t = t' := by
    have : ∀ (d : Bool) (c : Dev nD) (t t' : Fin 4), onDev c (place4o d t) = onDev c (place4o d t') → t = t' := by decide
    exact this d c t t' hb
  subst ht
  refine ⟨rfl, rfl, Fin.ext (by omega), ?_⟩
  funext a
  rcases a with ⟨_ | _ | a, ha⟩
  · exact Fin.ext (by show (x 0).val = (x' 0).val; omega)
  · exact Fin.ext (by show (x 1).val = (x' 1).val; omega)
  · exact absurd (show a + 2 < 2 from ha) (by omega)

end

end Cert.KernelIdeal.Hand

end
-- ==== Proof.State.lean ====
/-
The state of one device between two steps of the kernel: where each direction's exchange stands, what each buffer
holds, how much of the result is stored, and what is still owed.
-/
module

public import proofs.«01_k».proof.Proof.Values
public import Idealize.ShloMosaic.Lib.Transfers

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UAll ℕ

/-- What an exchanged buffer of a device is, from the device's point of view. -/
inductive Bf
  /-- lent out, or in flight -/
  | none
  /-- `part j n`: the first `n` strips of what the `j`-th send carries, the rest anything -/
  | part (j n : ℕ)
  /-- all of what the `j`-th send carries -/
  | full (j : ℕ)
  /-- half a share of that -/
  | half (j : ℕ)
  /-- what the previous device's `j`-th send carried -/
  | got (j : ℕ)

/-- What the conversion buffer of a direction is. -/
inductive Cv
  | any
  /-- the strip `k` of the `t`-th chunk stored -/
  | has (t k : Fin 4)
  /-- being copied out -/
  | fly

/-- Where one direction stands: sends started, send waits, receive waits, credit waits, credits paid; the two
    buffers; whether the permit for the next send is held; the conversion buffer. -/
structure DS where
  ns : ℕ
  nw : ℕ
  nr : ℕ
  nc : ℕ
  np : ℕ
  a : Bf
  b : Bf
  pm : Bool
  cv : Cv

/-- One of the two buffers. -/
def DS.get (s : DS) : Bool → Bf
  | false => s.a
  | true => s.b
def DS.set (s : DS) : Bool → Bf → DS
  | false, x => ⟨s.ns, s.nw, s.nr, s.nc, s.np, x, s.b, s.pm, s.cv⟩
  | true, x => ⟨s.ns, s.nw, s.nr, s.nc, s.np, s.a, x, s.pm, s.cv⟩
def DS.setCv (s : DS) (x : Cv) : DS := ⟨s.ns, s.nw, s.nr, s.nc, s.np, s.a, s.b, s.pm, x⟩

/-- One direction of two. -/
def sel : Bool → DS × DS → DS
  | false, s => s.1
  | true, s => s.2
def upd : Bool → DS × DS → DS → DS × DS
  | false, s, x => (x, s.2)
  | true, s, x => (s.1, x)

/-- How far the result is stored: at rest, or with a direction's strip on its way. -/
inductive Ou
  | rest (n₀ n₁ : ℕ)
  | fly (d : Bool) (n₀ n₁ : ℕ)

/-- The strips stored of each direction. -/
def cnt (n₀ n₁ : ℕ) : Bool → ℕ
  | false => n₀
  | true => n₁

/-! ## Numbered collections -/

omit [FloatOps F] in
/-- One of a family, the rest let go. -/
theorem pick {J : Type} [DecidableEq J] {s : Finset J} {a : J} (ha : a ∈ s) (Φ : J → sProp 𝕄) : bigSep s Φ ⊢ Φ a :=
  (Entails.of_eq (BI.bigSep_erase ha)).trans sep_elim_left

/-- `m` things, numbered from `n` on. -/
def frm (f : ℕ → sProp 𝕄) : ℕ → ℕ → sProp 𝕄
  | 0, _ => iprop(emp)
  | m + 1, n => iprop(f n ∗ frm f m (n + 1))

omit [FloatOps F] in
theorem frm_step (f : ℕ → sProp 𝕄) {hi n : ℕ} (h : n < hi) : frm f (hi - n) n = iprop(f n ∗ frm f (hi - (n + 1)) (n + 1)) := by
  rw [show hi - n = (hi - (n + 1)) + 1 by omega]; rfl

omit [FloatOps F] in
theorem frm_none (f : ℕ → sProp 𝕄) (n : ℕ) : frm f (n - n) n = iprop(emp) := by rw [Nat.sub_self]; rfl

omit [FloatOps F] in
theorem frm_one (f : ℕ → sProp 𝕄) (n : ℕ) : frm f (n + 1 - n) n = iprop(f n ∗ emp) := by
  rw [show n + 1 - n = 0 + 1 by omega]; rfl

/-! ## The parts of the state -/

/-- The conversion buffers. -/
abbrev cbuf : Bool → Memref sig .tc .vmem S256x4096 .f32
  | false => Memref.whole cc0_scratch4
  | true => Memref.whole cc0_scratch5

def cpts (c : Dev nD) (d : Bool) (f : S256x4096.Idx → Elt F .f32) : sProp 𝕄 :=
  match d with
  | false => (Memref.whole cc0_scratch4).view.loc (c : Thread nD τ) ↦[(Memref.whole cc0_scratch4).view.set]{fullShare} f
  | true => (Memref.whole cc0_scratch5).view.loc (c : Thread nD τ) ↦[(Memref.whole cc0_scratch5).view.set]{fullShare} f

/-- The result array. -/
def opts (c : Dev nD) (f : S4096x8192.Idx → Elt F .f32) : sProp 𝕄 :=
  (Memref.whole main_v1).view.loc (c : Thread nD τ) ↦[Finset.univ]{fullShare} f

/-- The semaphores of the copies out. -/
def osem : Bool → DmaSem sig
  | false => (8 : DmaSem sig)
  | true => (9 : DmaSem sig)

section
variable (I : Inp F)

/-- What the sends carry, as the schedule reads it. -/
def SS : Sent F := fun d c j => snt I d j c

/-- A device's hold on one of its exchanged buffers. -/
def bown (c : Dev nD) (d b : Bool) : Bf → sProp 𝕄
  | .none => iprop(emp)
  | .part j n => iprop(∃ f, ⌜Agr (snt I d j c) f n⌝ ∗ pts c d b fullShare f)
  | .full j => pts c d b fullShare (snt I d j c)
  | .half j => pts c d b fullShare.right (snt I d j c)
  | .got j => pts c d b fullShare (snt I d j (prv d c))

/-- Its hold on a conversion buffer and on the semaphore of the copies out of it. -/
def cown (c : Dev nD) (d : Bool) : Cv → sProp 𝕄
  | .any => iprop((∃ f, cpts c d f) ∗ semVal ((c : Thread nD τ), SemLoc.dma (osem d)) 0)
  | .has t k => iprop(cpts c d (ost I d c t k) ∗ semVal ((c : Thread nD τ), SemLoc.dma (osem d)) 0)
  | .fly => iprop(emp)

/-- Its positions in its own cells of a direction. -/
def Pos (c : Dev nD) (d : Bool) (nw nr nc : ℕ) : sProp 𝕄 :=
  iprop((atPos ERing (cell c (.snd d)) nw ∅ 0 ∗ reached ERing (cell c (.snd d)) nw)
    ∗ (atPos ERing (cell c (.rcv d)) nr ∅ 0 ∗ reached ERing (cell c (.rcv d)) nr)
    ∗ (atPos ERing (cell c (.crd d)) nc ∅ 0 ∗ reached ERing (cell c (.crd d)) nc))

/-- The tokens and credits of one direction not yet used. -/
def sndT (c : Dev nD) (d : Bool) (j : ℕ) : sProp 𝕄 :=
  iprop(dutyTok ERing (cell c (.snd d)) j false ∗ dutyTok ERing (cell (nxt d c) (.rcv d)) j false)
def crdT (c : Dev nD) (d : Bool) (j : ℕ) : sProp 𝕄 := dutyTok ERing (cell (prv d c) (.crd d)) j false
def sndC (c : Dev nD) (d : Bool) (j : ℕ) : sProp 𝕄 := cred (tallyAt (cell c (.snd d)) j N)
def rcvC (c : Dev nD) (d : Bool) (j : ℕ) : sProp 𝕄 := cred (tallyAt (cell c (.rcv d)) j N)
def crdC (c : Dev nD) (d : Bool) (j : ℕ) : sProp 𝕄 := cred (tallyAt (cell c (.crd d)) j 1)

/-- Everything of one direction. -/
def DSt (c : Dev nD) (d : Bool) (s : DS) : sProp 𝕄 :=
  iprop(Pos c d s.nw s.nr s.nc
    ∗ frm (sndT c d) (6 - s.ns) s.ns ∗ frm (crdT c d) (5 - s.np) s.np
    ∗ frm (sndC c d) (s.ns - s.nw) s.nw ∗ frm (rcvC c d) (6 - s.nr) s.nr ∗ frm (crdC c d) (5 - s.nc) s.nc
    ∗ (if s.np < s.nr then reached ERing (cell (prv d c) (.crd d)) s.np else iprop(emp))
    ∗ (if s.pm = true then permit (F := F) c d s.ns else iprop(emp))
    ∗ bown I c d false s.a ∗ bown I c d true s.b ∗ cown I c d s.cv)

/-- What is owed with `n` payments to go. -/
def OW (c : Dev nD) (n : ℕ) : sProp 𝕄 := iprop(∃ W, owes (c : Thread nD τ) (owe c n) W)

/-- The cells' invariants, the barrier cells' first rounds, and the levels: all of it for keeps. -/
def recs (K : Dev nD × Kd → ℕ) : sProp 𝕄 :=
  iprop((bigSep Finset.univ fun p : Dev nD × Kd => cellInv ERing (Rd (SS I)) (K p) (cell p.1 p.2))
    ∗ (bigSep Finset.univ fun y : Dev nD => reached ERing (cell y .bar) 0) ∗ levAts L lv)

/-- The staged inputs. -/
def Xin (c : Dev nD) : sProp 𝕄 :=
  iprop(((Memref.whole cc0_stg0_0).view.loc (c : Thread nD τ) ↦[Finset.univ]{fullShare} I.x c)
    ∗ ((Memref.whole cc0_stg1_0).view.loc (c : Thread nD τ) ↦[Finset.univ]{fullShare} I.w c)
    ∗ ((Memref.whole cc0_stg2_0).view.loc (c : Thread nD τ) ↦[Finset.univ]{fullShare} I.sx c)
    ∗ ((Memref.whole cc0_stg3_0).view.loc (c : Thread nD τ) ↦[Finset.univ]{fullShare} I.sw c))

/-- The barrier: signals sent, and at last the wait. -/
def BarSt (c : Dev nD) : ℕ → sProp 𝕄
  | 0 => iprop(dutyTok ERing (cell (prv false c) .bar) 0 false ∗ dutyTok ERing (cell (prv true c) .bar) 0 true
      ∗ atPos ERing (cell c .bar) 0 ∅ 0 ∗ cred (tallyAt (cell c .bar) 0 2))
  | 1 => iprop(dutyTok ERing (cell (prv true c) .bar) 0 true
      ∗ atPos ERing (cell c .bar) 0 ∅ 0 ∗ cred (tallyAt (cell c .bar) 0 2))
  | 2 => iprop(atPos ERing (cell c .bar) 0 ∅ 0 ∗ cred (tallyAt (cell c .bar) 0 2))
  | _ => atPos ERing (cell c .bar) 1 ∅ 0

/-- The result: at rest, or with a copy on its way that will have stored one more strip. -/
def OutSt (c : Dev nD) : Ou → sProp 𝕄
  | .rest n₀ n₁ => iprop(∃ f, ⌜AgrO c (outG I) f (cnt n₀ n₁)⌝ ∗ opts c f)
  | .fly d n₀ n₁ => Transfers.Flight ECnt (c : Thread nD τ) (SemLoc.dma (osem d)) 0 (cbuf d).view.dmaCredit
      iprop((∃ f, ⌜AgrO c (outG I) f (cnt n₀ n₁)⌝ ∗ opts c f) ∗ ∃ f, cpts c d f)

/-- The state. -/
def St (K : Dev nD × Kd → ℕ) (c : Dev nD) (n bs : ℕ) (s : DS × DS) (o : Ou) : sProp 𝕄 :=
  iprop(recs I K ∗ OW c n ∗ Xin I c ∗ BarSt c bs ∗ DSt I c false s.1 ∗ DSt I c true s.2 ∗ OutSt I c o)

/-- Running a program on a device. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Taking it apart -/

instance recs_persistent (K : Dev nD × Kd → ℕ) : BI.Persistent (recs I K) := by unfold recs; infer_instance

theorem recs_inv (K : Dev nD × Kd → ℕ) (c : Dev nD) (k : Kd) :
    recs I K ⊢ cellInv ERing (Rd (SS I)) (K (c, k)) (cell c k) := by
  unfold recs
  iintro ⟨H, -⟩
  iapply (pick (Finset.mem_univ (c, k)) (fun p : Dev nD × Kd => cellInv ERing (Rd (SS I)) (K p) (cell p.1 p.2))) $$ H

theorem recs_bar (K : Dev nD × Kd → ℕ) (c : Dev nD) : recs I K ⊢ reached ERing (cell c .bar) 0 := by
  unfold recs
  iintro ⟨-, H, -⟩
  iapply (pick (Finset.mem_univ c) (fun y : Dev nD => reached ERing (cell y .bar) 0)) $$ H

theorem recs_lev (K : Dev nD × Kd → ℕ) : recs I K ⊢ levAts L lv := by
  unfold recs
  iintro ⟨-, -, H⟩
  iexact H

/-- One direction out of the state, and back at another. -/
theorem dir_out (K : Dev nD × Kd → ℕ) (c : Dev nD) (d : Bool) (n n' bs : ℕ) (s : DS × DS) (x : DS) (o o' : Ou) {P R : sProp 𝕄}
    (h : iprop(recs I K ∗ OW c n ∗ DSt I c d (sel d s) ∗ OutSt I c o
        ∗ ((OW c n' ∗ DSt I c d x ∗ OutSt I c o') -∗ R)) ⊢ P)
    (hk : St I K c n' bs (upd d s x) o' ⊢ R) : St I K c n bs s o ⊢ P := by
  cases d
  · unfold St
    iintro ⟨#Hr, Ho, Hx, Hb, Hf, Ht, Hu⟩
    iapply h
    isplitr; · iexact Hr
    isplitl [Ho]; · iexact Ho
    isplitl [Hf]; · iexact Hf
    isplitl [Hu]; · iexact Hu
    iintro ⟨Ho, Hf, Hu⟩
    iapply hk
    unfold St
    isplitr; · iexact Hr
    isplitl [Ho]; · iexact Ho
    isplitl [Hx]; · iexact Hx
    isplitl [Hb]; · iexact Hb
    isplitl [Hf]; · iexact Hf
    isplitl [Ht]; · iexact Ht
    iexact Hu
  · unfold St
    iintro ⟨#Hr, Ho, Hx, Hb, Hf, Ht, Hu⟩
    iapply h
    isplitr; · iexact Hr
    isplitl [Ho]; · iexact Ho
    isplitl [Ht]; · iexact Ht
    isplitl [Hu]; · iexact Hu
    iintro ⟨Ho, Ht, Hu⟩
    iapply hk
    unfold St
    isplitr; · iexact Hr
    isplitl [Ho]; · iexact Ho
    isplitl [Hx]; · iexact Hx
    isplitl [Hb]; · iexact Hb
    isplitl [Hf]; · iexact Hf
    isplitl [Ht]; · iexact Ht
    iexact Hu

theorem upd_sel (d : Bool) (s : DS × DS) : upd d s (sel d s) = s := by cases d <;> rfl

/-- One buffer out of a direction, and back as another. -/
theorem buf_out (c : Dev nD) (d b : Bool) (s : DS) :
    DSt I c d s ⊢ iprop(bown I c d b (s.get b) ∗ ∀ x, bown I c d b x -∗ DSt I c d (s.set b x)) := by
  cases b
  · unfold DSt
    iintro ⟨H1, H2, H3, H4, H5, H6, H7, H8, Ha, Hb, Hc⟩
    isplitl [Ha]; · iexact Ha
    iintro %x Ha
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [Ha]; · iexact Ha
    isplitl [Hb]; · iexact Hb
    iexact Hc
  · unfold DSt
    iintro ⟨H1, H2, H3, H4, H5, H6, H7, H8, Ha, Hb, Hc⟩
    isplitl [Hb]; · iexact Hb
    iintro %x Hb
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [Ha]; · iexact Ha
    isplitl [Hb]; · iexact Hb
    iexact Hc

/-- The conversion buffer out of a direction, and back as another. -/
theorem cv_out (c : Dev nD) (d : Bool) (s : DS) :
    DSt I c d s ⊢ iprop(cown I c d s.cv ∗ ∀ x, cown I c d x -∗ DSt I c d (s.setCv x)) := by
  unfold DSt
  iintro ⟨H1, H2, H3, H4, H5, H6, H7, H8, Ha, Hb, Hc⟩
  isplitl [Hc]; · iexact Hc
  iintro %x Hc
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Ha]; · iexact Ha
  isplitl [Hb]; · iexact Hb
  iexact Hc

end

end Cert.KernelIdeal.Hand

end
-- ==== Proof.Rules.lean ====
/-
The kernel's steps as rules on the state: one rule per kind of effect.
-/
module

public import proofs.«01_k».proof.Proof.State

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UAll ℕ

/-! ## The effects, at the exchange's resources -/

section Raw
variable (c : Dev nD) {α : Type}

theorem wp_load_buf {Q : α → sProp 𝕄} (d b : Bool) (q : PosShare TreeShare) (f : Cont F) {r : LoadRect S1024x4096} {hl : (buf d b).view.LoadsAt r}
    {kk : (r.shape.Idx → Elt F .bf16) → Prog (TpuEff nD τ sig (Elt F) Λ₀ .tc) α} :
    pts c d b q f ⊢ iprop((pts c d b q f -∗ WP c (kk ((Memref.whole cc0_scratch0).view.readAt (Elt F) r f)) Q)
      -∗ WP c (.op (.load (buf d b) r hl) kk) Q) := by
  cases d <;> cases b
  · exact wp_load 𝒱₀ (c : Thread nD τ) none Set.univ (m := Memref.whole cc0_scratch0) (View.setOn_subset_set _ _)
  · exact wp_load 𝒱₀ (c : Thread nD τ) none Set.univ (m := Memref.whole cc0_scratch1) (View.setOn_subset_set _ _)
  · exact wp_load 𝒱₀ (c : Thread nD τ) none Set.univ (m := Memref.whole cc0_scratch2) (View.setOn_subset_set _ _)
  · exact wp_load 𝒱₀ (c : Thread nD τ) none Set.univ (m := Memref.whole cc0_scratch3) (View.setOn_subset_set _ _)

/-- What a store through a rectangle leaves: the stored values inside, the old ones outside. -/
def Wrote (r : Rect S1024x4096) (f : Cont F) (w : r.shape.Idx → Elt F .bf16) (f' : Cont F) : Prop :=
  (∀ x, f' (r.emb x) = w x) ∧ ∀ i, (∀ x, r.emb x ≠ i) → f' i = f i

omit [FloatOps F] in
theorem wrote_of (b : Ref sig .tc) (r : Rect b.ty.shape) (f : b.ty.Contents (Elt F)) (w : r.shape.Idx → Elt F b.ty.elt) :
    (∀ x, ((Memref.whole b).access r).write (Elt F) f w Finset.univ (r.emb x) = w x)
      ∧ ∀ i, (∀ x, r.emb x ≠ i) → ((Memref.whole b).access r).write (Elt F) f w Finset.univ i = f i := by
  constructor
  · intro x
    exact (View.write_emb_of_mem (v := (Memref.whole b).access r) f w (Finset.mem_univ x)).trans (cast_eq _ _)
  · intro i hi
    refine View.write_of_not_mem (v := (Memref.whole b).access r) f w Finset.univ fun hm => ?_
    obtain ⟨x, -, hx⟩ := Finset.mem_map.mp hm
    exact hi x hx

omit [FloatOps F] in
theorem store_post {P R : sProp 𝕄} {d b : Bool} {f f₀ : Cont F} {r : Rect S1024x4096} {w : r.shape.Idx → Elt F .bf16} (hw : Wrote r f w f₀)
    (h : pts c d b fullShare f ⊢ iprop((pts c d b fullShare f₀ -∗ R) -∗ P)) :
    pts c d b fullShare f ⊢ iprop((∀ f', ⌜Wrote r f w f'⌝ -∗ pts c d b fullShare f' -∗ R) -∗ P) := by
  iintro H Hk
  iapply h $$ H
  iintro H
  iapply Hk $$ %f₀ [] H
  ipureintro
  exact hw

theorem wp_store_buf {Q : α → sProp 𝕄} (d b : Bool) (f : Cont F) {r : Rect S1024x4096} {w : r.shape.Idx → Elt F .bf16}
    {hx : ((buf d b).access r).Stores Finset.univ} {hm : (Finset.univ : Finset r.shape.Idx) = Finset.univ ∨ ∀ a, r.stride a = 1}
    {kk : PUnit → Prog (TpuEff nD τ sig (Elt F) Λ₀ .tc) α} :
    pts c d b fullShare f ⊢ iprop((∀ f', ⌜Wrote r f w f'⌝ -∗ pts c d b fullShare f' -∗ WP c (kk ⟨⟩) Q)
      -∗ WP c (.op (.store (buf d b) r w Finset.univ hx hm) kk) Q) := by
  cases d <;> cases b
  · exact store_post c (wrote_of cc0_scratch0 r f w)
      (wp_store 𝒱₀ (c : Thread nD τ) none Set.univ (Γ := []) (m := Memref.whole cc0_scratch0) (r := r) (w := w) (Mk := Finset.univ) (S := (Memref.whole cc0_scratch0).view.set) (f := f)
        (by rw [View.set_whole]; exact Finset.subset_univ _))
  · exact store_post c (wrote_of cc0_scratch1 r f w)
      (wp_store 𝒱₀ (c : Thread nD τ) none Set.univ (Γ := []) (m := Memref.whole cc0_scratch1) (r := r) (w := w) (Mk := Finset.univ) (S := (Memref.whole cc0_scratch1).view.set) (f := f)
        (by rw [View.set_whole]; exact Finset.subset_univ _))
  · exact store_post c (wrote_of cc0_scratch2 r f w)
      (wp_store 𝒱₀ (c : Thread nD τ) none Set.univ (Γ := []) (m := Memref.whole cc0_scratch2) (r := r) (w := w) (Mk := Finset.univ) (S := (Memref.whole cc0_scratch2).view.set) (f := f)
        (by rw [View.set_whole]; exact Finset.subset_univ _))
  · exact store_post c (wrote_of cc0_scratch3 r f w)
      (wp_store 𝒱₀ (c : Thread nD τ) none Set.univ (Γ := []) (m := Memref.whole cc0_scratch3) (r := r) (w := w) (Mk := Finset.univ) (S := (Memref.whole cc0_scratch3).view.set) (f := f)
        (by rw [View.set_whole]; exact Finset.subset_univ _))

theorem wp_load_cbuf {Q : α → sProp 𝕄} (d : Bool) (f : S256x4096.Idx → Elt F .f32) {r : LoadRect S256x4096} {hl : (cbuf d).view.LoadsAt r}
    {kk : (r.shape.Idx → Elt F .f32) → Prog (TpuEff nD τ sig (Elt F) Λ₀ .tc) α} :
    cpts c d f ⊢ iprop((cpts c d f -∗ WP c (kk ((Memref.whole cc0_scratch4).view.readAt (Elt F) r f)) Q)
      -∗ WP c (.op (.load (cbuf d) r hl) kk) Q) := by
  cases d
  · exact wp_load 𝒱₀ (c : Thread nD τ) none Set.univ (m := Memref.whole cc0_scratch4) (View.setOn_subset_set _ _)
  · exact wp_load 𝒱₀ (c : Thread nD τ) none Set.univ (m := Memref.whole cc0_scratch5) (View.setOn_subset_set _ _)

theorem wp_store_cbuf {Q : α → sProp 𝕄} (d : Bool) (f : S256x4096.Idx → Elt F .f32) {off : Fin 2 → ℕ} (hoff : off = fun _ => 0) {inb : ∀ a, off a + S256x4096.size a ≤ S256x4096.size a}
    {w : S256x4096.Idx → Elt F .f32}
    {hx : ((cbuf d).access (Rect.unit (s := S256x4096) off S256x4096.size inb)).Stores Finset.univ}
    {hm : (Finset.univ : Finset (Rect.unit (s := S256x4096) off S256x4096.size inb).shape.Idx) = Finset.univ ∨ ∀ a, (Rect.unit (s := S256x4096) off S256x4096.size inb).stride a = 1}
    {kk : PUnit → Prog (TpuEff nD τ sig (Elt F) Λ₀ .tc) α} :
    cpts c d f ⊢ iprop((cpts c d w -∗ WP c (kk ⟨⟩) Q)
      -∗ WP c (.op (.store (cbuf d) (Rect.unit (s := S256x4096) off S256x4096.size inb) w Finset.univ hx hm) kk) Q) := by
  cases d
  · have h : cpts c false f ⊢ iprop((cpts c false (((Memref.whole cc0_scratch4).access (Rect.unit (s := S256x4096) off S256x4096.size inb)).write (Elt F) f w Finset.univ)
        -∗ WP c (kk ⟨⟩) Q) -∗ WP c (.op (.store (cbuf false) (Rect.unit (s := S256x4096) off S256x4096.size inb) w Finset.univ hx hm) kk) Q) :=
      wp_store 𝒱₀ (c : Thread nD τ) none Set.univ (Γ := []) (m := Memref.whole cc0_scratch4) (r := Rect.unit (s := S256x4096) off S256x4096.size inb) (w := w) (Mk := Finset.univ)
        (S := (Memref.whole cc0_scratch4).view.set) (f := f) (by rw [View.set_whole]; exact Finset.subset_univ _)
    rwa [show ((Memref.whole cc0_scratch4).access (Rect.unit (s := S256x4096) off S256x4096.size inb)).write (Elt F) f w Finset.univ = w from
      Memref.write_access_unit_zero_univ (Elt F) cc0_scratch4 hoff inb f w] at h
  · have h : cpts c true f ⊢ iprop((cpts c true (((Memref.whole cc0_scratch5).access (Rect.unit (s := S256x4096) off S256x4096.size inb)).write (Elt F) f w Finset.univ)
        -∗ WP c (kk ⟨⟩) Q) -∗ WP c (.op (.store (cbuf true) (Rect.unit (s := S256x4096) off S256x4096.size inb) w Finset.univ hx hm) kk) Q) :=
      wp_store 𝒱₀ (c : Thread nD τ) none Set.univ (Γ := []) (m := Memref.whole cc0_scratch5) (r := Rect.unit (s := S256x4096) off S256x4096.size inb) (w := w) (Mk := Finset.univ)
        (S := (Memref.whole cc0_scratch5).view.set) (f := f) (by rw [View.set_whole]; exact Finset.subset_univ _)
    rwa [show ((Memref.whole cc0_scratch5).access (Rect.unit (s := S256x4096) off S256x4096.size inb)).write (Elt F) f w Finset.univ = w from
      Memref.write_access_unit_zero_univ (Elt F) cc0_scratch5 hoff inb f w] at h

variable (I : Inp F)

/-- A signal to a cell of the exchange, paying one duty of a round. -/
theorem wp_sig_cell {Q : α → sProp 𝕄} (κ : ℕ) (k : Kd) (y : Dev nD) {sem : Sem sig} (hS : SemLoc.reg sem = semOf k) {r n k' : ℕ} {b : Bool}
    (hd : b ∈ duts k r) (hk : amt k = k') (hp : payAt c (23 - n) = (y, k, r))
    {kk : PUnit → Prog (TpuEff nD τ sig (Elt F) Λ₀ .tc) α} :
    iprop(cellInv ERing (Rd (SS I)) κ (cell y k) ∗ OW (F := F) c (n + 1) ∗ dutyTok ERing (cell y k) r b ∗ pay (SS I) y k r b
        ∗ reached ERing (cell y k) r)
      ⊢ iprop((OW c n -∗ WP c (kk ⟨⟩) Q) -∗ WP c (.op (.semSignal (y : Thread nD τ) sem k') kk) Q) := by
  have hcell : cell y k = ((y : Thread nD τ), SemLoc.reg sem) := by unfold cell; rw [hS]
  rw [← Rd_payload (SS I) y k r b, hcell]
  unfold OW
  iintro ⟨Hi, ⟨%W, Ho⟩, Ht, Hp, Hr⟩ Hk
  iapply (Rounds.wp_signal 𝒱₀ ERing (Rd (SS I)) (c : Thread nD τ) none (dst := (y : Thread nD τ)) (κ := κ) (d := b) (r := r)
      (by rw [← hcell, Rd_duties]; exact hd) ((by rw [← hcell, Rd_amount] : (Rd (SS I)).amount ((y : Thread nD τ), .reg sem) r b = amt k).trans hk)
      r (O₀ := owe c (n + 1)) (owe c n) (by show owe c n + payT (payAt c (23 - n)) = _; rw [← hk, ← hcell, hp]; rfl)) $$ [Hi Ho Ht Hp Hr]
  · isplitl [Hi]; · iexact Hi
    isplitl [Ho]; · iexact Ho
    isplitl [Ht]; · iexact Ht
    isplitl [Hp]; · iexact Hp
    iexact Hr
  iintro Ho
  iapply Hk
  iexists W; iexact Ho

/-- A wait for a whole round of a cell of the device's own. -/
theorem wp_wait_cell {Q : α → sProp 𝕄} (κ : ℕ) (k : Kd) {w : TpuEff nD τ sig (Elt F) Λ₀ .tc PUnit} {k' : ℕ}
    (hw : ∀ X : PUnit → sProp 𝕄, wpE (defs₀ (F := F)) 𝒱₀ (c : Thread nD τ) none Set.univ w X = waitSpec (c : Thread nD τ) Set.univ (semOf k) k' X)
    {r n : ℕ} (he : k' = (duts k r).card * amt k) (hr : r < 6) (hn : n ≤ 24) (hl : place k r < max 1 (24 - n))
    {kk : PUnit → Prog (TpuEff nD τ sig (Elt F) Λ₀ .tc) α} :
    iprop(cellInv ERing (Rd (SS I)) κ (cell c k) ∗ levAts L lv ∗ cred (tallyAt (cell c k) r k') ∗ OW (F := F) c n ∗ atPos ERing (cell c k) r ∅ 0)
      ⊢ iprop(((OW c n ∗ atPos ERing (cell c k) (r + 1) ∅ 0 ∗ reached ERing (cell c k) (r + 1)
            ∗ bigSep ((Rd (SS I)).duties (cell c k) r \ ∅) fun b => (Rd (SS I)).payload (cell c k) r b) -∗ WP c (kk ⟨⟩) Q)
          -∗ WP c (.op w kk) Q) := by
  unfold OW
  iintro ⟨Hi, Hlev, Hc, ⟨%W, Ho⟩, Hat⟩ Hk
  iapply (Rounds.wp_wait_rest_token 𝒱₀ ERing (Rd (SS I)) (c : Thread nD τ) none (κ := κ) hw (Set.mem_univ _) r (O := owe c n) (W := W) (R := r) (m := 0) (T := ∅)
      (by rw [Nat.zero_add]; exact he.trans (Rd_expect (SS I) c k r).symm)) $$ [Hi Hlev Hc Ho Hat]
  · isplitl [Hi]; · iexact Hi
    isplitl [Hc]; · iexact Hc
    isplitl [Ho]; · iexact Ho
    isplitl [Hlev]
    · iapply (mayWait c (semOf k) r n hr hn (by rw [lv_cell]; exact hl)); iexact Hlev
    iexact Hat
  iintro ⟨Ho, Hat, Hr, Hp⟩
  iapply Hk
  isplitl [Ho]; · iexists _; iexact Ho
  isplitl [Hat]; · iexact Hat
  isplitl [Hr]; · iexact Hr
  iexact Hp

/-- A send's rule, from either buffer of a direction into the other one on the next device. -/
theorem wp_send_raw {Q : α → sProp 𝕄} (d b : Bool) (q : PosShare TreeShare) (f g : Cont F) (P : sProp 𝕄) (κ₁ κ₂ : ℕ) {r n : ℕ} (W : Waits sig ℕ)
    (hd₁ : false ∈ (Rd (SS I)).duties (cell c (.snd d)) r) (hd₂ : false ∈ (Rd (SS I)).duties (cell (nxt d c) (.rcv d)) r)
    (hk₁ : (Rd (SS I)).amount (cell c (.snd d)) r false = N) (hk₂ : (Rd (SS I)).amount (cell (nxt d c) (.rcv d)) r false = N)
    (hO : owe c (n + 1) = owe c n + tallyAt (cell (nxt d c) (.rcv d)) r N)
    (hpay₁ : pts c d b q f ⊢ (Rd (SS I)).payload (cell c (.snd d)) r false)
    (hpay₂ : iprop(pts (nxt d c) d (!b) fullShare f ∗ P) ⊢ (Rd (SS I)).payload (cell (nxt d c) (.rcv d)) r false)
    {hsc : (buf d (!b)).view.ref.isScScratch = false} {hsrc : (buf d b).view.WordExact} {hdst : (buf d (!b)).view.WordExact}
    {hsem : DmaTarget.Typed .vmem (semOf (.rcv d)) (.remote (Dev.tc (nxt d c) : Thread nD τ) (buf d (!b)) (semOf (.snd d)) hsc)}
    {kk : PUnit → Prog (TpuEff nD τ sig (Elt F) Λ₀ .tc) α} :
    iprop(cellInv ERing (Rd (SS I)) κ₁ (cell c (.snd d)) ∗ cellInv ERing (Rd (SS I)) κ₂ (cell (nxt d c) (.rcv d))
        ∗ pts c d b q f ∗ (pts (nxt d c) d (!b) fullShare g ∗ P) ∗ owes (c : Thread nD τ) (owe c (n + 1)) W
        ∗ dutyTok ERing (cell c (.snd d)) r false ∗ reached ERing (cell c (.snd d)) r
        ∗ dutyTok ERing (cell (nxt d c) (.rcv d)) r false ∗ reached ERing (cell (nxt d c) (.rcv d)) r)
      ⊢ iprop(((cred (tallyAt (cell c (.snd d)) r N) ∗ owes (c : Thread nD τ) (owe c n) W) -∗ WP c (kk ⟨⟩) Q)
          -∗ WP c (.op (.enqueueDma (buf d b) (.remote (Dev.tc (nxt d c) : Thread nD τ) (buf d (!b)) (semOf (.snd d)) hsc) (semOf (.rcv d)) hsrc hdst hsem) kk) Q) := by
  cases d <;> cases b
  · exact Rounds.wp_send_pointsTo_with 𝒱₀ ERing (Rd (SS I)) (c : Thread nD τ) none (c' := ((nxt false c : Dev nD) : Thread nD τ)) (src := Memref.whole cc0_scratch0) (dst := Memref.whole cc0_scratch1)
      (κ₁ := κ₁) (κ₂ := κ₂) (r₁ := r) (r₂ := r) (d₁ := false) (d₂ := false) (F := P) (fs := f) (fd := g) (q := q) hd₁ hd₂ r r N (credit_eq false true) hk₁ hk₂ (owe c n) hO (W := W)
      hpay₁ (by rw [View.read_whole, View.write_whole_univ]; exact hpay₂)
  · exact Rounds.wp_send_pointsTo_with 𝒱₀ ERing (Rd (SS I)) (c : Thread nD τ) none (c' := ((nxt false c : Dev nD) : Thread nD τ)) (src := Memref.whole cc0_scratch1) (dst := Memref.whole cc0_scratch0)
      (κ₁ := κ₁) (κ₂ := κ₂) (r₁ := r) (r₂ := r) (d₁ := false) (d₂ := false) (F := P) (fs := f) (fd := g) (q := q) hd₁ hd₂ r r N (credit_eq false false) hk₁ hk₂ (owe c n) hO (W := W)
      hpay₁ (by rw [View.read_whole, View.write_whole_univ]; exact hpay₂)
  · exact Rounds.wp_send_pointsTo_with 𝒱₀ ERing (Rd (SS I)) (c : Thread nD τ) none (c' := ((nxt true c : Dev nD) : Thread nD τ)) (src := Memref.whole cc0_scratch2) (dst := Memref.whole cc0_scratch3)
      (κ₁ := κ₁) (κ₂ := κ₂) (r₁ := r) (r₂ := r) (d₁ := false) (d₂ := false) (F := P) (fs := f) (fd := g) (q := q) hd₁ hd₂ r r N (credit_eq true true) hk₁ hk₂ (owe c n) hO (W := W)
      hpay₁ (by rw [View.read_whole, View.write_whole_univ]; exact hpay₂)
  · exact Rounds.wp_send_pointsTo_with 𝒱₀ ERing (Rd (SS I)) (c : Thread nD τ) none (c' := ((nxt true c : Dev nD) : Thread nD τ)) (src := Memref.whole cc0_scratch3) (dst := Memref.whole cc0_scratch2)
      (κ₁ := κ₁) (κ₂ := κ₂) (r₁ := r) (r₂ := r) (d₁ := false) (d₂ := false) (F := P) (fs := f) (fd := g) (q := q) hd₁ hd₂ r r N (credit_eq true false) hk₁ hk₂ (owe c n) hO (W := W)
      hpay₁ (by rw [View.read_whole, View.write_whole_univ]; exact hpay₂)

/-- A send, from either buffer of a direction into the other one on the next device. -/
theorem wp_send_buf {Q : α → sProp 𝕄} (d b : Bool) (q : PosShare TreeShare) (f g : Cont F) (P : sProp 𝕄) (κ₁ κ₂ : ℕ) {r n : ℕ} (hr : r < 6)
    (hp : payAt c (23 - n) = (nxt d c, .rcv d, r))
    (hpay₁ : pts c d b q f ⊢ pay (SS I) c (.snd d) r false)
    (hpay₂ : iprop(pts (nxt d c) d (!b) fullShare f ∗ P) ⊢ pay (SS I) (nxt d c) (.rcv d) r false)
    {y : Dev nD} (hy : y = nxt d c) {sS sR : SemLoc sig} (hS : sS = semOf (.snd d)) (hR : sR = semOf (.rcv d))
    {hsc : (buf d (!b)).view.ref.isScScratch = false} {hsrc : (buf d b).view.WordExact} {hdst : (buf d (!b)).view.WordExact}
    {hsem : DmaTarget.Typed .vmem sR (.remote (Dev.tc y : Thread nD τ) (buf d (!b)) sS hsc)}
    {kk : PUnit → Prog (TpuEff nD τ sig (Elt F) Λ₀ .tc) α} :
    iprop(cellInv ERing (Rd (SS I)) κ₁ (cell c (.snd d)) ∗ cellInv ERing (Rd (SS I)) κ₂ (cell (nxt d c) (.rcv d))
        ∗ pts c d b q f ∗ (pts (nxt d c) d (!b) fullShare g ∗ P) ∗ OW (F := F) c (n + 1)
        ∗ dutyTok ERing (cell c (.snd d)) r false ∗ reached ERing (cell c (.snd d)) r
        ∗ dutyTok ERing (cell (nxt d c) (.rcv d)) r false ∗ reached ERing (cell (nxt d c) (.rcv d)) r)
      ⊢ iprop(((sndC c d r ∗ OW c n) -∗ WP c (kk ⟨⟩) Q)
          -∗ WP c (.op (.enqueueDma (buf d b) (.remote (Dev.tc y : Thread nD τ) (buf d (!b)) sS hsc) sR hsrc hdst hsem) kk) Q) := by
  subst hy hS hR
  rw [← Rd_payload] at hpay₁ hpay₂
  unfold OW sndC
  iintro ⟨H1, H2, H3, H4, ⟨%W, Ho⟩, H6, H7, H8, H9⟩ Hk
  iapply (wp_send_raw c I d b q f g P κ₁ κ₂ W
      (by rw [Rd_duties, single_snd d hr]; exact Finset.mem_singleton_self _) (by rw [Rd_duties, single_rcv d hr]; exact Finset.mem_singleton_self _)
      (Rd_amount _ _ _ _ _) (Rd_amount _ _ _ _ _) (by show owe c n + payT (payAt c (23 - n)) = _; rw [hp]; rfl)
      hpay₁ hpay₂) $$ [H1 H2 H3 H4 Ho H6 H7 H8 H9]
  · isplitl [H1]; · iexact H1
    isplitl [H2]; · iexact H2
    isplitl [H3]; · iexact H3
    isplitl [H4]; · iexact H4
    isplitl [Ho]; · iexact Ho
    isplitl [H6]; · iexact H6
    isplitl [H7]; · iexact H7
    isplitl [H8]; · iexact H8
    iexact H9
  iintro ⟨Hc, Ho⟩
  iapply Hk
  isplitl [Hc]; · iexact Hc
  iexists W; iexact Ho

end Raw

end Cert.KernelIdeal.Hand

end
-- ==== Proof.Steps.lean ====
/-
The kernel's steps as rules on the state: one rule per kind of effect.
-/
module

public import proofs.«01_k».proof.Proof.Rules

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UAll ℕ

/-! ## Buffers -/

section
variable (I : Inp F) (c : Dev nD) (d b : Bool)

/-- What is known to be in a buffer. -/
def bval : Bf → Option (Cont F)
  | .full j => some (snt I d j c)
  | .half j => some (snt I d j c)
  | .got j => some (snt I d j (prv d c))
  | _ => Option.none

/-- Whether a buffer is held at all. -/
def Bf.held : Bf → Bool
  | .none => false
  | _ => true

theorem bown_val {x : Bf} {f : Cont F} (h : bval I c d x = some f) :
    bown I c d b x ⊢ iprop(∃ q, pts c d b q f ∗ (pts c d b q f -∗ bown I c d b x)) := by
  cases x with
  | none => exact absurd h (by simp [bval])
  | part j n => exact absurd h (by simp [bval])
  | full j =>
    obtain rfl := Option.some.inj h
    unfold bown
    iintro H
    iexists fullShare
    isplitl [H]; · iexact H
    iintro H; iexact H
  | half j =>
    obtain rfl := Option.some.inj h
    unfold bown
    iintro H
    iexists fullShare.right
    isplitl [H]; · iexact H
    iintro H; iexact H
  | got j =>
    obtain rfl := Option.some.inj h
    unfold bown
    iintro H
    iexists fullShare
    isplitl [H]; · iexact H
    iintro H; iexact H

theorem bown_held {x : Bf} (h : x.held = true) :
    bown I c d b x ⊢ iprop(∃ q f, pts c d b q f ∗ (pts c d b q f -∗ bown I c d b x)) := by
  cases x with
  | none => exact absurd h (by simp [Bf.held])
  | part j n =>
    unfold bown
    iintro ⟨%f, %hf, H⟩
    iexists fullShare; iexists f
    isplitl [H]; · iexact H
    iintro H
    iexists f
    isplitr; · ipureintro; exact hf
    iexact H
  | full j =>
    unfold bown
    iintro H
    iexists fullShare; iexists _
    isplitl [H]; · iexact H
    iintro H; iexact H
  | half j =>
    unfold bown
    iintro H
    iexists fullShare.right; iexists _
    isplitl [H]; · iexact H
    iintro H; iexact H
  | got j =>
    unfold bown
    iintro H
    iexists fullShare; iexists _
    isplitl [H]; · iexact H
    iintro H; iexact H

/-- Whether a buffer is held whole. -/
def Bf.whole : Bf → Bool
  | .none => false
  | .half _ => false
  | _ => true

/-- A buffer's contents are forgotten. -/
theorem bown_any {x : Bf} (h : x.whole = true) :
    bown I c d b x ⊢ iprop(∃ f, pts c d b fullShare f) := by
  cases x with
  | none => exact absurd h (by simp [Bf.whole])
  | part j n =>
    unfold bown
    iintro ⟨%f, -, H⟩
    iexists f; iexact H
  | full j =>
    unfold bown
    iintro H
    iexists _; iexact H
  | half j => exact absurd h (by simp [Bf.whole])
  | got j =>
    unfold bown
    iintro H
    iexists _; iexact H

/-- One more strip stored. -/
def Bf.more (j : ℕ) : ℕ → Bf
  | 3 => .full j
  | n => .part j (n + 1)

theorem Agr_store {j n : ℕ} (hj : j < 4) {k : Fin 4} (hn : n = k.val) {f f' : Cont F} (h : Agr (snt I d j c) f n)
    {off : Fin 2 → ℕ} (hoff : off = ![256 * k.val, 0]) {inb : ∀ a, off a + S256x4096.size a ≤ S1024x4096.size a}
    {w : Vec F S256x4096 .bf16} (hw : w = stv I d c k j)
    (hf : Wrote (Rect.unit (s := S1024x4096) off S256x4096.size inb) f w f') : Agr (snt I d j c) f' (n + 1) := by
  intro i hi
  by_cases hk : stripOf i = k
  · have e := hf.1 (inStrip i)
    rw [strip_emb k off hoff inb, ← hk, atStrip_inStrip] at e
    rw [e, hw, ← snt_atStrip I d c j hj, ← hk, atStrip_inStrip]
  · rw [hf.2 i fun x hx => hk (by rw [← hx, strip_emb k off hoff inb, stripOf_atStrip])]
    refine h i ?_
    have h1 : (i 0).val / 256 ≠ k.val := fun e => hk (Fin.ext e)
    omega

end

/-! ## Steps -/

section Steps
variable (I : Inp F) (K : Dev nD × Kd → ℕ) (c : Dev nD) {n bs : ℕ} {s : DS × DS} {o : Ou} {α : Type}

/-- A step that only reads one direction. -/
theorem dir_same (d : Bool) {P R : sProp 𝕄} (h : DSt I c d (sel d s) ⊢ iprop((DSt I c d (sel d s) -∗ R) -∗ P))
    (hk : St I K c n bs s o ⊢ R) : St I K c n bs s o ⊢ P := by
  refine dir_out I K c d n n bs s (sel d s) o o (R := R) ?_ (by rw [upd_sel]; exact hk)
  iintro ⟨-, Ho, Hs, Hu, Hk⟩
  iapply h $$ Hs
  iintro Hs
  iapply Hk
  isplitl [Ho]; · iexact Ho
  isplitl [Hs]; · iexact Hs
  iexact Hu

/-- A step that changes one direction and nothing else. -/
theorem dir_upd (d : Bool) (x : DS) {P R : sProp 𝕄} (h : DSt I c d (sel d s) ⊢ iprop((DSt I c d x -∗ R) -∗ P))
    (hk : St I K c n bs (upd d s x) o ⊢ R) : St I K c n bs s o ⊢ P := by
  refine dir_out I K c d n n bs s x o o (R := R) ?_ hk
  iintro ⟨-, Ho, Hs, Hu, Hk⟩
  iapply h $$ Hs
  iintro Hs
  iapply Hk
  isplitl [Ho]; · iexact Ho
  isplitl [Hs]; · iexact Hs
  iexact Hu

/-- A strip of a buffer is read. -/
theorem step_load {Q : α → sProp 𝕄} (d b : Bool) (k : Fin 4) {off : Fin 2 → ℕ} {inb : ∀ a, off a + S256x4096.size a ≤ S1024x4096.size a}
    {hl : (buf d b).view.LoadsAt (Rect.unit (s := S1024x4096) off S256x4096.size inb).toLoadRect}
    {kk : ((Rect.unit (s := S1024x4096) off S256x4096.size inb).toLoadRect.shape.Idx → Elt F .bf16) → Prog (TpuEff nD τ sig (Elt F) Λ₀ .tc) α}
    (hoff : off = ![256 * k.val, 0]) {f : Cont F} (hf : bval I c d ((sel d s).get b) = some f)
    (hk : St I K c n bs s o ⊢ WP c (kk (rdS k f)) Q) :
    St I K c n bs s o ⊢ WP c (.op (.load (buf d b) (Rect.unit (s := S1024x4096) off S256x4096.size inb).toLoadRect hl) kk) Q := by
  subst hoff
  refine dir_same I K c d ?_ hk
  have hb := buf_out I c d b (sel d s)
  iintro H Hk
  ihave H := hb $$ H
  icases H with ⟨Hb, Hback⟩
  ihave Hb := (bown_val I c d b hf) $$ Hb
  icases Hb with ⟨%q, Hb, Hb'⟩
  iapply (wp_load_buf c d b q f) $$ Hb
  iintro Hb
  iapply Hk
  ihave Hb := Hb' $$ Hb
  ihave H := Hback $$ %((sel d s).get b) Hb
  rw [show (sel d s).set b ((sel d s).get b) = sel d s by cases b <;> rfl]
  iexact H

/-- A strip of a buffer is read and not used. -/
theorem step_dead {Q : α → sProp 𝕄} (d b : Bool) {r : LoadRect S1024x4096} {hl : (buf d b).view.LoadsAt r}
    {kk : (r.shape.Idx → Elt F .bf16) → Prog (TpuEff nD τ sig (Elt F) Λ₀ .tc) α}
    (hh : ((sel d s).get b).held = true)
    (hk : ∀ v, St I K c n bs s o ⊢ WP c (kk v) Q) :
    St I K c n bs s o ⊢ WP c (.op (.load (buf d b) r hl) kk) Q := by
  refine dir_same I K c d (R := iprop(∀ v, WP c (kk v) Q)) ?_ (forall_intro hk)
  have hb := buf_out I c d b (sel d s)
  iintro H Hk
  ihave H := hb $$ H
  icases H with ⟨Hb, Hback⟩
  ihave Hb := (bown_held I c d b hh) $$ Hb
  icases Hb with ⟨%q, %f, Hb, Hb'⟩
  iapply (wp_load_buf c d b q f) $$ Hb
  iintro Hb
  ihave Hb := Hb' $$ Hb
  ihave H := Hback $$ %((sel d s).get b) Hb
  rw [show (sel d s).set b ((sel d s).get b) = sel d s by cases b <;> rfl]
  ihave Hk := Hk $$ H
  iapply Hk

/-- A strip is stored. -/
theorem step_store {Q : α → sProp 𝕄} (d b : Bool) (k : Fin 4) (j m : ℕ) {off : Fin 2 → ℕ} {inb : ∀ a, off a + S256x4096.size a ≤ S1024x4096.size a}
    {w : Vec F S256x4096 .bf16}
    {hx : ((buf d b).access (Rect.unit (s := S1024x4096) off S256x4096.size inb)).Stores Finset.univ}
    {hm : (Finset.univ : Finset (Rect.unit (s := S1024x4096) off S256x4096.size inb).shape.Idx) = Finset.univ ∨ ∀ a, (Rect.unit (s := S1024x4096) off S256x4096.size inb).stride a = 1}
    {kk : PUnit → Prog (TpuEff nD τ sig (Elt F) Λ₀ .tc) α}
    (hoff : off = ![256 * k.val, 0]) (hb : (sel d s).get b = .part j m) (hm' : m = k.val) (hj : j < 4)
    (hw : w = stv I d c k j)
    (hk : St I K c n bs (upd d s ((sel d s).set b (Bf.more j m))) o ⊢ WP c (kk ⟨⟩) Q) :
    St I K c n bs s o ⊢ WP c (.op (.store (buf d b) (Rect.unit (s := S1024x4096) off S256x4096.size inb) w Finset.univ hx hm) kk) Q := by
  refine dir_upd I K c d _ ?_ hk
  have ho := buf_out I c d b (sel d s)
  rw [hb, show bown I c d b (.part j m) = iprop(∃ f, ⌜Agr (snt I d j c) f m⌝ ∗ pts c d b fullShare f) from rfl] at ho
  iintro H Hk
  ihave H := ho $$ H
  icases H with ⟨Hb, Hback⟩
  icases Hb with ⟨%f, %hf, Hb⟩
  iapply (wp_store_buf c d b f) $$ Hb
  iintro %f' %hf' Hb
  have ha := Agr_store I c d hj hm' hf hoff hw hf'
  iapply Hk
  iapply Hback $$ %(Bf.more j m)
  have hbm : pts c d b fullShare f' ⊢ bown I c d b (Bf.more j m) := by
    by_cases h3 : m = 3
    · subst h3
      rw [Agr_four ha]
      exact Entails.refl _
    · have : Bf.more j m = .part j (m + 1) := by
        have := k.isLt
        match m, h3 with
        | 0, _ => rfl
        | 1, _ => rfl
        | 2, _ => rfl
        | m + 4, _ => omega
      rw [this]
      unfold bown
      iintro H
      iexists f'
      isplitr; · ipureintro; exact ha
      iexact H
  iapply hbm $$ Hb

end Steps

end Cert.KernelIdeal.Hand

end
-- ==== Proof.Copies.lean ====
/-
More of the kernel's steps: loads of the inputs, the conversion buffers and the copies out of them.
-/
module

public import proofs.«01_k».proof.Proof.Steps

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UAll ℕ

section
variable (I : Inp F) (K : Dev nD × Kd → ℕ) (c : Dev nD) {n bs : ℕ} {s : DS × DS} {o : Ou} {α : Type}

/-! ## The inputs -/

theorem xin_same {P R : sProp 𝕄} (h : Xin I c ⊢ iprop((Xin I c -∗ R) -∗ P)) (hk : St I K c n bs s o ⊢ R) : St I K c n bs s o ⊢ P := by
  have hk' := hk
  unfold St at hk' ⊢
  iintro ⟨#Hr, Ho, Hx, H⟩
  iapply h $$ Hx
  iintro Hx
  iapply hk'
  isplitr; · iexact Hr
  isplitl [Ho]; · iexact Ho
  isplitl [Hx]; · iexact Hx
  iexact H

theorem step_x {Q : α → sProp 𝕄} (r k : Fin 4)
    {inb : ∀ a, k0_off1 c (BitVec.ofNat 32 r.val) (BitVec.ofNat 32 (256 * k.val)) a + S256x1024.size a ≤ S4096x1024.size a}
    {hl : (Memref.whole cc0_stg0_0).view.LoadsAt (Rect.unit (s := S4096x1024) (k0_off1 c (BitVec.ofNat 32 r.val) (BitVec.ofNat 32 (256 * k.val))) S256x1024.size inb).toLoadRect}
    {kk : (S256x1024.Idx → Elt F .f32) → Prog (TpuEff nD τ sig (Elt F) Λ₀ .tc) α}
    (hk : St I K c n bs s o ⊢ WP c (kk (xStrip I c r k)) Q) :
    St I K c n bs s o ⊢ WP c (.op (.load (Memref.whole cc0_stg0_0)
      (Rect.unit (s := S4096x1024) (k0_off1 c (BitVec.ofNat 32 r.val) (BitVec.ofNat 32 (256 * k.val))) S256x1024.size inb).toLoadRect hl) kk) Q := by
  refine xin_same I K c ?_ hk
  unfold Xin
  iintro ⟨H0, H1, H2, H3⟩ Hk
  iapply (wp_load 𝒱₀ (c : Thread nD τ) none Set.univ (m := Memref.whole cc0_stg0_0) (Finset.subset_univ _)) $$ H0
  iintro H0
  iapply Hk
  isplitl [H0]; · iexact H0
  isplitl [H1]; · iexact H1
  isplitl [H2]; · iexact H2
  iexact H3

theorem step_w {Q : α → sProp 𝕄} (d : Bool) {r : LoadRect S1024x8192} {hl : (Memref.whole cc0_stg1_0).view.LoadsAt r}
    {kk : (r.shape.Idx → Elt F .f32) → Prog (TpuEff nD τ sig (Elt F) Λ₀ .tc) α}
    (hk : St I K c n bs s o ⊢ WP c (kk ((Memref.whole cc0_stg1_0).view.readAt (Elt F) r (I.w c))) Q) :
    St I K c n bs s o ⊢ WP c (.op (.load (Memref.whole cc0_stg1_0) r hl) kk) Q := by
  refine xin_same I K c ?_ hk
  unfold Xin
  iintro ⟨H0, H1, H2, H3⟩ Hk
  iapply (wp_load 𝒱₀ (c : Thread nD τ) none Set.univ (m := Memref.whole cc0_stg1_0) (Finset.subset_univ _)) $$ H1
  iintro H1
  iapply Hk
  isplitl [H0]; · iexact H0
  isplitl [H1]; · iexact H1
  isplitl [H2]; · iexact H2
  iexact H3

theorem step_sx {Q : α → sProp 𝕄} {r : Rect S1} {hl : (Memref.whole cc0_stg2_0).view.LoadsAt r.toLoadRect}
    {kk : (r.shape.Idx → Elt F .f32) → Prog (TpuEff nD τ sig (Elt F) Λ₀ .tc) α}
    (hk : St I K c n bs s o ⊢ WP c (kk (((Memref.whole cc0_stg2_0).access r).read (Elt F) (I.sx c))) Q) :
    St I K c n bs s o ⊢ WP c (.op (.load (Memref.whole cc0_stg2_0) r.toLoadRect hl) kk) Q := by
  refine xin_same I K c ?_ hk
  unfold Xin
  iintro ⟨H0, H1, H2, H3⟩ Hk
  iapply (wp_load_rect 𝒱₀ (c : Thread nD τ) none Set.univ (m := Memref.whole cc0_stg2_0) (r := r) (S := Finset.univ) (f := I.sx c) (Finset.subset_univ _)) $$ H2
  iintro H2
  iapply Hk
  isplitl [H0]; · iexact H0
  isplitl [H1]; · iexact H1
  isplitl [H2]; · iexact H2
  iexact H3

theorem step_sw {Q : α → sProp 𝕄} {r : Rect S1} {hl : (Memref.whole cc0_stg3_0).view.LoadsAt r.toLoadRect}
    {kk : (r.shape.Idx → Elt F .f32) → Prog (TpuEff nD τ sig (Elt F) Λ₀ .tc) α}
    (hk : St I K c n bs s o ⊢ WP c (kk (((Memref.whole cc0_stg3_0).access r).read (Elt F) (I.sw c))) Q) :
    St I K c n bs s o ⊢ WP c (.op (.load (Memref.whole cc0_stg3_0) r.toLoadRect hl) kk) Q := by
  refine xin_same I K c ?_ hk
  unfold Xin
  iintro ⟨H0, H1, H2, H3⟩ Hk
  iapply (wp_load_rect 𝒱₀ (c : Thread nD τ) none Set.univ (m := Memref.whole cc0_stg3_0) (r := r) (S := Finset.univ) (f := I.sw c) (Finset.subset_univ _)) $$ H3
  iintro H3
  iapply Hk
  isplitl [H0]; · iexact H0
  isplitl [H1]; · iexact H1
  isplitl [H2]; · iexact H2
  iexact H3

/-! ## The conversion buffers -/

/-- Whether a conversion buffer is held. -/
def Cv.held : Cv → Bool
  | .fly => false
  | _ => true

theorem cown_held (d : Bool) {x : Cv} (h : x.held = true) :
    cown I c d x ⊢ iprop(∃ f, cpts c d f ∗ semVal ((c : Thread nD τ), SemLoc.dma (osem d)) 0 ∗ (cpts c d f -∗ semVal ((c : Thread nD τ), SemLoc.dma (osem d)) 0 -∗ cown I c d x)) := by
  cases x with
  | any =>
    unfold cown
    iintro ⟨⟨%f, H⟩, Hs⟩
    iexists f
    isplitl [H]; · iexact H
    isplitl [Hs]; · iexact Hs
    iintro H Hs
    isplitl [H]; · iexists f; iexact H
    iexact Hs
  | has t k =>
    unfold cown
    iintro ⟨H, Hs⟩
    iexists _
    isplitl [H]; · iexact H
    isplitl [Hs]; · iexact Hs
    iintro H Hs
    isplitl [H]; · iexact H
    iexact Hs
  | fly => exact absurd h (by simp [Cv.held])

theorem step_cdead {Q : α → sProp 𝕄} (d : Bool) {r : LoadRect S256x4096} {hl : (cbuf d).view.LoadsAt r}
    {kk : (r.shape.Idx → Elt F .f32) → Prog (TpuEff nD τ sig (Elt F) Λ₀ .tc) α}
    (hh : (sel d s).cv.held = true) (hk : ∀ v, St I K c n bs s o ⊢ WP c (kk v) Q) :
    St I K c n bs s o ⊢ WP c (.op (.load (cbuf d) r hl) kk) Q := by
  refine dir_same I K c d (R := iprop(∀ v, WP c (kk v) Q)) ?_ (forall_intro hk)
  have hb := cv_out I c d (sel d s)
  iintro H Hk
  ihave H := hb $$ H
  icases H with ⟨Hb, Hback⟩
  ihave Hb := (cown_held I c d hh) $$ Hb
  icases Hb with ⟨%f, Hb, Hs, Hb'⟩
  iapply (wp_load_cbuf c d f) $$ Hb
  iintro Hb
  ihave Hb := Hb' $$ Hb Hs
  ihave H := Hback $$ %((sel d s).cv) Hb
  rw [show (sel d s).setCv (sel d s).cv = sel d s from rfl]
  ihave Hk := Hk $$ H
  iapply Hk

theorem step_cstore {Q : α → sProp 𝕄} (d : Bool) (t k : Fin 4) {off : Fin 2 → ℕ} {inb : ∀ a, off a + S256x4096.size a ≤ S256x4096.size a}
    {w : S256x4096.Idx → Elt F .f32}
    {hx : ((cbuf d).access (Rect.unit (s := S256x4096) off S256x4096.size inb)).Stores Finset.univ}
    {hm : (Finset.univ : Finset (Rect.unit (s := S256x4096) off S256x4096.size inb).shape.Idx) = Finset.univ ∨ ∀ a, (Rect.unit (s := S256x4096) off S256x4096.size inb).stride a = 1}
    {kk : PUnit → Prog (TpuEff nD τ sig (Elt F) Λ₀ .tc) α}
    (hoff : off = ![0, 0]) (hh : (sel d s).cv.held = true) (hw : w = ost I d c t k)
    (hk : St I K c n bs (upd d s ((sel d s).setCv (.has t k))) o ⊢ WP c (kk ⟨⟩) Q) :
    St I K c n bs s o ⊢ WP c (.op (.store (cbuf d) (Rect.unit (s := S256x4096) off S256x4096.size inb) w Finset.univ hx hm) kk) Q := by
  refine dir_upd I K c d _ ?_ hk
  have hb := cv_out I c d (sel d s)
  iintro H Hk
  ihave H := hb $$ H
  icases H with ⟨Hb, Hback⟩
  ihave Hb := (cown_held I c d hh) $$ Hb
  icases Hb with ⟨%f, Hb, Hs, -⟩
  iapply (wp_store_cbuf c d f (hoff.trans (funext fun a => by fin_cases a <;> rfl))) $$ Hb
  iintro Hb
  iapply Hk
  iapply Hback $$ %(Cv.has t k)
  rw [hw, show cown I c d (.has t k) = iprop(cpts c d (ost I d c t k) ∗ semVal ((c : Thread nD τ), SemLoc.dma (osem d)) 0) from rfl]
  isplitl [Hb]; · iexact Hb
  iexact Hs

/-! ## The copies out -/

theorem AgrO_store (d : Bool) (t k : Fin 4) {n₀ n₁ : ℕ} (hn : cnt n₀ n₁ d = 4 * t.val + k.val)
    {f f' : S4096x8192.Idx → Elt F .f32} (h : AgrO c (outG I) f (cnt n₀ n₁))
    (hin : ∀ x, f' (atO d (onDev c (place4o d t)) k x) = ost I d c t k x)
    (hout : ∀ i, (∀ x, atO d (onDev c (place4o d t)) k x ≠ i) → f' i = f i) :
    AgrO c (outG I) f' (cnt (n₀ + (!d).toNat) (n₁ + d.toNat)) := by
  intro d' t' k' x' hlt
  by_cases he : d = d' ∧ t = t' ∧ k = k'
  · obtain ⟨rfl, rfl, rfl⟩ := he
    rw [hin, outG_atO]
  · rw [hout _ fun x hx => he ⟨(atO_inj hx).1, (atO_inj hx).2.1, (atO_inj hx).2.2.1⟩]
    refine h d' t' k' x' ?_
    have hk := k.isLt
    have hk' := k'.isLt
    by_cases hd : d = d'
    · subst hd
      have hne : ¬ (4 * t'.val + k'.val = 4 * t.val + k.val) := fun e => he ⟨rfl, Fin.ext (by omega), Fin.ext (by omega)⟩
      cases d <;> simp only [cnt, Bool.toNat_true, Bool.toNat_false, Bool.not_true, Bool.not_false] at hn hlt ⊢ <;> omega
    · cases d <;> cases d' <;> simp only [cnt, Bool.toNat_true, Bool.toNat_false, Bool.not_true, Bool.not_false] at hlt ⊢ hd <;> first | omega | exact absurd trivial hd | exact absurd rfl hd

omit [FloatOps F] in
theorem out_emb (d : Bool) (b : Dev nD) (k : Fin 4) (off : Fin 2 → ℕ) (hoff : off = ![1024 * b.val + 256 * k.val, 4096 * d.toNat])
    (inb : ∀ a, off a + S256x4096.size a ≤ S4096x8192.size a) (x : S256x4096.Idx) :
    (Rect.unit (s := S4096x8192) off S256x4096.size inb).emb x = atO d b k x := by
  subst hoff
  funext a
  rcases a with ⟨_ | _ | a, ha⟩
  · apply Fin.ext
    show 1024 * b.val + 256 * k.val + 1 * (x 0).val = 1024 * b.val + 256 * k.val + (x 0).val
    omega
  · apply Fin.ext
    show 4096 * d.toNat + 1 * (x 1).val = 4096 * d.toNat + (x 1).val
    omega
  · exact absurd (show a + 2 < 2 from ha) (by omega)

/-- The strip of the result a copy writes. -/
abbrev oslice (off : Fin 2 → ℕ) (inb : ∀ a, off a + S256x4096.size a ≤ S4096x8192.size a)
    (hst : ∀ a, (Rect.unit (s := S4096x8192) off S256x4096.size inb).stride a = 1) : Memref sig .tc .hbm S256x4096 .f32 :=
  (Memref.whole main_v1).slice (Rect.unit (s := S4096x8192) off S256x4096.size inb) hst

theorem ocredit (off : Fin 2 → ℕ) (inb : ∀ a, off a + S256x4096.size a ≤ S4096x8192.size a)
    (hst : ∀ a, (Rect.unit (s := S4096x8192) off S256x4096.size inb).stride a = 1) (d : Bool) :
    (oslice off inb hst).view.dmaCredit = (cbuf d).view.dmaCredit := by
  cases d <;> with_reducible rfl

/-- A copy of one strip into the result is started. -/
theorem wp_copy_out {Q : α → sProp 𝕄} (d : Bool) (t k : Fin 4) {n₀ n₁ : ℕ} (hn : cnt n₀ n₁ d = 4 * t.val + k.val)
    {off : Fin 2 → ℕ} (hoff : off = ![1024 * (onDev c (place4o d t)).val + 256 * k.val, 4096 * d.toNat])
    {inb : ∀ a, off a + S256x4096.size a ≤ S4096x8192.size a} {hst : ∀ a, (Rect.unit (s := S4096x8192) off S256x4096.size inb).stride a = 1}
    {hsrc : (cbuf d).view.WordExact} {hdst : (oslice off inb hst).view.WordExact}
    {sm : SemLoc sig} (hsm : sm = .dma (osem d))
    {hsem : DmaTarget.Typed (nD := nD) .vmem sm (.here (p := (c : Thread nD τ).2) (oslice off inb hst))}
    {kk : PUnit → Prog (TpuEff nD τ sig (Elt F) Λ₀ .tc) α} :
    iprop(cown I c d (.has t k) ∗ OutSt I c (.rest n₀ n₁))
      ⊢ iprop((OutSt I c (.fly d (n₀ + (!d).toNat) (n₁ + d.toNat)) -∗ WP c (kk ⟨⟩) Q)
        -∗ WP c (.op (.enqueueDma (cbuf d) (.here (oslice off inb hst)) sm hsrc hdst hsem) kk) Q) := by
  subst hsm
  have hstep : ∀ f, AgrO c (outG I) f (cnt n₀ n₁) →
      AgrO c (outG I) ((oslice off inb hst).view.write (Elt F) f (ost I d c t k) Finset.univ)
        (cnt (n₀ + (!d).toNat) (n₁ + d.toNat)) := fun f hf =>
    AgrO_store I c d t k hn hf
      (fun x => by
        rw [← out_emb d _ k off hoff inb x]
        exact (View.write_emb_of_mem (v := (oslice off inb hst).view) f (ost I d c t k) (Finset.mem_univ x)).trans (cast_eq _ _))
      (fun i hi => View.write_of_not_mem (v := (oslice off inb hst).view) f (ost I d c t k) Finset.univ fun hm => by
        obtain ⟨x, -, hx⟩ := Finset.mem_map.mp hm
        exact hi x ((out_emb d _ k off hoff inb x).symm.trans hx))
  unfold OutSt
  rw [show cown I c d (.has t k) = iprop(cpts c d (ost I d c t k) ∗ semVal ((c : Thread nD τ), SemLoc.dma (osem d)) 0) from rfl]
  iintro ⟨⟨Hc, Hs⟩, ⟨%f, %hf, Hf⟩⟩ Hk
  have hmono : iprop((opts c ((oslice off inb hst).view.write (Elt F) f (ost I d c t k) Finset.univ))
        ∗ cpts c d (ost I d c t k))
      ⊢ iprop((∃ f, ⌜AgrO c (outG I) f (cnt (n₀ + (!d).toNat) (n₁ + d.toNat))⌝ ∗ opts c f) ∗ ∃ f, cpts c d f) := by
    iintro ⟨H1, H2⟩
    isplitl [H1]
    · iexists _
      isplitr; · ipureintro; exact hstep f hf
      iexact H1
    iexists _; iexact H2
  have hdma : iprop(cpts c d (ost I d c t k) ∗ opts c f ∗ semVal ((c : Thread nD τ), SemLoc.dma (osem d)) 0)
      ⊢ iprop((Transfers.Flight ECnt (c : Thread nD τ) (SemLoc.dma (osem d)) 0 (cbuf d).view.dmaCredit
            iprop((opts c ((oslice off inb hst).view.write (Elt F) f (ost I d c t k) Finset.univ))
              ∗ cpts c d (ost I d c t k)) -∗ WP c (kk ⟨⟩) Q)
        -∗ WP c (.op (.enqueueDma (cbuf d) (.here (oslice off inb hst)) (.dma (osem d)) hsrc hdst hsem) kk) Q) := by
    cases d
    · have hN : ((oslice off inb hst).view.amount (SemLoc.dma (osem false))) = (cbuf false).view.dmaCredit := ocredit off inb hst false
      have hp : 0 < (cbuf false).view.dmaCredit := View.dmaCredit_pos _ (by decide)
      exact Transfers.wp_dmaLocal ECnt 𝒱₀ (c : Thread nD τ) none (src := Memref.whole cc0_scratch4) (via := .same) (dst := oslice off inb hst)
        (sm := SemLoc.dma (osem false)) (q := fullShare) (fs := ost I false c t k) (fd := f) (Sd := Finset.univ) 0 ((cbuf false).view.dmaCredit) hN hp (Finset.subset_univ _)
    · have hN : ((oslice off inb hst).view.amount (SemLoc.dma (osem true))) = (cbuf true).view.dmaCredit := ocredit off inb hst true
      have hp : 0 < (cbuf true).view.dmaCredit := View.dmaCredit_pos _ (by decide)
      exact Transfers.wp_dmaLocal ECnt 𝒱₀ (c : Thread nD τ) none (src := Memref.whole cc0_scratch5) (via := .same) (dst := oslice off inb hst)
        (sm := SemLoc.dma (osem true)) (q := fullShare) (fs := ost I true c t k) (fd := f) (Sd := Finset.univ) 0 ((cbuf true).view.dmaCredit) hN hp (Finset.subset_univ _)
  iapply hdma $$ [Hc Hf Hs]
  · isplitl [Hc]; · iexact Hc
    isplitl [Hf]; · iexact Hf
    iexact Hs
  iintro H
  iapply Hk
  iapply (Transfers.Flight_mono ECnt (c : Thread nD τ) hmono) $$ H

theorem step_copy {Q : α → sProp 𝕄} (d : Bool) (t k : Fin 4) {n₀ n₁ : ℕ}
    {off : Fin 2 → ℕ} {inb : ∀ a, off a + S256x4096.size a ≤ S4096x8192.size a} {hst : ∀ a, (Rect.unit (s := S4096x8192) off S256x4096.size inb).stride a = 1}
    {hsrc : (cbuf d).view.WordExact} {hdst : (oslice off inb hst).view.WordExact}
    {sm : SemLoc sig}
    {hsem : DmaTarget.Typed (nD := nD) .vmem sm (.here (p := (c : Thread nD τ).2) (oslice off inb hst))}
    {kk : PUnit → Prog (TpuEff nD τ sig (Elt F) Λ₀ .tc) α}
    (hoff : off = ![1024 * (onDev c (place4o d t)).val + 256 * k.val, 4096 * d.toNat]) (hsm : sm = .dma (osem d))
    (hn : cnt n₀ n₁ d = 4 * t.val + k.val) (hcv : (sel d s).cv = .has t k)
    (hk : St I K c n bs (upd d s ((sel d s).setCv .fly)) (.fly d (n₀ + (!d).toNat) (n₁ + d.toNat)) ⊢ WP c (kk ⟨⟩) Q) :
    St I K c n bs s (.rest n₀ n₁)
      ⊢ WP c (.op (.enqueueDma (cbuf d) (.here (oslice off inb hst)) sm hsrc hdst hsem) kk) Q := by
  refine dir_out I K c d n n bs s _ _ _ (R := WP c (kk ⟨⟩) Q) ?_ hk
  have hb := cv_out I c d (sel d s)
  rw [hcv] at hb
  iintro ⟨-, Ho, H, Hu, Hk⟩
  ihave H := hb $$ H
  icases H with ⟨Hb, Hback⟩
  iapply (wp_copy_out I c d t k hn hoff hsm) $$ [Hb Hu]
  · isplitl [Hb]; · iexact Hb
    iexact Hu
  iintro Hu
  iapply Hk
  isplitl [Ho]; · iexact Ho
  isplitl [Hback]
  · iapply Hback $$ %Cv.fly
    rw [show cown I c d .fly = iprop(emp) from rfl]
    iempintro
  iexact Hu

theorem step_copywait {Q : α → sProp 𝕄} (d : Bool) {n₀ n₁ : ℕ} {sem : DmaSem sig} {sp sp' : Space} {sh sh' : Shape} {e e' : EltTy} {κ' : Kind}
    {srcw : Memref sig .tc sp' sh' e'} {dstw : Memref sig κ' sp sh e} {hsrc : srcw.view.WordExact} {hdst : dstw.view.WordExact}
    {kk : PUnit → Prog (TpuEff nD τ sig (Elt F) Λ₀ .tc) α}
    (hsm : sem = osem d) (hN : dstw.view.dmaCredit = (cbuf d).view.dmaCredit) (hn : n ≤ 24) (hcv : (sel d s).cv = .fly)
    (hk : St I K c n bs (upd d s ((sel d s).setCv .any)) (.rest n₀ n₁) ⊢ WP c (kk ⟨⟩) Q) :
    St I K c n bs s (.fly d n₀ n₁) ⊢ WP c (.op (.waitDma2 sem srcw dstw hsrc hdst) kk) Q := by
  subst hsm
  refine dir_out I K c d n n bs s _ _ _ (R := WP c (kk ⟨⟩) Q) ?_ hk
  have hb := cv_out I c d (sel d s)
  rw [hcv] at hb
  have hl : lv ((c : Thread nD τ), SemLoc.dma (osem d)) 0 < max 1 (24 - n) := by
    have : lv ((c : Thread nD τ), SemLoc.dma (osem d)) 0 = 0 := by cases d <;> rfl
    omega
  unfold OW
  rw [show OutSt I c (.fly d n₀ n₁) = Transfers.Flight ECnt (c : Thread nD τ) (SemLoc.dma (osem d)) 0 (cbuf d).view.dmaCredit
      iprop((∃ f, ⌜AgrO c (outG I) f (cnt n₀ n₁)⌝ ∗ opts c f) ∗ ∃ f, cpts c d f) from rfl,
    show OutSt I c (.rest n₀ n₁) = iprop(∃ f, ⌜AgrO c (outG I) f (cnt n₀ n₁)⌝ ∗ opts c f) from rfl]
  iintro ⟨#Hr, ⟨%W, Ho⟩, H, Hu, Hk⟩
  ihave H := hb $$ H
  icases H with ⟨-, Hback⟩
  iapply (Transfers.wp_waitLocalO ECnt 𝒱₀ (c : Thread nD τ) none 0 hN (O := owe c n) (W := W)) $$ [Hu Ho]
  · isplitl [Hu]; · iexact Hu
    isplitl [Ho]; · iexact Ho
    iapply (mayWait c (.dma (osem d)) 0 n (by omega) hn hl)
    iapply (recs_lev I K) $$ Hr
  iintro ⟨⟨Hu, Hc⟩, Hs, Ho⟩
  iapply Hk
  isplitl [Ho]; · iexists _; iexact Ho
  isplitl [Hback Hc Hs]
  · iapply Hback $$ %Cv.any
    rw [show cown I c d .any = iprop((∃ f, cpts c d f) ∗ semVal ((c : Thread nD τ), SemLoc.dma (osem d)) 0) from rfl]
    isplitl [Hc]; · iexact Hc
    iexact Hs
  iexact Hu

end

end Cert.KernelIdeal.Hand

end
-- ==== Proof.Exchange.lean ====
/-
The rules of the exchange on the state: signals, sends and waits, and what each does to a direction.
-/
module

public import proofs.«01_k».proof.Proof.Copies

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UAll ℕ

section
variable (I : Inp F) (K : Dev nD × Kd → ℕ) (c : Dev nD)

/-! ## A direction before and after -/

theorem ctl_send (d : Bool) {nr np : ℕ} {a b : Bf} {cv : Cv} {j : ℕ} (hj : j < 6) :
    DSt I c d ⟨j, j, nr, j, np, a, b, true, cv⟩
      ⊢ iprop(sndT c d j ∗ permit (F := F) c d j ∗ reached ERing (cell c (.snd d)) j ∗ reached ERing (cell c (.crd d)) j ∗ (sndC c d j -∗ DSt I c d ⟨j + 1, j, nr, j, np, a, b, false, cv⟩)) := by
  unfold DSt Pos
  dsimp only
  rw [frm_step (sndT c d) hj, frm_none, frm_one, if_pos (c := true = true) rfl, if_neg (c := false = true) (by decide)]
  iintro ⟨⟨⟨Hw, #Hwr⟩, ⟨Hr, #Hrr⟩, ⟨Hc, #Hcr⟩⟩, Hs, Hp, Hsc, Hrc, Hcc, Hif, Hpm, Ha, Hb, Hv⟩
  icases Hs with ⟨Ht, Hs⟩
  isplitl [Ht]; · iexact Ht
  isplitl [Hpm]; · iexact Hpm
  isplitr; · iexact Hwr
  isplitr; · iexact Hcr
  iintro Hsc
  isplitl [Hw Hr Hc]
  · isplitl [Hw]
    · isplitl [Hw]; · iexact Hw
      iexact Hwr
    isplitl [Hr]
    · isplitl [Hr]; · iexact Hr
      iexact Hrr
    isplitl [Hc]; · iexact Hc
    iexact Hcr
  isplitl [Hs]; · iexact Hs
  isplitl [Hp]; · iexact Hp
  isplitl [Hsc]; · (isplitl [Hsc]; · iexact Hsc); iempintro
  isplitl [Hrc]; · iexact Hrc
  isplitl [Hcc]; · iexact Hcc
  isplitl [Hif]; · iexact Hif
  isplitr; · iempintro
  isplitl [Ha]; · iexact Ha
  isplitl [Hb]; · iexact Hb
  iexact Hv

theorem ctl_sndw (d : Bool) {nr nc np : ℕ} {a b : Bf} {pm : Bool} {cv : Cv} {r : ℕ} :
    DSt I c d ⟨r + 1, r, nr, nc, np, a, b, pm, cv⟩
      ⊢ iprop(sndC c d r ∗ atPos ERing (cell c (.snd d)) r ∅ 0 ∗ ((atPos ERing (cell c (.snd d)) (r + 1) ∅ 0 ∗ reached ERing (cell c (.snd d)) (r + 1)) -∗ DSt I c d ⟨r + 1, r + 1, nr, nc, np, a, b, pm, cv⟩)) := by
  unfold DSt Pos
  dsimp only
  rw [frm_none, frm_one]
  iintro ⟨⟨⟨Hw, #Hwr⟩, ⟨Hr, #Hrr⟩, ⟨Hc, #Hcr⟩⟩, Hs, Hp, Hsc, Hrc, Hcc, Hif, Hpm, Ha, Hb, Hv⟩
  icases Hsc with ⟨Ht, -⟩
  isplitl [Ht]; · iexact Ht
  isplitl [Hw]; · iexact Hw
  iintro ⟨Hw, #Hwr⟩
  isplitl [Hw Hr Hc]
  · isplitl [Hw]
    · isplitl [Hw]; · iexact Hw
      iexact Hwr
    isplitl [Hr]
    · isplitl [Hr]; · iexact Hr
      iexact Hrr
    isplitl [Hc]; · iexact Hc
    iexact Hcr
  isplitl [Hs]; · iexact Hs
  isplitl [Hp]; · iexact Hp
  isplitr; · iempintro
  isplitl [Hrc]; · iexact Hrc
  isplitl [Hcc]; · iexact Hcc
  isplitl [Hif]; · iexact Hif
  isplitl [Hpm]; · iexact Hpm
  isplitl [Ha]; · iexact Ha
  isplitl [Hb]; · iexact Hb
  iexact Hv

theorem ctl_rcvw (d : Bool) {nw nc ns : ℕ} {a b : Bf} {pm : Bool} {cv : Cv} {r : ℕ} (hr : r < 6) :
    DSt I c d ⟨ns, nw, r, nc, r, a, b, pm, cv⟩
      ⊢ iprop(rcvC c d r ∗ atPos ERing (cell c (.rcv d)) r ∅ 0 ∗ ((atPos ERing (cell c (.rcv d)) (r + 1) ∅ 0 ∗ reached ERing (cell c (.rcv d)) (r + 1) ∗ reached ERing (cell (prv d c) (.crd d)) r) -∗ DSt I c d ⟨ns, nw, r + 1, nc, r, a, b, pm, cv⟩)) := by
  unfold DSt Pos
  dsimp only
  rw [frm_step (rcvC c d) hr, if_pos (Nat.lt_succ_self r)]
  iintro ⟨⟨⟨Hw, #Hwr⟩, ⟨Hr, #Hrr⟩, ⟨Hc, #Hcr⟩⟩, Hs, Hp, Hsc, Hrc, Hcc, Hif, Hpm, Ha, Hb, Hv⟩
  icases Hrc with ⟨Ht, Hrc⟩
  isplitl [Ht]; · iexact Ht
  isplitl [Hr]; · iexact Hr
  iintro ⟨Hr, #Hrr, #Hnew⟩
  isplitl [Hw Hr Hc]
  · isplitl [Hw]
    · isplitl [Hw]; · iexact Hw
      iexact Hwr
    isplitl [Hr]
    · isplitl [Hr]; · iexact Hr
      iexact Hrr
    isplitl [Hc]; · iexact Hc
    iexact Hcr
  isplitl [Hs]; · iexact Hs
  isplitl [Hp]; · iexact Hp
  isplitl [Hsc]; · iexact Hsc
  isplitl [Hrc]; · iexact Hrc
  isplitl [Hcc]; · iexact Hcc
  isplitr; · iexact Hnew
  isplitl [Hpm]; · iexact Hpm
  isplitl [Ha]; · iexact Ha
  isplitl [Hb]; · iexact Hb
  iexact Hv

theorem ctl_crds (d : Bool) {nw nc ns : ℕ} {a b : Bf} {pm : Bool} {cv : Cv} {r : ℕ} (hr : r < 5) :
    DSt I c d ⟨ns, nw, r + 1, nc, r, a, b, pm, cv⟩
      ⊢ iprop(crdT c d r ∗ reached ERing (cell (prv d c) (.crd d)) r ∗ reached ERing (cell c (.rcv d)) (r + 1) ∗ DSt I c d ⟨ns, nw, r + 1, nc, r + 1, a, b, pm, cv⟩) := by
  unfold DSt Pos
  dsimp only
  rw [frm_step (crdT c d) hr, if_pos (Nat.lt_succ_self r), if_neg (Nat.lt_irrefl (r + 1))]
  iintro ⟨⟨⟨Hw, #Hwr⟩, ⟨Hr, #Hrr⟩, ⟨Hc, #Hcr⟩⟩, Hs, Hp, Hsc, Hrc, Hcc, Hif, Hpm, Ha, Hb, Hv⟩
  icases Hp with ⟨Ht, Hp⟩
  isplitl [Ht]; · iexact Ht
  isplitl [Hif]; · iexact Hif
  isplitr; · iexact Hrr
  isplitl [Hw Hr Hc]
  · isplitl [Hw]
    · isplitl [Hw]; · iexact Hw
      iexact Hwr
    isplitl [Hr]
    · isplitl [Hr]; · iexact Hr
      iexact Hrr
    isplitl [Hc]; · iexact Hc
    iexact Hcr
  isplitl [Hs]; · iexact Hs
  isplitl [Hp]; · iexact Hp
  isplitl [Hsc]; · iexact Hsc
  isplitl [Hrc]; · iexact Hrc
  isplitl [Hcc]; · iexact Hcc
  isplitr; · iempintro
  isplitl [Hpm]; · iexact Hpm
  isplitl [Ha]; · iexact Ha
  isplitl [Hb]; · iexact Hb
  iexact Hv

theorem ctl_crdw (d : Bool) {nw nr np : ℕ} {a b : Bf} {cv : Cv} {r : ℕ} (hr : r < 5) :
    DSt I c d ⟨r + 1, nw, nr, r, np, a, b, false, cv⟩
      ⊢ iprop(crdC c d r ∗ atPos ERing (cell c (.crd d)) r ∅ 0 ∗ ((atPos ERing (cell c (.crd d)) (r + 1) ∅ 0 ∗ reached ERing (cell c (.crd d)) (r + 1) ∗ permit (F := F) c d (r + 1)) -∗ DSt I c d ⟨r + 1, nw, nr, r + 1, np, a, b, true, cv⟩)) := by
  unfold DSt Pos
  dsimp only
  rw [frm_step (crdC c d) hr, if_neg (c := false = true) (by decide), if_pos (c := true = true) rfl]
  iintro ⟨⟨⟨Hw, #Hwr⟩, ⟨Hr, #Hrr⟩, ⟨Hc, #Hcr⟩⟩, Hs, Hp, Hsc, Hrc, Hcc, Hif, Hpm, Ha, Hb, Hv⟩
  icases Hcc with ⟨Ht, Hcc⟩
  isplitl [Ht]; · iexact Ht
  isplitl [Hc]; · iexact Hc
  iintro ⟨Hc, #Hcr, Hpm⟩
  isplitl [Hw Hr Hc]
  · isplitl [Hw]
    · isplitl [Hw]; · iexact Hw
      iexact Hwr
    isplitl [Hr]
    · isplitl [Hr]; · iexact Hr
      iexact Hrr
    isplitl [Hc]; · iexact Hc
    iexact Hcr
  isplitl [Hs]; · iexact Hs
  isplitl [Hp]; · iexact Hp
  isplitl [Hsc]; · iexact Hsc
  isplitl [Hrc]; · iexact Hrc
  isplitl [Hcc]; · iexact Hcc
  isplitl [Hif]; · iexact Hif
  isplitl [Hpm]; · iexact Hpm
  isplitl [Ha]; · iexact Ha
  isplitl [Hb]; · iexact Hb
  iexact Hv

theorem ctl_bars (d : Bool) {nw nr nc np ns : ℕ} {a b : Bf} {pm : Bool} {cv : Cv}  :
    DSt I c d ⟨ns, nw, nr, nc, np, a, b, pm, cv⟩
      ⊢ iprop(reached ERing (cell c (.rcv d)) nr ∗ DSt I c d ⟨ns, nw, nr, nc, np, a, b, pm, cv⟩) := by
  unfold DSt Pos
  dsimp only
  iintro ⟨⟨⟨Hw, #Hwr⟩, ⟨Hr, #Hrr⟩, ⟨Hc, #Hcr⟩⟩, Hs, Hp, Hsc, Hrc, Hcc, Hif, Hpm, Ha, Hb, Hv⟩
  isplitr; · iexact Hrr
  isplitl [Hw Hr Hc]
  · isplitl [Hw]
    · isplitl [Hw]; · iexact Hw
      iexact Hwr
    isplitl [Hr]
    · isplitl [Hr]; · iexact Hr
      iexact Hrr
    isplitl [Hc]; · iexact Hc
    iexact Hcr
  isplitl [Hs]; · iexact Hs
  isplitl [Hp]; · iexact Hp
  isplitl [Hsc]; · iexact Hsc
  isplitl [Hrc]; · iexact Hrc
  isplitl [Hcc]; · iexact Hcc
  isplitl [Hif]; · iexact Hif
  isplitl [Hpm]; · iexact Hpm
  isplitl [Ha]; · iexact Ha
  isplitl [Hb]; · iexact Hb
  iexact Hv

theorem ctl_barw (d : Bool) {nw nr nc np ns : ℕ} {a b : Bf} {cv : Cv}  :
    iprop(DSt I c d ⟨ns, nw, nr, nc, np, a, b, false, cv⟩ ∗ permit (F := F) c d ns)
      ⊢ DSt I c d ⟨ns, nw, nr, nc, np, a, b, true, cv⟩ := by
  unfold DSt Pos
  dsimp only
  rw [if_neg (c := false = true) (by decide), if_pos (c := true = true) rfl]
  iintro ⟨⟨⟨⟨Hw, #Hwr⟩, ⟨Hr, #Hrr⟩, ⟨Hc, #Hcr⟩⟩, Hs, Hp, Hsc, Hrc, Hcc, Hif, Hpm, Ha, Hb, Hv⟩, Hnew⟩
  isplitl [Hw Hr Hc]
  · isplitl [Hw]
    · isplitl [Hw]; · iexact Hw
      iexact Hwr
    isplitl [Hr]
    · isplitl [Hr]; · iexact Hr
      iexact Hrr
    isplitl [Hc]; · iexact Hc
    iexact Hcr
  isplitl [Hs]; · iexact Hs
  isplitl [Hp]; · iexact Hp
  isplitl [Hsc]; · iexact Hsc
  isplitl [Hrc]; · iexact Hrc
  isplitl [Hcc]; · iexact Hcc
  isplitl [Hif]; · iexact Hif
  isplitl [Hnew]; · iexact Hnew
  isplitl [Ha]; · iexact Ha
  isplitl [Hb]; · iexact Hb
  iexact Hv

/-! ## Buffers given away and got back -/

theorem give_early (d : Bool) {j : ℕ} (hj : j < 3) :
    bown I c d (srcB j) (.full j) ⊢ iprop(pts c d (srcB j) (lent j) (snt I d j c) ∗ bown I c d (srcB j) .none) := by
  unfold bown lent
  rw [if_pos hj]
  iintro H
  isplitl [H]; · iexact H
  iempintro

theorem pts_share (d b : Bool) (f : Cont F) :
    pts c d b fullShare f ⊣⊢ iprop(pts c d b fullShare.left f ∗ pts c d b fullShare.right f) := by
  cases d <;> cases b <;> exact pointsTo_share (PosShare.mem_left_op_right fullShare)

theorem give_late (d : Bool) {j : ℕ} (hj : ¬ j < 3) :
    bown I c d (srcB j) (.full j) ⊢ iprop(pts c d (srcB j) (lent j) (snt I d j c) ∗ bown I c d (srcB j) (.half j)) := by
  unfold bown lent
  rw [if_neg hj]
  exact (pts_share c d _ _).1

theorem back_early (d : Bool) {j : ℕ} (hj : j < 3) :
    iprop(bown I c d (srcB j) .none ∗ pts c d (srcB j) (lent j) (snt I d j c)) ⊢ bown I c d (srcB j) (.part (j + 1) 0) := by
  unfold bown lent
  rw [if_pos hj]
  iintro ⟨-, H⟩
  iexists (snt I d j c)
  isplitr; · ipureintro; exact Agr_zero _ _
  iexact H

theorem back_late (d : Bool) {j : ℕ} (hj : ¬ j < 3) :
    iprop(bown I c d (srcB j) (.half j) ∗ pts c d (srcB j) (lent j) (snt I d j c)) ⊢ bown I c d (srcB j) (.full j) := by
  unfold bown lent
  rw [if_neg hj]
  iintro ⟨H1, H2⟩
  iapply (pts_share c d _ _).2
  isplitl [H2]; · iexact H2
  iexact H1

theorem land_early (d : Bool) {j : ℕ} (b : Bool) :
    pts c d b fullShare (snt I d j (prv d c)) ⊢ bown I c d b (.got j) := Entails.refl _

theorem land_late (d : Bool) {j : ℕ} (hj : 3 ≤ j) (b : Bool) :
    pts c d b fullShare (snt I d j (prv d c)) ⊢ bown I c d b (.full (j + 1)) := by
  rw [← snt_fwd I d c j hj]
  exact Entails.refl _

end

section
variable (I : Inp F) (K : Dev nD × Kd → ℕ) (c : Dev nD) {n bs : ℕ} {s : DS × DS} {o : Ou} {α : Type}

/-! ## The steps -/

/-- A handshake signal to the neighbour that sends to this device. -/
theorem step_barsig {Q : α → sProp 𝕄} (d : Bool) {nw nc np ns : ℕ} {a b : Bf} {pm : Bool} {cv : Cv}
    (hs : sel d s = ⟨ns, nw, 0, nc, np, a, b, pm, cv⟩) (hb : b.whole = true)
    {y : Dev nD} (hy : y = prv d c) {sem : Sem sig} (hsem : SemLoc.reg sem = semOf .bar)
    (hp : payAt c (23 - n) = (prv d c, .bar, 0))
    {kk : PUnit → Prog (TpuEff nD τ sig (Elt F) Λ₀ .tc) α}
    (hk : St I K c n (d.toNat + 1) (upd d s ⟨ns, nw, 0, nc, np, a, .none, pm, cv⟩) o ⊢ WP c (kk ⟨⟩) Q) :
    St I K c (n + 1) d.toNat s o ⊢ WP c (.op (.semSignal (y : Thread nD τ) sem ((1 : ℕ) : ℤ)) kk) Q := by
  subst hy
  have hbuf := buf_out I c d true ⟨ns, nw, 0, nc, np, a, b, pm, cv⟩
  rw [show (⟨ns, nw, 0, nc, np, a, b, pm, cv⟩ : DS).get true = b from rfl] at hbuf
  have hany := bown_any I c d true hb
  have hsig : iprop(recs I K ∗ OW c (n + 1) ∗ dutyTok ERing (cell (prv d c) .bar) 0 d ∗ DSt I c d (sel d s)
      ∗ ((OW c n ∗ DSt I c d ⟨ns, nw, 0, nc, np, a, .none, pm, cv⟩) -∗ WP c (kk ⟨⟩) Q))
      ⊢ WP c (.op (.semSignal (prv d c : Thread nD τ) sem ((1 : ℕ) : ℤ)) kk) Q := by
    rw [hs]
    iintro ⟨#Hr, Ho, Ht, H, Hk⟩
    ihave H := (ctl_bars I c d) $$ H
    icases H with ⟨#Hrr, H⟩
    ihave H := hbuf $$ H
    icases H with ⟨Hb, Hback⟩
    ihave Hb := hany $$ Hb
    ihave H := Hback $$ %Bf.none []
    · rw [show bown I c d true .none = iprop(emp) from rfl]; iempintro
    iapply (wp_sig_cell c I (K (prv d c, .bar)) .bar (prv d c) hsem (r := 0) (n := n) (k' := 1) (b := d) (Finset.mem_univ d) rfl hp) $$ [Ho Ht Hb]
    · isplitr; · iapply (recs_inv I K (prv d c) .bar); iexact Hr
      isplitl [Ho]; · iexact Ho
      isplitl [Ht]; · iexact Ht
      isplitl [Hb]
      · rw [show pay (SS I) (prv d c) .bar 0 d = permit (prv d c) d 0 from rfl]
        unfold permit
        rw [nxt_prv]
        isplitl [Hb]; · iexact Hb
        iexact Hrr
      iapply (recs_bar I K (prv d c)); iexact Hr
    iintro Ho
    iapply Hk
    isplitl [Ho]; · iexact Ho
    iexact H
  have hk' := hk
  unfold St at hk' ⊢
  cases d
  · rw [show BarSt (F := F) c false.toNat = iprop(dutyTok ERing (cell (prv false c) .bar) 0 false ∗ dutyTok ERing (cell (prv true c) .bar) 0 true
        ∗ atPos ERing (cell c .bar) 0 ∅ 0 ∗ cred (tallyAt (cell c .bar) 0 2)) from rfl]
    rw [show BarSt (F := F) c (false.toNat + 1) = iprop(dutyTok ERing (cell (prv true c) .bar) 0 true
        ∗ atPos ERing (cell c .bar) 0 ∅ 0 ∗ cred (tallyAt (cell c .bar) 0 2)) from rfl] at hk'
    iintro ⟨#Hr, Ho, Hx, ⟨Ht, Hbar⟩, Hf, Htt, Hu⟩
    iapply hsig
    isplitr; · iexact Hr
    isplitl [Ho]; · iexact Ho
    isplitl [Ht]; · iexact Ht
    isplitl [Hf]; · iexact Hf
    iintro ⟨Ho, Hf⟩
    iapply hk'
    isplitr; · iexact Hr
    isplitl [Ho]; · iexact Ho
    isplitl [Hx]; · iexact Hx
    isplitl [Hbar]; · iexact Hbar
    isplitl [Hf]; · iexact Hf
    isplitl [Htt]; · iexact Htt
    iexact Hu
  · rw [show BarSt (F := F) c true.toNat = iprop(dutyTok ERing (cell (prv true c) .bar) 0 true
        ∗ atPos ERing (cell c .bar) 0 ∅ 0 ∗ cred (tallyAt (cell c .bar) 0 2)) from rfl]
    rw [show BarSt (F := F) c (true.toNat + 1) = iprop(atPos ERing (cell c .bar) 0 ∅ 0 ∗ cred (tallyAt (cell c .bar) 0 2)) from rfl] at hk'
    iintro ⟨#Hr, Ho, Hx, ⟨Ht, Hbar⟩, Hf, Htt, Hu⟩
    iapply hsig
    isplitr; · iexact Hr
    isplitl [Ho]; · iexact Ho
    isplitl [Ht]; · iexact Ht
    isplitl [Htt]; · iexact Htt
    iintro ⟨Ho, Htt⟩
    iapply hk'
    isplitr; · iexact Hr
    isplitl [Ho]; · iexact Ho
    isplitl [Hx]; · iexact Hx
    isplitl [Hbar]; · iexact Hbar
    isplitl [Hf]; · iexact Hf
    isplitl [Htt]; · iexact Htt
    iexact Hu

/-- The wait for both neighbours' handshakes. -/
theorem step_barwait {Q : α → sProp 𝕄} {nw nr nc np nw' nr' nc' np' : ℕ} {a b a' b' : Bf} {cv cv' : Cv}
    {sem : Sem sig} (hsem : SemLoc.reg sem = semOf .bar) (hn : n ≤ 22)
    {kk : PUnit → Prog (TpuEff nD τ sig (Elt F) Λ₀ .tc) α}
    (hk : St I K c n 3 (⟨0, nw, nr, nc, np, a, b, true, cv⟩, ⟨0, nw', nr', nc', np', a', b', true, cv'⟩) o ⊢ WP c (kk ⟨⟩) Q) :
    St I K c n 2 (⟨0, nw, nr, nc, np, a, b, false, cv⟩, ⟨0, nw', nr', nc', np', a', b', false, cv'⟩) o
      ⊢ WP c (.op (.semWait sem ((2 : ℕ) : ℤ)) kk) Q := by
  have hk' := hk
  unfold St at hk' ⊢
  rw [show BarSt (F := F) c 2 = iprop(atPos ERing (cell c .bar) 0 ∅ 0 ∗ cred (tallyAt (cell c .bar) 0 2)) from rfl]
  rw [show BarSt (F := F) c 3 = atPos ERing (cell c .bar) 1 ∅ 0 from rfl] at hk'
  have hw : ∀ X : PUnit → sProp 𝕄, wpE (defs₀ (F := F)) 𝒱₀ (c : Thread nD τ) none Set.univ (.semWait sem ((2 : ℕ) : ℤ)) X
      = waitSpec (c : Thread nD τ) Set.univ (semOf .bar) 2 X := fun X => by
    rw [← hsem]; rfl
  iintro ⟨#Hr, Ho, Hx, ⟨Hat, Hc⟩, Hf, Ht, Hu⟩
  iapply (wp_wait_cell c I (K (c, .bar)) .bar (k' := 2) (r := 0) (n := n)
    hw (by rfl) (by decide) (by omega) (by show 1 < max 1 (24 - n); omega)) $$ [Hat Hc Ho]
  · isplitr; · iapply (recs_inv I K c .bar); iexact Hr
    isplitr; · iapply (recs_lev I K); iexact Hr
    isplitl [Hc]; · iexact Hc
    isplitl [Ho]; · iexact Ho
    iexact Hat
  rw [rest_bar]
  iintro ⟨Ho, Hat, -, ⟨Hp₀, Hp₁⟩⟩
  iapply hk'
  isplitr; · iexact Hr
  isplitl [Ho]; · iexact Ho
  isplitl [Hx]; · iexact Hx
  isplitl [Hat]; · iexact Hat
  isplitl [Hf Hp₀]
  · iapply (ctl_barw I c false)
    isplitl [Hf]; · iexact Hf
    iexact Hp₀
  isplitl [Ht Hp₁]
  · iapply (ctl_barw I c true)
    isplitl [Ht]; · iexact Ht
    iexact Hp₁
  iexact Hu

/-- A send. -/
theorem step_send {Q : α → sProp 𝕄} (d : Bool) {j nr np : ℕ} {a b : Bf} {cv : Cv} (y' : Bf)
    (hs : sel d s = ⟨j, j, nr, j, np, a, b, true, cv⟩) (hj : j < 6)
    (hb : (⟨j, j, nr, j, np, a, b, true, cv⟩ : DS).get (srcB j) = .full j)
    (hgive : bown I c d (srcB j) (.full j) ⊢ iprop(pts c d (srcB j) (lent j) (snt I d j c) ∗ bown I c d (srcB j) y'))
    {y : Dev nD} (hy : y = nxt d c) {sS sR : SemLoc sig} (hS : sS = semOf (.snd d)) (hR : sR = semOf (.rcv d))
    (hp : payAt c (23 - n) = (nxt d c, .rcv d, j))
    {hsc : (buf d (!(srcB j))).view.ref.isScScratch = false} {hsrc : (buf d (srcB j)).view.WordExact} {hdst : (buf d (!(srcB j))).view.WordExact}
    {hsem : DmaTarget.Typed .vmem sR (.remote (Dev.tc y : Thread nD τ) (buf d (!(srcB j))) sS hsc)}
    {kk : PUnit → Prog (TpuEff nD τ sig (Elt F) Λ₀ .tc) α}
    (hk : St I K c n bs (upd d s ((⟨j + 1, j, nr, j, np, a, b, false, cv⟩ : DS).set (srcB j) y')) o ⊢ WP c (kk ⟨⟩) Q) :
    St I K c (n + 1) bs s o
      ⊢ WP c (.op (.enqueueDma (buf d (srcB j)) (.remote (Dev.tc y : Thread nD τ) (buf d (!(srcB j))) sS hsc) sR hsrc hdst hsem) kk) Q := by
  refine dir_out I K c d (n + 1) n bs s _ o o (R := WP c (kk ⟨⟩) Q) ?_ hk
  have hbuf := buf_out I c d (srcB j) ⟨j, j, nr, j, np, a, b, true, cv⟩
  rw [hb] at hbuf
  rw [hs]
  obtain ⟨a₂, b₂, h₁, h₂⟩ : ∃ a₂ b₂, (⟨j, j, nr, j, np, a, b, true, cv⟩ : DS).set (srcB j) y' = ⟨j, j, nr, j, np, a₂, b₂, true, cv⟩
      ∧ (⟨j + 1, j, nr, j, np, a, b, false, cv⟩ : DS).set (srcB j) y' = ⟨j + 1, j, nr, j, np, a₂, b₂, false, cv⟩ := by
    cases (srcB j) <;> exact ⟨_, _, rfl, rfl⟩
  rw [h₂]
  have hctl := ctl_send I c d (nr := nr) (np := np) (a := a₂) (b := b₂) (cv := cv) hj
  unfold sndT at hctl
  have hP : pay (SS I) (nxt d c) (.rcv d) j false
      = iprop(pts (nxt d c) d (dstB j) fullShare (snt I d j c) ∗ reached ERing (cell c (.crd d)) j) := by
    show iprop(pts (nxt d c) d (dstB j) fullShare (snt I d j (prv d (nxt d c))) ∗ reached ERing (cell (prv d (nxt d c)) (.crd d)) j) = _
    rw [prv_nxt]
  iintro ⟨#Hr, Ho, H, Hu, Hk⟩
  ihave H := hbuf $$ H
  icases H with ⟨Hb, Hback⟩
  ihave Hb := hgive $$ Hb
  icases Hb with ⟨Hsrc, Hb⟩
  ihave H := Hback $$ %y' Hb
  rw [h₁]
  ihave H := hctl $$ H
  icases H with ⟨⟨Hd₁, Hd₂⟩, Hperm, #Hsr, #Hcr, H⟩
  unfold permit
  icases Hperm with ⟨⟨%g, Hg⟩, #Hrr⟩
  iapply (wp_send_buf c I d (srcB j) (lent j) (snt I d j c) g (reached ERing (cell c (.crd d)) j) (K (c, .snd d)) (K (nxt d c, .rcv d)) hj hp
      (Entails.refl _) (Entails.of_eq hP.symm) hy hS hR) $$ [Hsrc Hg Ho Hd₁ Hd₂]
  · isplitr; · iapply (recs_inv I K c (.snd d)); iexact Hr
    isplitr; · iapply (recs_inv I K (nxt d c) (.rcv d)); iexact Hr
    isplitl [Hsrc]; · iexact Hsrc
    isplitl [Hg]
    · isplitl [Hg]; · iexact Hg
      iexact Hcr
    isplitl [Ho]; · iexact Ho
    isplitl [Hd₁]; · iexact Hd₁
    isplitr; · iexact Hsr
    isplitl [Hd₂]; · iexact Hd₂
    iexact Hrr
  iintro ⟨Hc, Ho⟩
  iapply Hk
  isplitl [Ho]; · iexact Ho
  isplitl [H Hc]
  · iapply H; iexact Hc
  iexact Hu

/-- The wait for a send's source. -/
theorem step_sndwait {Q : α → sProp 𝕄} (d : Bool) (r : ℕ) {nr nc np : ℕ} {a b x : Bf} {pm : Bool} {cv : Cv} (y' : Bf)
    (hs : sel d s = ⟨r + 1, r, nr, nc, np, a, b, pm, cv⟩) (hr : r < 6) (hn : n ≤ 24)
    (hx : (⟨r + 1, r, nr, nc, np, a, b, pm, cv⟩ : DS).get (srcB r) = x)
    (hback : iprop(bown I c d (srcB r) x ∗ pts c d (srcB r) (lent r) (snt I d r c)) ⊢ bown I c d (srcB r) y')
    {sem : DmaSem sig} (hsm : SemLoc.dma sem = semOf (.snd d))
    {sp sp' : Space} {sh sh' : Shape} {e e' : EltTy} {κ' : Kind}
    {srcw : Memref sig .tc sp' sh' e'} {dstw : Memref sig κ' sp sh e} {hsrc : srcw.view.WordExact} {hdst : dstw.view.WordExact}
    (hN : dstw.view.dmaCredit = N)
    {kk : PUnit → Prog (TpuEff nD τ sig (Elt F) Λ₀ .tc) α}
    (hk : St I K c n bs (upd d s ((⟨r + 1, r + 1, nr, nc, np, a, b, pm, cv⟩ : DS).set (srcB r) y')) o ⊢ WP c (kk ⟨⟩) Q) :
    St I K c n bs s o ⊢ WP c (.op (.waitDma2 sem srcw dstw hsrc hdst) kk) Q := by
  refine dir_out I K c d n n bs s _ o o (R := WP c (kk ⟨⟩) Q) ?_ hk
  have hbuf := buf_out I c d (srcB r) ⟨r + 1, r, nr, nc, np, a, b, pm, cv⟩
  rw [hx] at hbuf
  rw [hs]
  obtain ⟨a₂, b₂, h₂⟩ : ∃ a₂ b₂, (⟨r + 1, r + 1, nr, nc, np, a, b, pm, cv⟩ : DS).set (srcB r) y' = ⟨r + 1, r + 1, nr, nc, np, a₂, b₂, pm, cv⟩
      ∧ (⟨r + 1, r, nr, nc, np, a, b, pm, cv⟩ : DS).set (srcB r) y' = ⟨r + 1, r, nr, nc, np, a₂, b₂, pm, cv⟩ := by
    cases (srcB r) <;> exact ⟨_, _, rfl, rfl⟩
  rw [h₂.1]
  have hctl' := ctl_sndw I c d (r := r) (nr := nr) (nc := nc) (np := np) (a := a) (b := b) (pm := pm) (cv := cv)
  have hbuf' := buf_out I c d (srcB r) ⟨r + 1, r + 1, nr, nc, np, a, b, pm, cv⟩
  rw [show (⟨r + 1, r + 1, nr, nc, np, a, b, pm, cv⟩ : DS).get (srcB r) = x from hx ▸ (by cases (srcB r) <;> rfl), ] at hbuf'
  iintro ⟨#Hr, Ho, H, Hu, Hk⟩
  ihave H := hctl' $$ H
  icases H with ⟨Hc, Hat, H⟩
  unfold sndC
  have hw : ∀ X : PUnit → sProp 𝕄, wpE (defs₀ (F := F)) 𝒱₀ (c : Thread nD τ) none Set.univ (.waitDma2 sem srcw dstw hsrc hdst) X
      = waitSpec (c : Thread nD τ) Set.univ (semOf (.snd d)) N X := fun X => by
    rw [← hsm, ← hN]; rfl
  iapply (wp_wait_cell c I (K (c, .snd d)) (.snd d) (k' := N) (r := r) (n := n)
    hw
    (by rw [single_snd d hr, Finset.card_singleton, Nat.one_mul]; rfl) hr hn (by show 0 < max 1 (24 - n); omega)) $$ [Hat Hc Ho]
  · isplitr; · iapply (recs_inv I K c (.snd d)); iexact Hr
    isplitr; · iapply (recs_lev I K); iexact Hr
    isplitl [Hc]; · iexact Hc
    isplitl [Ho]; · iexact Ho
    iexact Hat
  rw [rest_single (SS I) c (.snd d) r (single_snd d hr), show pay (SS I) c (.snd d) r false = pts c d (srcB r) (lent r) (snt I d r c) from rfl]
  iintro ⟨Ho, Hat, #Hre, Hp⟩
  iapply Hk
  isplitl [Ho]; · iexact Ho
  isplitl [H Hat Hp]
  · ihave H := H $$ [Hat]
    · isplitl [Hat]; · iexact Hat
      iexact Hre
    ihave H := hbuf' $$ H
    icases H with ⟨Hb, Hback⟩
    rw [← h₂.1]
    iapply Hback $$ %y'
    iapply hback
    isplitl [Hb]; · iexact Hb
    iexact Hp
  iexact Hu

/-- The wait for an arrival. -/
theorem step_rcvwait {Q : α → sProp 𝕄} (d : Bool) (r : ℕ) {nc nw ns : ℕ} {a b : Bf} {pm : Bool} {cv : Cv} (y' : Bf)
    (hs : sel d s = ⟨ns, nw, r, nc, r, a, b, pm, cv⟩) (hr : r < 6) (hn : n ≤ 24) (hl : place (.rcv d) r < max 1 (24 - n))
    (hland : pts c d (dstB r) fullShare (snt I d r (prv d c)) ⊢ bown I c d (dstB r) y')
    {sem : DmaSem sig} (hsm : SemLoc.dma sem = semOf (.rcv d))
    {sp sp' : Space} {sh sh' : Shape} {e e' : EltTy} {κ' : Kind}
    {srcw : Memref sig .tc sp' sh' e'} {dstw : Memref sig κ' sp sh e} {hsrc : srcw.view.WordExact} {hdst : dstw.view.WordExact}
    (hN : dstw.view.dmaCredit = N)
    {kk : PUnit → Prog (TpuEff nD τ sig (Elt F) Λ₀ .tc) α}
    (hk : St I K c n bs (upd d s ((⟨ns, nw, r + 1, nc, r, a, b, pm, cv⟩ : DS).set (dstB r) y')) o ⊢ WP c (kk ⟨⟩) Q) :
    St I K c n bs s o ⊢ WP c (.op (.waitDma2 sem srcw dstw hsrc hdst) kk) Q := by
  refine dir_out I K c d n n bs s _ o o (R := WP c (kk ⟨⟩) Q) ?_ hk
  rw [hs]
  have hctl := ctl_rcvw I c d (r := r) (ns := ns) (nw := nw) (nc := nc) (a := a) (b := b) (pm := pm) (cv := cv) hr
  have hbuf := buf_out I c d (dstB r) ⟨ns, nw, r + 1, nc, r, a, b, pm, cv⟩
  iintro ⟨#Hr, Ho, H, Hu, Hk⟩
  ihave H := hctl $$ H
  icases H with ⟨Hc, Hat, H⟩
  unfold rcvC
  have hw : ∀ X : PUnit → sProp 𝕄, wpE (defs₀ (F := F)) 𝒱₀ (c : Thread nD τ) none Set.univ (.waitDma2 sem srcw dstw hsrc hdst) X
      = waitSpec (c : Thread nD τ) Set.univ (semOf (.rcv d)) N X := fun X => by
    rw [← hsm, ← hN]; rfl
  iapply (wp_wait_cell c I (K (c, .rcv d)) (.rcv d) (k' := N) (r := r) (n := n)
    hw
    (by rw [single_rcv d hr, Finset.card_singleton, Nat.one_mul]; rfl) hr hn hl) $$ [Hat Hc Ho]
  · isplitr; · iapply (recs_inv I K c (.rcv d)); iexact Hr
    isplitr; · iapply (recs_lev I K); iexact Hr
    isplitl [Hc]; · iexact Hc
    isplitl [Ho]; · iexact Ho
    iexact Hat
  rw [rest_single (SS I) c (.rcv d) r (single_rcv d hr), show pay (SS I) c (.rcv d) r false
    = iprop(pts c d (dstB r) fullShare (snt I d r (prv d c)) ∗ reached ERing (cell (prv d c) (.crd d)) r) from rfl]
  iintro ⟨Ho, Hat, #Hre, ⟨Hp, #Hcr⟩⟩
  iapply Hk
  isplitl [Ho]; · iexact Ho
  isplitl [H Hat Hp]
  · ihave H := H $$ [Hat]
    · isplitl [Hat]; · iexact Hat
      isplitr; · iexact Hre
      iexact Hcr
    ihave H := hbuf $$ H
    icases H with ⟨-, Hback⟩
    iapply Hback $$ %y'
    iapply hland
    iexact Hp
  iexact Hu

/-- A credit paid to the device that sends to this one. -/
theorem step_crdsig {Q : α → sProp 𝕄} (d : Bool) (r : ℕ) {nc nw ns : ℕ} {a b x : Bf} {pm : Bool} {cv : Cv}
    (hs : sel d s = ⟨ns, nw, r + 1, nc, r, a, b, pm, cv⟩) (hr : r < 5)
    (hx : (⟨ns, nw, r + 1, nc, r + 1, a, b, pm, cv⟩ : DS).get (dstB (r + 1)) = x)
    (hb : x.whole = true)
    {y : Dev nD} (hy : y = prv d c) {sem : Sem sig} (hsem : SemLoc.reg sem = semOf (.crd d))
    (hp : payAt c (23 - n) = (prv d c, .crd d, r))
    {kk : PUnit → Prog (TpuEff nD τ sig (Elt F) Λ₀ .tc) α}
    (hk : St I K c n bs (upd d s ((⟨ns, nw, r + 1, nc, r + 1, a, b, pm, cv⟩ : DS).set (dstB (r + 1)) .none)) o ⊢ WP c (kk ⟨⟩) Q) :
    St I K c (n + 1) bs s o ⊢ WP c (.op (.semSignal (y : Thread nD τ) sem ((1 : ℕ) : ℤ)) kk) Q := by
  subst hy
  refine dir_out I K c d (n + 1) n bs s _ o o (R := WP c (kk ⟨⟩) Q) ?_ hk
  rw [hs]
  have hctl := ctl_crds I c d (r := r) (ns := ns) (nw := nw) (nc := nc) (a := a) (b := b) (pm := pm) (cv := cv) hr
  have hbuf := buf_out I c d (dstB (r + 1)) ⟨ns, nw, r + 1, nc, r + 1, a, b, pm, cv⟩
  rw [hx] at hbuf
  have hany := bown_any I c d (dstB (r + 1)) hb
  iintro ⟨#Hr, Ho, H, Hu, Hk⟩
  ihave H := hctl $$ H
  icases H with ⟨Ht, Hcr, #Hrr, H⟩
  ihave H := hbuf $$ H
  icases H with ⟨Hb, Hback⟩
  ihave Hb := hany $$ Hb
  ihave H := Hback $$ %Bf.none []
  · rw [show bown I c d (dstB (r + 1)) .none = iprop(emp) from rfl]; iempintro
  unfold crdT
  iapply (wp_sig_cell c I (K (prv d c, .crd d)) (.crd d) (prv d c) hsem (r := r) (n := n) (k' := 1) (b := false)
    (by rw [single_crd d hr]; exact Finset.mem_singleton_self _) rfl hp) $$ [Ho Ht Hb Hcr]
  · isplitr; · iapply (recs_inv I K (prv d c) (.crd d)); iexact Hr
    isplitl [Ho]; · iexact Ho
    isplitl [Ht]; · iexact Ht
    isplitl [Hb]
    · rw [show pay (SS I) (prv d c) (.crd d) r false = permit (prv d c) d (r + 1) from rfl]
      unfold permit
      rw [nxt_prv]
      isplitl [Hb]; · iexact Hb
      iexact Hrr
    iexact Hcr
  iintro Ho
  iapply Hk
  isplitl [Ho]; · iexact Ho
  isplitl [H]; · iexact H
  iexact Hu

/-- The wait for a credit, which permits the next send. -/
theorem step_crdwait {Q : α → sProp 𝕄} (d : Bool) (r : ℕ) {nw nr np : ℕ} {a b : Bf} {cv : Cv}
    (hs : sel d s = ⟨r + 1, nw, nr, r, np, a, b, false, cv⟩) (hr : r < 5) (hn : n ≤ 24) (hl : place (.crd d) r < max 1 (24 - n))
    {sem : Sem sig} (hsm : SemLoc.reg sem = semOf (.crd d))
    {kk : PUnit → Prog (TpuEff nD τ sig (Elt F) Λ₀ .tc) α}
    (hk : St I K c n bs (upd d s ⟨r + 1, nw, nr, r + 1, np, a, b, true, cv⟩) o ⊢ WP c (kk ⟨⟩) Q) :
    St I K c n bs s o ⊢ WP c (.op (.semWait sem ((1 : ℕ) : ℤ)) kk) Q := by
  refine dir_out I K c d n n bs s _ o o (R := WP c (kk ⟨⟩) Q) ?_ hk
  rw [hs]
  have hctl := ctl_crdw I c d (r := r) (nw := nw) (nr := nr) (np := np) (a := a) (b := b) (cv := cv) hr
  iintro ⟨#Hr, Ho, H, Hu, Hk⟩
  ihave H := hctl $$ H
  icases H with ⟨Hc, Hat, H⟩
  unfold crdC
  have hw : ∀ X : PUnit → sProp 𝕄, wpE (defs₀ (F := F)) 𝒱₀ (c : Thread nD τ) none Set.univ (.semWait sem ((1 : ℕ) : ℤ)) X
      = waitSpec (c : Thread nD τ) Set.univ (semOf (.crd d)) 1 X := fun X => by
    rw [← hsm]; rfl
  iapply (wp_wait_cell c I (K (c, .crd d)) (.crd d) (k' := 1) (r := r) (n := n)
    hw
    (by rw [single_crd d hr, Finset.card_singleton, Nat.one_mul]; rfl) (by omega) hn hl) $$ [Hat Hc Ho]
  · isplitr; · iapply (recs_inv I K c (.crd d)); iexact Hr
    isplitr; · iapply (recs_lev I K); iexact Hr
    isplitl [Hc]; · iexact Hc
    isplitl [Ho]; · iexact Ho
    iexact Hat
  rw [rest_single (SS I) c (.crd d) r (single_crd d hr), show pay (SS I) c (.crd d) r false = permit c d (r + 1) from rfl]
  iintro ⟨Ho, Hat, #Hre, Hp⟩
  iapply Hk
  isplitl [Ho]; · iexact Ho
  isplitl [H Hat Hp]
  · iapply H
    isplitl [Hat]; · iexact Hat
    isplitr; · iexact Hre
    iexact Hp
  iexact Hu

end

end Cert.KernelIdeal.Hand

end
-- ==== Proof.Walk.lean ====
/-
What the walk through the kernel's body needs besides the steps.
-/
module

public import proofs.«01_k».proof.Proof.Exchange

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UAll ℕ

theorem step_dev (I : Inp F) (K : Dev nD × Kd → ℕ) (c : Dev nD) {n bs : ℕ} {s : DS × DS} {o : Ou} {α : Type} {Q : α → sProp 𝕄}
    {kk : Dev nD → Prog (TpuEff nD τ sig (Elt F) Λ₀ .tc) α} (hk : St I K c n bs s o ⊢ WP c (kk c) Q) :
    St I K c n bs s o ⊢ WP c (.op .deviceId kk) Q := by
  refine hk.trans (Entails.of_eq ?_)
  exact (wp_deviceId 𝒱₀ (c : Thread nD τ) none Set.univ).symm

end Cert.KernelIdeal.Hand

end
-- ==== Proof.Body1.lean ====
/-
The kernel's body, parts 1 to 3: each step of the program as a step of the state.
-/
module

public import proofs.«01_k».proof.Proof.Walk

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UAll ℕ

variable (I : Inp F) (K : Dev nD × Kd → ℕ) (c : Dev nD) {α : Type}

set_option maxRecDepth 4096

theorem part1 {Q : α → sProp 𝕄} {kk : (Σ' (d0 : Dev nD) (v2 : BitVec 32) (v4 : BitVec 32) (v7 : BitVec 32) (v10 : F .f32) (v17 : BitVec 32), FVec F S256x4096 .bf16) → Prog (TpuEff nD τ sig (Elt F) Λ₀ .tc) α}
    (hk : ∀ (v2 : BitVec 32) (v4 : BitVec 32) (v7 : BitVec 32) (v17 : BitVec 32), St I K c 22 3 (⟨0, 0, 0, 0, 0, .part 0 0, .none, true, .any⟩, ⟨0, 0, 0, 0, 0, .part 0 0, .none, true, .any⟩) (.rest 0 0) ⊢ WP c (kk ⟨c, v2, v4, v7, (scl I c), v17, (k0_pay3 (xStrip I c 0 0) (wHalf I c false))⟩) Q) :
    St I K c 24 0 (⟨0, 0, 0, 0, 0, .part 0 0, .part 0 0, false, .any⟩, ⟨0, 0, 0, 0, 0, .part 0 0, .part 0 0, false, .any⟩) (.rest 0 0)
      ⊢ WP c (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9  >>= kk) Q := by
  rw [k0_part1_eq_skeleton]
  unfold k0_part1_skel
  simp only [semSignalWord, semWaitWord, smemLoad, smemLoadElt, Prog.lift, Prog.bind_op, Prog.bind_ret, Prog.pure_eq_ret, Prog.bind_assoc]
  refine step_dev I K c ?_
  show St I K c 24 0 (⟨0, 0, 0, 0, 0, .part 0 0, .part 0 0, false, .any⟩, ⟨0, 0, 0, 0, 0, .part 0 0, .part 0 0, false, .any⟩) (.rest 0 0) ⊢ _
  refine step_sx I K c ?_
  show St I K c 24 0 (⟨0, 0, 0, 0, 0, .part 0 0, .part 0 0, false, .any⟩, ⟨0, 0, 0, 0, 0, .part 0 0, .part 0 0, false, .any⟩) (.rest 0 0) ⊢ _
  refine step_sw I K c ?_
  show St I K c 24 0 (⟨0, 0, 0, 0, 0, .part 0 0, .part 0 0, false, .any⟩, ⟨0, 0, 0, 0, 0, .part 0 0, .part 0 0, false, .any⟩) (.rest 0 0) ⊢ _
  refine step_barsig I K c false rfl rfl (Fin.ext (k0_dev1_eq c)) rfl rfl ?_
  show St I K c 23 1 (⟨0, 0, 0, 0, 0, .part 0 0, .none, false, .any⟩, ⟨0, 0, 0, 0, 0, .part 0 0, .part 0 0, false, .any⟩) (.rest 0 0) ⊢ _
  refine step_barsig I K c true rfl rfl (Fin.ext (k0_dev2_eq c)) rfl rfl ?_
  show St I K c 22 2 (⟨0, 0, 0, 0, 0, .part 0 0, .none, false, .any⟩, ⟨0, 0, 0, 0, 0, .part 0 0, .none, false, .any⟩) (.rest 0 0) ⊢ _
  refine step_barwait I K c rfl (by decide) ?_
  show St I K c 22 3 (⟨0, 0, 0, 0, 0, .part 0 0, .none, true, .any⟩, ⟨0, 0, 0, 0, 0, .part 0 0, .none, true, .any⟩) (.rest 0 0) ⊢ _
  refine step_x I K c 0 0 ?_
  show St I K c 22 3 (⟨0, 0, 0, 0, 0, .part 0 0, .none, true, .any⟩, ⟨0, 0, 0, 0, 0, .part 0 0, .none, true, .any⟩) (.rest 0 0) ⊢ _
  refine step_w I K c false ?_
  show St I K c 22 3 (⟨0, 0, 0, 0, 0, .part 0 0, .none, true, .any⟩, ⟨0, 0, 0, 0, 0, .part 0 0, .none, true, .any⟩) (.rest 0 0) ⊢ _
  exact hk _ _ _ _

theorem part2 {Q : α → sProp 𝕄} {kk : (FVec F S256x1024 .fp8e5m2) → Prog (TpuEff nD τ sig (Elt F) Λ₀ .tc) α} (v17 : BitVec 32)
    (hk : St I K c 22 3 (⟨0, 0, 0, 0, 0, .part 0 3, .none, true, .any⟩, ⟨0, 0, 0, 0, 0, .part 0 0, .none, true, .any⟩) (.rest 0 0) ⊢ WP c (kk (k0_pay7 (xStrip I c 0 3))) Q) :
    St I K c 22 3 (⟨0, 0, 0, 0, 0, .part 0 0, .none, true, .any⟩, ⟨0, 0, 0, 0, 0, .part 0 0, .none, true, .any⟩) (.rest 0 0)
      ⊢ WP c (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v17 (k0_pay3 (xStrip I c 0 0) (wHalf I c false)) >>= kk) Q := by
  rw [k0_part2_eq_skeleton]
  unfold k0_part2_skel
  simp only [semSignalWord, semWaitWord, smemLoad, smemLoadElt, Prog.lift, Prog.bind_op, Prog.bind_ret, Prog.pure_eq_ret, Prog.bind_assoc]
  refine step_dead I K c false false rfl (fun v29 => ?_)
  show St I K c 22 3 (⟨0, 0, 0, 0, 0, .part 0 0, .none, true, .any⟩, ⟨0, 0, 0, 0, 0, .part 0 0, .none, true, .any⟩) (.rest 0 0) ⊢ _
  refine step_store I K c false false 0 0 0 rfl rfl rfl (by decide) (by rfl) ?_
  show St I K c 22 3 (⟨0, 0, 0, 0, 0, .part 0 1, .none, true, .any⟩, ⟨0, 0, 0, 0, 0, .part 0 0, .none, true, .any⟩) (.rest 0 0) ⊢ _
  refine step_x I K c 0 1 ?_
  show St I K c 22 3 (⟨0, 0, 0, 0, 0, .part 0 1, .none, true, .any⟩, ⟨0, 0, 0, 0, 0, .part 0 0, .none, true, .any⟩) (.rest 0 0) ⊢ _
  refine step_w I K c false ?_
  show St I K c 22 3 (⟨0, 0, 0, 0, 0, .part 0 1, .none, true, .any⟩, ⟨0, 0, 0, 0, 0, .part 0 0, .none, true, .any⟩) (.rest 0 0) ⊢ _
  refine step_dead I K c false false rfl (fun v43 => ?_)
  show St I K c 22 3 (⟨0, 0, 0, 0, 0, .part 0 1, .none, true, .any⟩, ⟨0, 0, 0, 0, 0, .part 0 0, .none, true, .any⟩) (.rest 0 0) ⊢ _
  refine step_store I K c false false 1 0 1 rfl rfl rfl (by decide) (by rfl) ?_
  show St I K c 22 3 (⟨0, 0, 0, 0, 0, .part 0 2, .none, true, .any⟩, ⟨0, 0, 0, 0, 0, .part 0 0, .none, true, .any⟩) (.rest 0 0) ⊢ _
  refine step_x I K c 0 2 ?_
  show St I K c 22 3 (⟨0, 0, 0, 0, 0, .part 0 2, .none, true, .any⟩, ⟨0, 0, 0, 0, 0, .part 0 0, .none, true, .any⟩) (.rest 0 0) ⊢ _
  refine step_w I K c false ?_
  show St I K c 22 3 (⟨0, 0, 0, 0, 0, .part 0 2, .none, true, .any⟩, ⟨0, 0, 0, 0, 0, .part 0 0, .none, true, .any⟩) (.rest 0 0) ⊢ _
  refine step_dead I K c false false rfl (fun v57 => ?_)
  show St I K c 22 3 (⟨0, 0, 0, 0, 0, .part 0 2, .none, true, .any⟩, ⟨0, 0, 0, 0, 0, .part 0 0, .none, true, .any⟩) (.rest 0 0) ⊢ _
  refine step_store I K c false false 2 0 2 rfl rfl rfl (by decide) (by rfl) ?_
  show St I K c 22 3 (⟨0, 0, 0, 0, 0, .part 0 3, .none, true, .any⟩, ⟨0, 0, 0, 0, 0, .part 0 0, .none, true, .any⟩) (.rest 0 0) ⊢ _
  refine step_x I K c 0 3 ?_
  show St I K c 22 3 (⟨0, 0, 0, 0, 0, .part 0 3, .none, true, .any⟩, ⟨0, 0, 0, 0, 0, .part 0 0, .none, true, .any⟩) (.rest 0 0) ⊢ _
  exact hk

theorem part3 {Q : α → sProp 𝕄} {kk : (Σ' (v81 : BitVec 32), FVec F S256x1024 .fp8e5m2) → Prog (TpuEff nD τ sig (Elt F) Λ₀ .tc) α} (v2 : BitVec 32) (v4 : BitVec 32)
    (hk : ∀ (v81 : BitVec 32), St I K c 21 3 (⟨1, 0, 0, 0, 0, .none, .none, false, .any⟩, ⟨0, 0, 0, 0, 0, .part 0 1, .none, true, .any⟩) (.rest 0 0) ⊢ WP c (kk ⟨v81, (k0_pay10 (xStrip I c 0 1))⟩) Q) :
    St I K c 22 3 (⟨0, 0, 0, 0, 0, .part 0 3, .none, true, .any⟩, ⟨0, 0, 0, 0, 0, .part 0 0, .none, true, .any⟩) (.rest 0 0)
      ⊢ WP c (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v2 v4 (k0_pay7 (xStrip I c 0 3)) >>= kk) Q := by
  rw [k0_part3_eq_skeleton]
  unfold k0_part3_skel
  simp only [semSignalWord, semWaitWord, smemLoad, smemLoadElt, Prog.lift, Prog.bind_op, Prog.bind_ret, Prog.pure_eq_ret, Prog.bind_assoc]
  refine step_w I K c false ?_
  show St I K c 22 3 (⟨0, 0, 0, 0, 0, .part 0 3, .none, true, .any⟩, ⟨0, 0, 0, 0, 0, .part 0 0, .none, true, .any⟩) (.rest 0 0) ⊢ _
  refine step_dead I K c false false rfl (fun v71 => ?_)
  show St I K c 22 3 (⟨0, 0, 0, 0, 0, .part 0 3, .none, true, .any⟩, ⟨0, 0, 0, 0, 0, .part 0 0, .none, true, .any⟩) (.rest 0 0) ⊢ _
  refine step_store I K c false false 3 0 3 rfl rfl rfl (by decide) (by rfl) ?_
  show St I K c 22 3 (⟨0, 0, 0, 0, 0, .full 0, .none, true, .any⟩, ⟨0, 0, 0, 0, 0, .part 0 0, .none, true, .any⟩) (.rest 0 0) ⊢ _
  refine step_send I K c false (j := 0) .none rfl (by decide) rfl (give_early I c false (by decide)) (Fin.ext (k0_dev3_eq c)) rfl rfl rfl ?_
  show St I K c 21 3 (⟨1, 0, 0, 0, 0, .none, .none, false, .any⟩, ⟨0, 0, 0, 0, 0, .part 0 0, .none, true, .any⟩) (.rest 0 0) ⊢ _
  refine step_x I K c 0 0 ?_
  show St I K c 21 3 (⟨1, 0, 0, 0, 0, .none, .none, false, .any⟩, ⟨0, 0, 0, 0, 0, .part 0 0, .none, true, .any⟩) (.rest 0 0) ⊢ _
  refine step_w I K c true ?_
  show St I K c 21 3 (⟨1, 0, 0, 0, 0, .none, .none, false, .any⟩, ⟨0, 0, 0, 0, 0, .part 0 0, .none, true, .any⟩) (.rest 0 0) ⊢ _
  refine step_dead I K c true false rfl (fun v93 => ?_)
  show St I K c 21 3 (⟨1, 0, 0, 0, 0, .none, .none, false, .any⟩, ⟨0, 0, 0, 0, 0, .part 0 0, .none, true, .any⟩) (.rest 0 0) ⊢ _
  refine step_store I K c true false 0 0 0 rfl rfl rfl (by decide) (by rfl) ?_
  show St I K c 21 3 (⟨1, 0, 0, 0, 0, .none, .none, false, .any⟩, ⟨0, 0, 0, 0, 0, .part 0 1, .none, true, .any⟩) (.rest 0 0) ⊢ _
  refine step_x I K c 0 1 ?_
  show St I K c 21 3 (⟨1, 0, 0, 0, 0, .none, .none, false, .any⟩, ⟨0, 0, 0, 0, 0, .part 0 1, .none, true, .any⟩) (.rest 0 0) ⊢ _
  exact hk _

end Cert.KernelIdeal.Hand

end
-- ==== Proof.Body2.lean ====
/-
The kernel's body, parts 4 to 6: each step of the program as a step of the state.
-/
module

public import proofs.«01_k».proof.Proof.Walk

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UAll ℕ

variable (I : Inp F) (K : Dev nD × Kd → ℕ) (c : Dev nD) {α : Type}

set_option maxRecDepth 4096

theorem part4 {Q : α → sProp 𝕄} {kk : (PUnit) → Prog (TpuEff nD τ sig (Elt F) Λ₀ .tc) α} (v81 : BitVec 32)
    (hk : St I K c 21 3 (⟨1, 0, 0, 0, 0, .none, .none, false, .any⟩, ⟨0, 0, 0, 0, 0, .full 0, .none, true, .any⟩) (.rest 0 0) ⊢ WP c (kk ⟨⟩) Q) :
    St I K c 21 3 (⟨1, 0, 0, 0, 0, .none, .none, false, .any⟩, ⟨0, 0, 0, 0, 0, .part 0 1, .none, true, .any⟩) (.rest 0 0)
      ⊢ WP c (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v81 (k0_pay10 (xStrip I c 0 1)) >>= kk) Q := by
  rw [k0_part4_eq_skeleton]
  unfold k0_part4_skel
  simp only [semSignalWord, semWaitWord, smemLoad, smemLoadElt, Prog.lift, Prog.bind_op, Prog.bind_ret, Prog.pure_eq_ret, Prog.bind_assoc]
  refine step_w I K c true ?_
  show St I K c 21 3 (⟨1, 0, 0, 0, 0, .none, .none, false, .any⟩, ⟨0, 0, 0, 0, 0, .part 0 1, .none, true, .any⟩) (.rest 0 0) ⊢ _
  refine step_dead I K c true false rfl (fun v107 => ?_)
  show St I K c 21 3 (⟨1, 0, 0, 0, 0, .none, .none, false, .any⟩, ⟨0, 0, 0, 0, 0, .part 0 1, .none, true, .any⟩) (.rest 0 0) ⊢ _
  refine step_store I K c true false 1 0 1 rfl rfl rfl (by decide) (by rfl) ?_
  show St I K c 21 3 (⟨1, 0, 0, 0, 0, .none, .none, false, .any⟩, ⟨0, 0, 0, 0, 0, .part 0 2, .none, true, .any⟩) (.rest 0 0) ⊢ _
  refine step_x I K c 0 2 ?_
  show St I K c 21 3 (⟨1, 0, 0, 0, 0, .none, .none, false, .any⟩, ⟨0, 0, 0, 0, 0, .part 0 2, .none, true, .any⟩) (.rest 0 0) ⊢ _
  refine step_w I K c true ?_
  show St I K c 21 3 (⟨1, 0, 0, 0, 0, .none, .none, false, .any⟩, ⟨0, 0, 0, 0, 0, .part 0 2, .none, true, .any⟩) (.rest 0 0) ⊢ _
  refine step_dead I K c true false rfl (fun v121 => ?_)
  show St I K c 21 3 (⟨1, 0, 0, 0, 0, .none, .none, false, .any⟩, ⟨0, 0, 0, 0, 0, .part 0 2, .none, true, .any⟩) (.rest 0 0) ⊢ _
  refine step_store I K c true false 2 0 2 rfl rfl rfl (by decide) (by rfl) ?_
  show St I K c 21 3 (⟨1, 0, 0, 0, 0, .none, .none, false, .any⟩, ⟨0, 0, 0, 0, 0, .part 0 3, .none, true, .any⟩) (.rest 0 0) ⊢ _
  refine step_x I K c 0 3 ?_
  show St I K c 21 3 (⟨1, 0, 0, 0, 0, .none, .none, false, .any⟩, ⟨0, 0, 0, 0, 0, .part 0 3, .none, true, .any⟩) (.rest 0 0) ⊢ _
  refine step_w I K c true ?_
  show St I K c 21 3 (⟨1, 0, 0, 0, 0, .none, .none, false, .any⟩, ⟨0, 0, 0, 0, 0, .part 0 3, .none, true, .any⟩) (.rest 0 0) ⊢ _
  refine step_dead I K c true false rfl (fun v135 => ?_)
  show St I K c 21 3 (⟨1, 0, 0, 0, 0, .none, .none, false, .any⟩, ⟨0, 0, 0, 0, 0, .part 0 3, .none, true, .any⟩) (.rest 0 0) ⊢ _
  refine step_store I K c true false 3 0 3 rfl rfl rfl (by decide) (by rfl) ?_
  show St I K c 21 3 (⟨1, 0, 0, 0, 0, .none, .none, false, .any⟩, ⟨0, 0, 0, 0, 0, .full 0, .none, true, .any⟩) (.rest 0 0) ⊢ _
  exact hk

theorem part5 {Q : α → sProp 𝕄} {kk : (Σ' (v149 : BitVec 32), FVec F S256x4096 .bf16) → Prog (TpuEff nD τ sig (Elt F) Λ₀ .tc) α} (v2 : BitVec 32) (v4 : BitVec 32) (v7 : BitVec 32)
    (hk : ∀ (v149 : BitVec 32), St I K c 20 3 (⟨1, 1, 1, 0, 0, .part 1 0, .got 0, false, .any⟩, ⟨1, 1, 0, 0, 0, .part 1 0, .none, false, .any⟩) (.rest 0 0) ⊢ WP c (kk ⟨v149, (k0_pay14 (xStrip I c 3 0) (wHalf I c false) (rdS 0 (snt I false 0 (prv false c))))⟩) Q) :
    St I K c 21 3 (⟨1, 0, 0, 0, 0, .none, .none, false, .any⟩, ⟨0, 0, 0, 0, 0, .full 0, .none, true, .any⟩) (.rest 0 0)
      ⊢ WP c (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v2 v4 v7 >>= kk) Q := by
  rw [k0_part5_eq_skeleton]
  unfold k0_part5_skel
  simp only [semSignalWord, semWaitWord, smemLoad, smemLoadElt, Prog.lift, Prog.bind_op, Prog.bind_ret, Prog.pure_eq_ret, Prog.bind_assoc]
  refine step_send I K c true (j := 0) .none rfl (by decide) rfl (give_early I c true (by decide)) (Fin.ext (k0_dev4_eq c)) rfl rfl rfl ?_
  show St I K c 20 3 (⟨1, 0, 0, 0, 0, .none, .none, false, .any⟩, ⟨1, 0, 0, 0, 0, .none, .none, false, .any⟩) (.rest 0 0) ⊢ _
  refine step_sndwait I K c false 0 (.part 1 0) rfl (by decide) (by decide) rfl (back_early I c false (by decide)) rfl (credit_eq false false) ?_
  show St I K c 20 3 (⟨1, 1, 0, 0, 0, .part 1 0, .none, false, .any⟩, ⟨1, 0, 0, 0, 0, .none, .none, false, .any⟩) (.rest 0 0) ⊢ _
  refine step_sndwait I K c true 0 (.part 1 0) rfl (by decide) (by decide) rfl (back_early I c true (by decide)) rfl (credit_eq true false) ?_
  show St I K c 20 3 (⟨1, 1, 0, 0, 0, .part 1 0, .none, false, .any⟩, ⟨1, 1, 0, 0, 0, .part 1 0, .none, false, .any⟩) (.rest 0 0) ⊢ _
  refine step_rcvwait I K c false 0 (.got 0) rfl (by decide) (by decide) (by decide) (land_early I c false _) rfl (credit_eq false true) ?_
  show St I K c 20 3 (⟨1, 1, 1, 0, 0, .part 1 0, .got 0, false, .any⟩, ⟨1, 1, 0, 0, 0, .part 1 0, .none, false, .any⟩) (.rest 0 0) ⊢ _
  refine step_x I K c 3 0 ?_
  show St I K c 20 3 (⟨1, 1, 1, 0, 0, .part 1 0, .got 0, false, .any⟩, ⟨1, 1, 0, 0, 0, .part 1 0, .none, false, .any⟩) (.rest 0 0) ⊢ _
  refine step_w I K c false ?_
  show St I K c 20 3 (⟨1, 1, 1, 0, 0, .part 1 0, .got 0, false, .any⟩, ⟨1, 1, 0, 0, 0, .part 1 0, .none, false, .any⟩) (.rest 0 0) ⊢ _
  refine step_load I K c false true 0 (f := (snt I false 0 (prv false c))) rfl rfl ?_
  show St I K c 20 3 (⟨1, 1, 1, 0, 0, .part 1 0, .got 0, false, .any⟩, ⟨1, 1, 0, 0, 0, .part 1 0, .none, false, .any⟩) (.rest 0 0) ⊢ _
  exact hk _

theorem part6 {Q : α → sProp 𝕄} {kk : (PUnit) → Prog (TpuEff nD τ sig (Elt F) Λ₀ .tc) α} (v149 : BitVec 32)
    (hk : St I K c 20 3 (⟨1, 1, 1, 0, 0, .part 1 3, .got 0, false, .any⟩, ⟨1, 1, 0, 0, 0, .part 1 0, .none, false, .any⟩) (.rest 0 0) ⊢ WP c (kk ⟨⟩) Q) :
    St I K c 20 3 (⟨1, 1, 1, 0, 0, .part 1 0, .got 0, false, .any⟩, ⟨1, 1, 0, 0, 0, .part 1 0, .none, false, .any⟩) (.rest 0 0)
      ⊢ WP c (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v149 (k0_pay14 (xStrip I c 3 0) (wHalf I c false) (rdS 0 (snt I false 0 (prv false c)))) >>= kk) Q := by
  rw [k0_part6_eq_skeleton]
  unfold k0_part6_skel
  simp only [semSignalWord, semWaitWord, smemLoad, smemLoadElt, Prog.lift, Prog.bind_op, Prog.bind_ret, Prog.pure_eq_ret, Prog.bind_assoc]
  refine step_dead I K c false false rfl (fun v168 => ?_)
  show St I K c 20 3 (⟨1, 1, 1, 0, 0, .part 1 0, .got 0, false, .any⟩, ⟨1, 1, 0, 0, 0, .part 1 0, .none, false, .any⟩) (.rest 0 0) ⊢ _
  refine step_store I K c false false 0 1 0 rfl rfl rfl (by decide) (by rfl) ?_
  show St I K c 20 3 (⟨1, 1, 1, 0, 0, .part 1 1, .got 0, false, .any⟩, ⟨1, 1, 0, 0, 0, .part 1 0, .none, false, .any⟩) (.rest 0 0) ⊢ _
  refine step_x I K c 3 1 ?_
  show St I K c 20 3 (⟨1, 1, 1, 0, 0, .part 1 1, .got 0, false, .any⟩, ⟨1, 1, 0, 0, 0, .part 1 0, .none, false, .any⟩) (.rest 0 0) ⊢ _
  refine step_w I K c false ?_
  show St I K c 20 3 (⟨1, 1, 1, 0, 0, .part 1 1, .got 0, false, .any⟩, ⟨1, 1, 0, 0, 0, .part 1 0, .none, false, .any⟩) (.rest 0 0) ⊢ _
  refine step_load I K c false true 1 (f := (snt I false 0 (prv false c))) rfl rfl ?_
  show St I K c 20 3 (⟨1, 1, 1, 0, 0, .part 1 1, .got 0, false, .any⟩, ⟨1, 1, 0, 0, 0, .part 1 0, .none, false, .any⟩) (.rest 0 0) ⊢ _
  refine step_dead I K c false false rfl (fun v185 => ?_)
  show St I K c 20 3 (⟨1, 1, 1, 0, 0, .part 1 1, .got 0, false, .any⟩, ⟨1, 1, 0, 0, 0, .part 1 0, .none, false, .any⟩) (.rest 0 0) ⊢ _
  refine step_store I K c false false 1 1 1 rfl rfl rfl (by decide) (by rfl) ?_
  show St I K c 20 3 (⟨1, 1, 1, 0, 0, .part 1 2, .got 0, false, .any⟩, ⟨1, 1, 0, 0, 0, .part 1 0, .none, false, .any⟩) (.rest 0 0) ⊢ _
  refine step_x I K c 3 2 ?_
  show St I K c 20 3 (⟨1, 1, 1, 0, 0, .part 1 2, .got 0, false, .any⟩, ⟨1, 1, 0, 0, 0, .part 1 0, .none, false, .any⟩) (.rest 0 0) ⊢ _
  refine step_w I K c false ?_
  show St I K c 20 3 (⟨1, 1, 1, 0, 0, .part 1 2, .got 0, false, .any⟩, ⟨1, 1, 0, 0, 0, .part 1 0, .none, false, .any⟩) (.rest 0 0) ⊢ _
  refine step_load I K c false true 2 (f := (snt I false 0 (prv false c))) rfl rfl ?_
  show St I K c 20 3 (⟨1, 1, 1, 0, 0, .part 1 2, .got 0, false, .any⟩, ⟨1, 1, 0, 0, 0, .part 1 0, .none, false, .any⟩) (.rest 0 0) ⊢ _
  refine step_dead I K c false false rfl (fun v202 => ?_)
  show St I K c 20 3 (⟨1, 1, 1, 0, 0, .part 1 2, .got 0, false, .any⟩, ⟨1, 1, 0, 0, 0, .part 1 0, .none, false, .any⟩) (.rest 0 0) ⊢ _
  refine step_store I K c false false 2 1 2 rfl rfl rfl (by decide) (by rfl) ?_
  show St I K c 20 3 (⟨1, 1, 1, 0, 0, .part 1 3, .got 0, false, .any⟩, ⟨1, 1, 0, 0, 0, .part 1 0, .none, false, .any⟩) (.rest 0 0) ⊢ _
  exact hk

end Cert.KernelIdeal.Hand

end
-- ==== Proof.Body3.lean ====
/-
The kernel's body, parts 7 to 9: each step of the program as a step of the state.
-/
module

public import proofs.«01_k».proof.Proof.Walk

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UAll ℕ

variable (I : Inp F) (K : Dev nD × Kd → ℕ) (c : Dev nD) {α : Type}

set_option maxRecDepth 4096

theorem part7 {Q : α → sProp 𝕄} {kk : (BitVec 32) → Prog (TpuEff nD τ sig (Elt F) Λ₀ .tc) α} (v2 : BitVec 32) (v4 : BitVec 32) (v7 : BitVec 32) (v149 : BitVec 32)
    (hk : ∀ (v235 : BitVec 32), St I K c 18 3 (⟨2, 1, 1, 1, 1, .none, .none, false, .any⟩, ⟨1, 1, 0, 0, 0, .part 1 0, .none, false, .any⟩) (.rest 0 0) ⊢ WP c (kk v235) Q) :
    St I K c 20 3 (⟨1, 1, 1, 0, 0, .part 1 3, .got 0, false, .any⟩, ⟨1, 1, 0, 0, 0, .part 1 0, .none, false, .any⟩) (.rest 0 0)
      ⊢ WP c (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v2 v4 v7 v149 >>= kk) Q := by
  rw [k0_part7_eq_skeleton]
  unfold k0_part7_skel
  simp only [semSignalWord, semWaitWord, smemLoad, smemLoadElt, Prog.lift, Prog.bind_op, Prog.bind_ret, Prog.pure_eq_ret, Prog.bind_assoc]
  refine step_x I K c 3 3 ?_
  show St I K c 20 3 (⟨1, 1, 1, 0, 0, .part 1 3, .got 0, false, .any⟩, ⟨1, 1, 0, 0, 0, .part 1 0, .none, false, .any⟩) (.rest 0 0) ⊢ _
  refine step_w I K c false ?_
  show St I K c 20 3 (⟨1, 1, 1, 0, 0, .part 1 3, .got 0, false, .any⟩, ⟨1, 1, 0, 0, 0, .part 1 0, .none, false, .any⟩) (.rest 0 0) ⊢ _
  refine step_load I K c false true 3 (f := (snt I false 0 (prv false c))) rfl rfl ?_
  show St I K c 20 3 (⟨1, 1, 1, 0, 0, .part 1 3, .got 0, false, .any⟩, ⟨1, 1, 0, 0, 0, .part 1 0, .none, false, .any⟩) (.rest 0 0) ⊢ _
  refine step_dead I K c false false rfl (fun v219 => ?_)
  show St I K c 20 3 (⟨1, 1, 1, 0, 0, .part 1 3, .got 0, false, .any⟩, ⟨1, 1, 0, 0, 0, .part 1 0, .none, false, .any⟩) (.rest 0 0) ⊢ _
  refine step_store I K c false false 3 1 3 rfl rfl rfl (by decide) (by rfl) ?_
  show St I K c 20 3 (⟨1, 1, 1, 0, 0, .full 1, .got 0, false, .any⟩, ⟨1, 1, 0, 0, 0, .part 1 0, .none, false, .any⟩) (.rest 0 0) ⊢ _
  refine step_crdsig I K c false 0 rfl (by decide) rfl rfl (Fin.ext (k0_dev5_eq c)) rfl rfl ?_
  show St I K c 19 3 (⟨1, 1, 1, 0, 1, .full 1, .none, false, .any⟩, ⟨1, 1, 0, 0, 0, .part 1 0, .none, false, .any⟩) (.rest 0 0) ⊢ _
  refine step_crdwait I K c false 0 rfl (by decide) (by decide) (by decide) rfl ?_
  show St I K c 19 3 (⟨1, 1, 1, 1, 1, .full 1, .none, true, .any⟩, ⟨1, 1, 0, 0, 0, .part 1 0, .none, false, .any⟩) (.rest 0 0) ⊢ _
  refine step_send I K c false (j := 1) .none rfl (by decide) rfl (give_early I c false (by decide)) (Fin.ext (k0_dev6_eq c)) rfl rfl rfl ?_
  show St I K c 18 3 (⟨2, 1, 1, 1, 1, .none, .none, false, .any⟩, ⟨1, 1, 0, 0, 0, .part 1 0, .none, false, .any⟩) (.rest 0 0) ⊢ _
  exact hk _

theorem part8 {Q : α → sProp 𝕄} {kk : (Σ' (v270 : FVec F S256x4096 .bf16), Vec F S256x4096 .bf16) → Prog (TpuEff nD τ sig (Elt F) Λ₀ .tc) α} (v7 : BitVec 32) (v235 : BitVec 32)
    (hk : ∀ (v271 : Vec F S256x4096 .bf16), St I K c 18 3 (⟨2, 1, 1, 1, 1, .none, .none, false, .any⟩, ⟨1, 1, 1, 0, 0, .part 1 1, .got 0, false, .any⟩) (.rest 0 0) ⊢ WP c (kk ⟨(k0_pay20 (xStrip I c 1 1) (wHalf I c true) (rdS 1 (snt I true 0 (prv true c)))), v271⟩) Q) :
    St I K c 18 3 (⟨2, 1, 1, 1, 1, .none, .none, false, .any⟩, ⟨1, 1, 0, 0, 0, .part 1 0, .none, false, .any⟩) (.rest 0 0)
      ⊢ WP c (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v7 v235 >>= kk) Q := by
  rw [k0_part8_eq_skeleton]
  unfold k0_part8_skel
  simp only [semSignalWord, semWaitWord, smemLoad, smemLoadElt, Prog.lift, Prog.bind_op, Prog.bind_ret, Prog.pure_eq_ret, Prog.bind_assoc]
  refine step_rcvwait I K c true 0 (.got 0) rfl (by decide) (by decide) (by decide) (land_early I c true _) rfl (credit_eq true true) ?_
  show St I K c 18 3 (⟨2, 1, 1, 1, 1, .none, .none, false, .any⟩, ⟨1, 1, 1, 0, 0, .part 1 0, .got 0, false, .any⟩) (.rest 0 0) ⊢ _
  refine step_x I K c 1 0 ?_
  show St I K c 18 3 (⟨2, 1, 1, 1, 1, .none, .none, false, .any⟩, ⟨1, 1, 1, 0, 0, .part 1 0, .got 0, false, .any⟩) (.rest 0 0) ⊢ _
  refine step_w I K c true ?_
  show St I K c 18 3 (⟨2, 1, 1, 1, 1, .none, .none, false, .any⟩, ⟨1, 1, 1, 0, 0, .part 1 0, .got 0, false, .any⟩) (.rest 0 0) ⊢ _
  refine step_load I K c true true 0 (f := (snt I true 0 (prv true c))) rfl rfl ?_
  show St I K c 18 3 (⟨2, 1, 1, 1, 1, .none, .none, false, .any⟩, ⟨1, 1, 1, 0, 0, .part 1 0, .got 0, false, .any⟩) (.rest 0 0) ⊢ _
  refine step_dead I K c true false rfl (fun v254 => ?_)
  show St I K c 18 3 (⟨2, 1, 1, 1, 1, .none, .none, false, .any⟩, ⟨1, 1, 1, 0, 0, .part 1 0, .got 0, false, .any⟩) (.rest 0 0) ⊢ _
  refine step_store I K c true false 0 1 0 rfl rfl rfl (by decide) (by rfl) ?_
  show St I K c 18 3 (⟨2, 1, 1, 1, 1, .none, .none, false, .any⟩, ⟨1, 1, 1, 0, 0, .part 1 1, .got 0, false, .any⟩) (.rest 0 0) ⊢ _
  refine step_x I K c 1 1 ?_
  show St I K c 18 3 (⟨2, 1, 1, 1, 1, .none, .none, false, .any⟩, ⟨1, 1, 1, 0, 0, .part 1 1, .got 0, false, .any⟩) (.rest 0 0) ⊢ _
  refine step_w I K c true ?_
  show St I K c 18 3 (⟨2, 1, 1, 1, 1, .none, .none, false, .any⟩, ⟨1, 1, 1, 0, 0, .part 1 1, .got 0, false, .any⟩) (.rest 0 0) ⊢ _
  refine step_load I K c true true 1 (f := (snt I true 0 (prv true c))) rfl rfl ?_
  show St I K c 18 3 (⟨2, 1, 1, 1, 1, .none, .none, false, .any⟩, ⟨1, 1, 1, 0, 0, .part 1 1, .got 0, false, .any⟩) (.rest 0 0) ⊢ _
  refine step_dead I K c true false rfl (fun v271 => ?_)
  show St I K c 18 3 (⟨2, 1, 1, 1, 1, .none, .none, false, .any⟩, ⟨1, 1, 1, 0, 0, .part 1 1, .got 0, false, .any⟩) (.rest 0 0) ⊢ _
  exact hk _

theorem part9 {Q : α → sProp 𝕄} {kk : (PUnit) → Prog (TpuEff nD τ sig (Elt F) Λ₀ .tc) α} (v235 : BitVec 32) (v271 : Vec F S256x4096 .bf16)
    (hk : St I K c 18 3 (⟨2, 1, 1, 1, 1, .none, .none, false, .any⟩, ⟨1, 1, 1, 0, 0, .full 1, .got 0, false, .any⟩) (.rest 0 0) ⊢ WP c (kk ⟨⟩) Q) :
    St I K c 18 3 (⟨2, 1, 1, 1, 1, .none, .none, false, .any⟩, ⟨1, 1, 1, 0, 0, .part 1 1, .got 0, false, .any⟩) (.rest 0 0)
      ⊢ WP c (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v235 (k0_pay20 (xStrip I c 1 1) (wHalf I c true) (rdS 1 (snt I true 0 (prv true c)))) v271 >>= kk) Q := by
  rw [k0_part9_eq_skeleton]
  unfold k0_part9_skel
  simp only [semSignalWord, semWaitWord, smemLoad, smemLoadElt, Prog.lift, Prog.bind_op, Prog.bind_ret, Prog.pure_eq_ret, Prog.bind_assoc]
  refine step_store I K c true false 1 1 1 rfl rfl rfl (by decide) (by rfl) ?_
  show St I K c 18 3 (⟨2, 1, 1, 1, 1, .none, .none, false, .any⟩, ⟨1, 1, 1, 0, 0, .part 1 2, .got 0, false, .any⟩) (.rest 0 0) ⊢ _
  refine step_x I K c 1 2 ?_
  show St I K c 18 3 (⟨2, 1, 1, 1, 1, .none, .none, false, .any⟩, ⟨1, 1, 1, 0, 0, .part 1 2, .got 0, false, .any⟩) (.rest 0 0) ⊢ _
  refine step_w I K c true ?_
  show St I K c 18 3 (⟨2, 1, 1, 1, 1, .none, .none, false, .any⟩, ⟨1, 1, 1, 0, 0, .part 1 2, .got 0, false, .any⟩) (.rest 0 0) ⊢ _
  refine step_load I K c true true 2 (f := (snt I true 0 (prv true c))) rfl rfl ?_
  show St I K c 18 3 (⟨2, 1, 1, 1, 1, .none, .none, false, .any⟩, ⟨1, 1, 1, 0, 0, .part 1 2, .got 0, false, .any⟩) (.rest 0 0) ⊢ _
  refine step_dead I K c true false rfl (fun v288 => ?_)
  show St I K c 18 3 (⟨2, 1, 1, 1, 1, .none, .none, false, .any⟩, ⟨1, 1, 1, 0, 0, .part 1 2, .got 0, false, .any⟩) (.rest 0 0) ⊢ _
  refine step_store I K c true false 2 1 2 rfl rfl rfl (by decide) (by rfl) ?_
  show St I K c 18 3 (⟨2, 1, 1, 1, 1, .none, .none, false, .any⟩, ⟨1, 1, 1, 0, 0, .part 1 3, .got 0, false, .any⟩) (.rest 0 0) ⊢ _
  refine step_x I K c 1 3 ?_
  show St I K c 18 3 (⟨2, 1, 1, 1, 1, .none, .none, false, .any⟩, ⟨1, 1, 1, 0, 0, .part 1 3, .got 0, false, .any⟩) (.rest 0 0) ⊢ _
  refine step_w I K c true ?_
  show St I K c 18 3 (⟨2, 1, 1, 1, 1, .none, .none, false, .any⟩, ⟨1, 1, 1, 0, 0, .part 1 3, .got 0, false, .any⟩) (.rest 0 0) ⊢ _
  refine step_load I K c true true 3 (f := (snt I true 0 (prv true c))) rfl rfl ?_
  show St I K c 18 3 (⟨2, 1, 1, 1, 1, .none, .none, false, .any⟩, ⟨1, 1, 1, 0, 0, .part 1 3, .got 0, false, .any⟩) (.rest 0 0) ⊢ _
  refine step_dead I K c true false rfl (fun v305 => ?_)
  show St I K c 18 3 (⟨2, 1, 1, 1, 1, .none, .none, false, .any⟩, ⟨1, 1, 1, 0, 0, .part 1 3, .got 0, false, .any⟩) (.rest 0 0) ⊢ _
  refine step_store I K c true false 3 1 3 rfl rfl rfl (by decide) (by rfl) ?_
  show St I K c 18 3 (⟨2, 1, 1, 1, 1, .none, .none, false, .any⟩, ⟨1, 1, 1, 0, 0, .full 1, .got 0, false, .any⟩) (.rest 0 0) ⊢ _
  exact hk

end Cert.KernelIdeal.Hand

end
-- ==== Proof.Body4.lean ====
/-
The kernel's body, parts 10 to 12: each step of the program as a step of the state.
-/
module

public import proofs.«01_k».proof.Proof.Walk

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UAll ℕ

variable (I : Inp F) (K : Dev nD × Kd → ℕ) (c : Dev nD) {α : Type}

set_option maxRecDepth 4096

theorem part10 {Q : α → sProp 𝕄} {kk : (Σ' (v325 : BitVec 32), FVec F S256x1024 .fp8e5m2) → Prog (TpuEff nD τ sig (Elt F) Λ₀ .tc) α} (v2 : BitVec 32) (v4 : BitVec 32) (v7 : BitVec 32)
    (hk : ∀ (v325 : BitVec 32), St I K c 16 3 (⟨2, 2, 2, 1, 1, .part 2 0, .got 1, false, .any⟩, ⟨2, 2, 1, 1, 1, .part 2 0, .none, false, .any⟩) (.rest 0 0) ⊢ WP c (kk ⟨v325, (k0_pay24 (xStrip I c 2 0))⟩) Q) :
    St I K c 18 3 (⟨2, 1, 1, 1, 1, .none, .none, false, .any⟩, ⟨1, 1, 1, 0, 0, .full 1, .got 0, false, .any⟩) (.rest 0 0)
      ⊢ WP c (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v2 v4 v7 >>= kk) Q := by
  rw [k0_part10_eq_skeleton]
  unfold k0_part10_skel
  simp only [semSignalWord, semWaitWord, smemLoad, smemLoadElt, Prog.lift, Prog.bind_op, Prog.bind_ret, Prog.pure_eq_ret, Prog.bind_assoc]
  refine step_crdsig I K c true 0 rfl (by decide) rfl rfl (Fin.ext (k0_dev7_eq c)) rfl rfl ?_
  show St I K c 17 3 (⟨2, 1, 1, 1, 1, .none, .none, false, .any⟩, ⟨1, 1, 1, 0, 1, .full 1, .none, false, .any⟩) (.rest 0 0) ⊢ _
  refine step_crdwait I K c true 0 rfl (by decide) (by decide) (by decide) rfl ?_
  show St I K c 17 3 (⟨2, 1, 1, 1, 1, .none, .none, false, .any⟩, ⟨1, 1, 1, 1, 1, .full 1, .none, true, .any⟩) (.rest 0 0) ⊢ _
  refine step_send I K c true (j := 1) .none rfl (by decide) rfl (give_early I c true (by decide)) (Fin.ext (k0_dev8_eq c)) rfl rfl rfl ?_
  show St I K c 16 3 (⟨2, 1, 1, 1, 1, .none, .none, false, .any⟩, ⟨2, 1, 1, 1, 1, .none, .none, false, .any⟩) (.rest 0 0) ⊢ _
  refine step_sndwait I K c false 1 (.part 2 0) rfl (by decide) (by decide) rfl (back_early I c false (by decide)) rfl (credit_eq false false) ?_
  show St I K c 16 3 (⟨2, 2, 1, 1, 1, .part 2 0, .none, false, .any⟩, ⟨2, 1, 1, 1, 1, .none, .none, false, .any⟩) (.rest 0 0) ⊢ _
  refine step_sndwait I K c true 1 (.part 2 0) rfl (by decide) (by decide) rfl (back_early I c true (by decide)) rfl (credit_eq true false) ?_
  show St I K c 16 3 (⟨2, 2, 1, 1, 1, .part 2 0, .none, false, .any⟩, ⟨2, 2, 1, 1, 1, .part 2 0, .none, false, .any⟩) (.rest 0 0) ⊢ _
  refine step_rcvwait I K c false 1 (.got 1) rfl (by decide) (by decide) (by decide) (land_early I c false _) rfl (credit_eq false true) ?_
  show St I K c 16 3 (⟨2, 2, 2, 1, 1, .part 2 0, .got 1, false, .any⟩, ⟨2, 2, 1, 1, 1, .part 2 0, .none, false, .any⟩) (.rest 0 0) ⊢ _
  refine step_x I K c 2 0 ?_
  show St I K c 16 3 (⟨2, 2, 2, 1, 1, .part 2 0, .got 1, false, .any⟩, ⟨2, 2, 1, 1, 1, .part 2 0, .none, false, .any⟩) (.rest 0 0) ⊢ _
  exact hk _

theorem part11 {Q : α → sProp 𝕄} {kk : (Σ' (v369 : FVec F S256x1024 .fp8e5m2), FVec F S1024x4096 .fp8e5m2) → Prog (TpuEff nD τ sig (Elt F) Λ₀ .tc) α} (v325 : BitVec 32)
    (hk : St I K c 16 3 (⟨2, 2, 2, 1, 1, .part 2 2, .got 1, false, .any⟩, ⟨2, 2, 1, 1, 1, .part 2 0, .none, false, .any⟩) (.rest 0 0) ⊢ WP c (kk ⟨(k0_pay27 (xStrip I c 2 2)), (k0_pay28 (wHalf I c false))⟩) Q) :
    St I K c 16 3 (⟨2, 2, 2, 1, 1, .part 2 0, .got 1, false, .any⟩, ⟨2, 2, 1, 1, 1, .part 2 0, .none, false, .any⟩) (.rest 0 0)
      ⊢ WP c (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v325 (k0_pay24 (xStrip I c 2 0)) >>= kk) Q := by
  rw [k0_part11_eq_skeleton]
  unfold k0_part11_skel
  simp only [semSignalWord, semWaitWord, smemLoad, smemLoadElt, Prog.lift, Prog.bind_op, Prog.bind_ret, Prog.pure_eq_ret, Prog.bind_assoc]
  refine step_w I K c false ?_
  show St I K c 16 3 (⟨2, 2, 2, 1, 1, .part 2 0, .got 1, false, .any⟩, ⟨2, 2, 1, 1, 1, .part 2 0, .none, false, .any⟩) (.rest 0 0) ⊢ _
  refine step_load I K c false true 0 (f := (snt I false 1 (prv false c))) rfl rfl ?_
  show St I K c 16 3 (⟨2, 2, 2, 1, 1, .part 2 0, .got 1, false, .any⟩, ⟨2, 2, 1, 1, 1, .part 2 0, .none, false, .any⟩) (.rest 0 0) ⊢ _
  refine step_dead I K c false false rfl (fun v344 => ?_)
  show St I K c 16 3 (⟨2, 2, 2, 1, 1, .part 2 0, .got 1, false, .any⟩, ⟨2, 2, 1, 1, 1, .part 2 0, .none, false, .any⟩) (.rest 0 0) ⊢ _
  refine step_store I K c false false 0 2 0 rfl rfl rfl (by decide) (by rfl) ?_
  show St I K c 16 3 (⟨2, 2, 2, 1, 1, .part 2 1, .got 1, false, .any⟩, ⟨2, 2, 1, 1, 1, .part 2 0, .none, false, .any⟩) (.rest 0 0) ⊢ _
  refine step_x I K c 2 1 ?_
  show St I K c 16 3 (⟨2, 2, 2, 1, 1, .part 2 1, .got 1, false, .any⟩, ⟨2, 2, 1, 1, 1, .part 2 0, .none, false, .any⟩) (.rest 0 0) ⊢ _
  refine step_w I K c false ?_
  show St I K c 16 3 (⟨2, 2, 2, 1, 1, .part 2 1, .got 1, false, .any⟩, ⟨2, 2, 1, 1, 1, .part 2 0, .none, false, .any⟩) (.rest 0 0) ⊢ _
  refine step_load I K c false true 1 (f := (snt I false 1 (prv false c))) rfl rfl ?_
  show St I K c 16 3 (⟨2, 2, 2, 1, 1, .part 2 1, .got 1, false, .any⟩, ⟨2, 2, 1, 1, 1, .part 2 0, .none, false, .any⟩) (.rest 0 0) ⊢ _
  refine step_dead I K c false false rfl (fun v361 => ?_)
  show St I K c 16 3 (⟨2, 2, 2, 1, 1, .part 2 1, .got 1, false, .any⟩, ⟨2, 2, 1, 1, 1, .part 2 0, .none, false, .any⟩) (.rest 0 0) ⊢ _
  refine step_store I K c false false 1 2 1 rfl rfl rfl (by decide) (by rfl) ?_
  show St I K c 16 3 (⟨2, 2, 2, 1, 1, .part 2 2, .got 1, false, .any⟩, ⟨2, 2, 1, 1, 1, .part 2 0, .none, false, .any⟩) (.rest 0 0) ⊢ _
  refine step_x I K c 2 2 ?_
  show St I K c 16 3 (⟨2, 2, 2, 1, 1, .part 2 2, .got 1, false, .any⟩, ⟨2, 2, 1, 1, 1, .part 2 0, .none, false, .any⟩) (.rest 0 0) ⊢ _
  refine step_w I K c false ?_
  show St I K c 16 3 (⟨2, 2, 2, 1, 1, .part 2 2, .got 1, false, .any⟩, ⟨2, 2, 1, 1, 1, .part 2 0, .none, false, .any⟩) (.rest 0 0) ⊢ _
  exact hk

theorem part12 {Q : α → sProp 𝕄} {kk : (BitVec 32) → Prog (TpuEff nD τ sig (Elt F) Λ₀ .tc) α} (v7 : BitVec 32) (v325 : BitVec 32)
    (hk : ∀ (c1_i32_258 : BitVec 32), St I K c 15 3 (⟨2, 2, 2, 2, 2, .full 2, .none, true, .any⟩, ⟨2, 2, 1, 1, 1, .part 2 0, .none, false, .any⟩) (.rest 0 0) ⊢ WP c (kk c1_i32_258) Q) :
    St I K c 16 3 (⟨2, 2, 2, 1, 1, .part 2 2, .got 1, false, .any⟩, ⟨2, 2, 1, 1, 1, .part 2 0, .none, false, .any⟩) (.rest 0 0)
      ⊢ WP c (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v7 v325 (k0_pay27 (xStrip I c 2 2)) (k0_pay28 (wHalf I c false)) >>= kk) Q := by
  rw [k0_part12_eq_skeleton]
  unfold k0_part12_skel
  simp only [semSignalWord, semWaitWord, smemLoad, smemLoadElt, Prog.lift, Prog.bind_op, Prog.bind_ret, Prog.pure_eq_ret, Prog.bind_assoc]
  refine step_load I K c false true 2 (f := (snt I false 1 (prv false c))) rfl rfl ?_
  show St I K c 16 3 (⟨2, 2, 2, 1, 1, .part 2 2, .got 1, false, .any⟩, ⟨2, 2, 1, 1, 1, .part 2 0, .none, false, .any⟩) (.rest 0 0) ⊢ _
  refine step_dead I K c false false rfl (fun v378 => ?_)
  show St I K c 16 3 (⟨2, 2, 2, 1, 1, .part 2 2, .got 1, false, .any⟩, ⟨2, 2, 1, 1, 1, .part 2 0, .none, false, .any⟩) (.rest 0 0) ⊢ _
  refine step_store I K c false false 2 2 2 rfl rfl rfl (by decide) (by rfl) ?_
  show St I K c 16 3 (⟨2, 2, 2, 1, 1, .part 2 3, .got 1, false, .any⟩, ⟨2, 2, 1, 1, 1, .part 2 0, .none, false, .any⟩) (.rest 0 0) ⊢ _
  refine step_x I K c 2 3 ?_
  show St I K c 16 3 (⟨2, 2, 2, 1, 1, .part 2 3, .got 1, false, .any⟩, ⟨2, 2, 1, 1, 1, .part 2 0, .none, false, .any⟩) (.rest 0 0) ⊢ _
  refine step_w I K c false ?_
  show St I K c 16 3 (⟨2, 2, 2, 1, 1, .part 2 3, .got 1, false, .any⟩, ⟨2, 2, 1, 1, 1, .part 2 0, .none, false, .any⟩) (.rest 0 0) ⊢ _
  refine step_load I K c false true 3 (f := (snt I false 1 (prv false c))) rfl rfl ?_
  show St I K c 16 3 (⟨2, 2, 2, 1, 1, .part 2 3, .got 1, false, .any⟩, ⟨2, 2, 1, 1, 1, .part 2 0, .none, false, .any⟩) (.rest 0 0) ⊢ _
  refine step_dead I K c false false rfl (fun v395 => ?_)
  show St I K c 16 3 (⟨2, 2, 2, 1, 1, .part 2 3, .got 1, false, .any⟩, ⟨2, 2, 1, 1, 1, .part 2 0, .none, false, .any⟩) (.rest 0 0) ⊢ _
  refine step_store I K c false false 3 2 3 rfl rfl rfl (by decide) (by rfl) ?_
  show St I K c 16 3 (⟨2, 2, 2, 1, 1, .full 2, .got 1, false, .any⟩, ⟨2, 2, 1, 1, 1, .part 2 0, .none, false, .any⟩) (.rest 0 0) ⊢ _
  refine step_crdsig I K c false 1 rfl (by decide) rfl rfl (Fin.ext (k0_dev9_eq c)) rfl rfl ?_
  show St I K c 15 3 (⟨2, 2, 2, 1, 2, .full 2, .none, false, .any⟩, ⟨2, 2, 1, 1, 1, .part 2 0, .none, false, .any⟩) (.rest 0 0) ⊢ _
  refine step_crdwait I K c false 1 rfl (by decide) (by decide) (by decide) rfl ?_
  show St I K c 15 3 (⟨2, 2, 2, 2, 2, .full 2, .none, true, .any⟩, ⟨2, 2, 1, 1, 1, .part 2 0, .none, false, .any⟩) (.rest 0 0) ⊢ _
  exact hk _

end Cert.KernelIdeal.Hand

end
-- ==== Proof.Body5.lean ====
/-
The kernel's body, parts 13 to 15: each step of the program as a step of the state.
-/
module

public import proofs.«01_k».proof.Proof.Walk

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UAll ℕ

variable (I : Inp F) (K : Dev nD × Kd → ℕ) (c : Dev nD) {α : Type}

set_option maxRecDepth 4096

theorem part13 {Q : α → sProp 𝕄} {kk : (Σ' (v411 : BitVec 32), FVec F S256x1024 .fp8e5m2) → Prog (TpuEff nD τ sig (Elt F) Λ₀ .tc) α} (v2 : BitVec 32) (v4 : BitVec 32) (v7 : BitVec 32) (c1_i32_258 : BitVec 32)
    (hk : ∀ (v411 : BitVec 32), St I K c 14 3 (⟨3, 2, 2, 2, 2, .none, .none, false, .any⟩, ⟨2, 2, 2, 1, 1, .part 2 1, .got 1, false, .any⟩) (.rest 0 0) ⊢ WP c (kk ⟨v411, (k0_pay32 (xStrip I c 2 1))⟩) Q) :
    St I K c 15 3 (⟨2, 2, 2, 2, 2, .full 2, .none, true, .any⟩, ⟨2, 2, 1, 1, 1, .part 2 0, .none, false, .any⟩) (.rest 0 0)
      ⊢ WP c (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v2 v4 v7 c1_i32_258 >>= kk) Q := by
  rw [k0_part13_eq_skeleton]
  unfold k0_part13_skel
  simp only [semSignalWord, semWaitWord, smemLoad, smemLoadElt, Prog.lift, Prog.bind_op, Prog.bind_ret, Prog.pure_eq_ret, Prog.bind_assoc]
  refine step_send I K c false (j := 2) .none rfl (by decide) rfl (give_early I c false (by decide)) (Fin.ext (k0_dev10_eq c)) rfl rfl rfl ?_
  show St I K c 14 3 (⟨3, 2, 2, 2, 2, .none, .none, false, .any⟩, ⟨2, 2, 1, 1, 1, .part 2 0, .none, false, .any⟩) (.rest 0 0) ⊢ _
  refine step_rcvwait I K c true 1 (.got 1) rfl (by decide) (by decide) (by decide) (land_early I c true _) rfl (credit_eq true true) ?_
  show St I K c 14 3 (⟨3, 2, 2, 2, 2, .none, .none, false, .any⟩, ⟨2, 2, 2, 1, 1, .part 2 0, .got 1, false, .any⟩) (.rest 0 0) ⊢ _
  refine step_x I K c 2 0 ?_
  show St I K c 14 3 (⟨3, 2, 2, 2, 2, .none, .none, false, .any⟩, ⟨2, 2, 2, 1, 1, .part 2 0, .got 1, false, .any⟩) (.rest 0 0) ⊢ _
  refine step_w I K c true ?_
  show St I K c 14 3 (⟨3, 2, 2, 2, 2, .none, .none, false, .any⟩, ⟨2, 2, 2, 1, 1, .part 2 0, .got 1, false, .any⟩) (.rest 0 0) ⊢ _
  refine step_load I K c true true 0 (f := (snt I true 1 (prv true c))) rfl rfl ?_
  show St I K c 14 3 (⟨3, 2, 2, 2, 2, .none, .none, false, .any⟩, ⟨2, 2, 2, 1, 1, .part 2 0, .got 1, false, .any⟩) (.rest 0 0) ⊢ _
  refine step_dead I K c true false rfl (fun v430 => ?_)
  show St I K c 14 3 (⟨3, 2, 2, 2, 2, .none, .none, false, .any⟩, ⟨2, 2, 2, 1, 1, .part 2 0, .got 1, false, .any⟩) (.rest 0 0) ⊢ _
  refine step_store I K c true false 0 2 0 rfl rfl rfl (by decide) (by rfl) ?_
  show St I K c 14 3 (⟨3, 2, 2, 2, 2, .none, .none, false, .any⟩, ⟨2, 2, 2, 1, 1, .part 2 1, .got 1, false, .any⟩) (.rest 0 0) ⊢ _
  refine step_x I K c 2 1 ?_
  show St I K c 14 3 (⟨3, 2, 2, 2, 2, .none, .none, false, .any⟩, ⟨2, 2, 2, 1, 1, .part 2 1, .got 1, false, .any⟩) (.rest 0 0) ⊢ _
  exact hk _

theorem part14 {Q : α → sProp 𝕄} {kk : (Σ' (v472 : FVec F S256x1024 .fp8e5m2) (v475 : FVec F S1024x4096 .fp8e5m2), FVec F S256x4096 .f32) → Prog (TpuEff nD τ sig (Elt F) Λ₀ .tc) α} (v411 : BitVec 32)
    (hk : St I K c 14 3 (⟨3, 2, 2, 2, 2, .none, .none, false, .any⟩, ⟨2, 2, 2, 1, 1, .part 2 3, .got 1, false, .any⟩) (.rest 0 0) ⊢ WP c (kk ⟨(k0_pay35 (xStrip I c 2 3)), (k0_pay36 (wHalf I c true)), (constant S256x4096 .f32 0x00000000#32 : FVec F S256x4096 .f32)⟩) Q) :
    St I K c 14 3 (⟨3, 2, 2, 2, 2, .none, .none, false, .any⟩, ⟨2, 2, 2, 1, 1, .part 2 1, .got 1, false, .any⟩) (.rest 0 0)
      ⊢ WP c (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v411 (k0_pay32 (xStrip I c 2 1)) >>= kk) Q := by
  rw [k0_part14_eq_skeleton]
  unfold k0_part14_skel
  simp only [semSignalWord, semWaitWord, smemLoad, smemLoadElt, Prog.lift, Prog.bind_op, Prog.bind_ret, Prog.pure_eq_ret, Prog.bind_assoc]
  refine step_w I K c true ?_
  show St I K c 14 3 (⟨3, 2, 2, 2, 2, .none, .none, false, .any⟩, ⟨2, 2, 2, 1, 1, .part 2 1, .got 1, false, .any⟩) (.rest 0 0) ⊢ _
  refine step_load I K c true true 1 (f := (snt I true 1 (prv true c))) rfl rfl ?_
  show St I K c 14 3 (⟨3, 2, 2, 2, 2, .none, .none, false, .any⟩, ⟨2, 2, 2, 1, 1, .part 2 1, .got 1, false, .any⟩) (.rest 0 0) ⊢ _
  refine step_dead I K c true false rfl (fun v447 => ?_)
  show St I K c 14 3 (⟨3, 2, 2, 2, 2, .none, .none, false, .any⟩, ⟨2, 2, 2, 1, 1, .part 2 1, .got 1, false, .any⟩) (.rest 0 0) ⊢ _
  refine step_store I K c true false 1 2 1 rfl rfl rfl (by decide) (by rfl) ?_
  show St I K c 14 3 (⟨3, 2, 2, 2, 2, .none, .none, false, .any⟩, ⟨2, 2, 2, 1, 1, .part 2 2, .got 1, false, .any⟩) (.rest 0 0) ⊢ _
  refine step_x I K c 2 2 ?_
  show St I K c 14 3 (⟨3, 2, 2, 2, 2, .none, .none, false, .any⟩, ⟨2, 2, 2, 1, 1, .part 2 2, .got 1, false, .any⟩) (.rest 0 0) ⊢ _
  refine step_w I K c true ?_
  show St I K c 14 3 (⟨3, 2, 2, 2, 2, .none, .none, false, .any⟩, ⟨2, 2, 2, 1, 1, .part 2 2, .got 1, false, .any⟩) (.rest 0 0) ⊢ _
  refine step_load I K c true true 2 (f := (snt I true 1 (prv true c))) rfl rfl ?_
  show St I K c 14 3 (⟨3, 2, 2, 2, 2, .none, .none, false, .any⟩, ⟨2, 2, 2, 1, 1, .part 2 2, .got 1, false, .any⟩) (.rest 0 0) ⊢ _
  refine step_dead I K c true false rfl (fun v464 => ?_)
  show St I K c 14 3 (⟨3, 2, 2, 2, 2, .none, .none, false, .any⟩, ⟨2, 2, 2, 1, 1, .part 2 2, .got 1, false, .any⟩) (.rest 0 0) ⊢ _
  refine step_store I K c true false 2 2 2 rfl rfl rfl (by decide) (by rfl) ?_
  show St I K c 14 3 (⟨3, 2, 2, 2, 2, .none, .none, false, .any⟩, ⟨2, 2, 2, 1, 1, .part 2 3, .got 1, false, .any⟩) (.rest 0 0) ⊢ _
  refine step_x I K c 2 3 ?_
  show St I K c 14 3 (⟨3, 2, 2, 2, 2, .none, .none, false, .any⟩, ⟨2, 2, 2, 1, 1, .part 2 3, .got 1, false, .any⟩) (.rest 0 0) ⊢ _
  refine step_w I K c true ?_
  show St I K c 14 3 (⟨3, 2, 2, 2, 2, .none, .none, false, .any⟩, ⟨2, 2, 2, 1, 1, .part 2 3, .got 1, false, .any⟩) (.rest 0 0) ⊢ _
  exact hk

theorem part15 {Q : α → sProp 𝕄} {kk : (PUnit) → Prog (TpuEff nD τ sig (Elt F) Λ₀ .tc) α} (v4 : BitVec 32) (v7 : BitVec 32)
    (hk : St I K c 12 3 (⟨3, 3, 3, 2, 2, .part 3 0, .got 2, false, .any⟩, ⟨3, 3, 2, 2, 2, .part 3 0, .none, false, .any⟩) (.rest 0 0) ⊢ WP c (kk ⟨⟩) Q) :
    St I K c 14 3 (⟨3, 2, 2, 2, 2, .none, .none, false, .any⟩, ⟨2, 2, 2, 1, 1, .part 2 3, .got 1, false, .any⟩) (.rest 0 0)
      ⊢ WP c (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v4 v7 (k0_pay35 (xStrip I c 2 3)) (k0_pay36 (wHalf I c true)) (constant S256x4096 .f32 0x00000000#32 : FVec F S256x4096 .f32) >>= kk) Q := by
  rw [k0_part15_eq_skeleton]
  unfold k0_part15_skel
  simp only [semSignalWord, semWaitWord, smemLoad, smemLoadElt, Prog.lift, Prog.bind_op, Prog.bind_ret, Prog.pure_eq_ret, Prog.bind_assoc]
  refine step_load I K c true true 3 (f := (snt I true 1 (prv true c))) rfl rfl ?_
  show St I K c 14 3 (⟨3, 2, 2, 2, 2, .none, .none, false, .any⟩, ⟨2, 2, 2, 1, 1, .part 2 3, .got 1, false, .any⟩) (.rest 0 0) ⊢ _
  refine step_dead I K c true false rfl (fun v481 => ?_)
  show St I K c 14 3 (⟨3, 2, 2, 2, 2, .none, .none, false, .any⟩, ⟨2, 2, 2, 1, 1, .part 2 3, .got 1, false, .any⟩) (.rest 0 0) ⊢ _
  refine step_store I K c true false 3 2 3 rfl rfl rfl (by decide) (by rfl) ?_
  show St I K c 14 3 (⟨3, 2, 2, 2, 2, .none, .none, false, .any⟩, ⟨2, 2, 2, 1, 1, .full 2, .got 1, false, .any⟩) (.rest 0 0) ⊢ _
  refine step_crdsig I K c true 1 rfl (by decide) rfl rfl (Fin.ext (k0_dev11_eq c)) rfl rfl ?_
  show St I K c 13 3 (⟨3, 2, 2, 2, 2, .none, .none, false, .any⟩, ⟨2, 2, 2, 1, 2, .full 2, .none, false, .any⟩) (.rest 0 0) ⊢ _
  refine step_crdwait I K c true 1 rfl (by decide) (by decide) (by decide) rfl ?_
  show St I K c 13 3 (⟨3, 2, 2, 2, 2, .none, .none, false, .any⟩, ⟨2, 2, 2, 2, 2, .full 2, .none, true, .any⟩) (.rest 0 0) ⊢ _
  refine step_send I K c true (j := 2) .none rfl (by decide) rfl (give_early I c true (by decide)) (Fin.ext (k0_dev12_eq c)) rfl rfl rfl ?_
  show St I K c 12 3 (⟨3, 2, 2, 2, 2, .none, .none, false, .any⟩, ⟨3, 2, 2, 2, 2, .none, .none, false, .any⟩) (.rest 0 0) ⊢ _
  refine step_sndwait I K c false 2 (.part 3 0) rfl (by decide) (by decide) rfl (back_early I c false (by decide)) rfl (credit_eq false false) ?_
  show St I K c 12 3 (⟨3, 3, 2, 2, 2, .part 3 0, .none, false, .any⟩, ⟨3, 2, 2, 2, 2, .none, .none, false, .any⟩) (.rest 0 0) ⊢ _
  refine step_sndwait I K c true 2 (.part 3 0) rfl (by decide) (by decide) rfl (back_early I c true (by decide)) rfl (credit_eq true false) ?_
  show St I K c 12 3 (⟨3, 3, 2, 2, 2, .part 3 0, .none, false, .any⟩, ⟨3, 3, 2, 2, 2, .part 3 0, .none, false, .any⟩) (.rest 0 0) ⊢ _
  refine step_rcvwait I K c false 2 (.got 2) rfl (by decide) (by decide) (by decide) (land_early I c false _) rfl (credit_eq false true) ?_
  show St I K c 12 3 (⟨3, 3, 3, 2, 2, .part 3 0, .got 2, false, .any⟩, ⟨3, 3, 2, 2, 2, .part 3 0, .none, false, .any⟩) (.rest 0 0) ⊢ _
  exact hk

end Cert.KernelIdeal.Hand

end
-- ==== Proof.Body6.lean ====
/-
The kernel's body, parts 16 to 18: each step of the program as a step of the state.
-/
module

public import proofs.«01_k».proof.Proof.Walk

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UAll ℕ

variable (I : Inp F) (K : Dev nD × Kd → ℕ) (c : Dev nD) {α : Type}

set_option maxRecDepth 4096

theorem part16 {Q : α → sProp 𝕄} {kk : (Σ' (v505 : BitVec 32) (v506 : BitVec 32), FVec F S256x1024 .fp8e5m2) → Prog (TpuEff nD τ sig (Elt F) Λ₀ .tc) α} (v2 : BitVec 32)
    (hk : ∀ (v505 : BitVec 32) (v506 : BitVec 32), St I K c 12 3 (⟨3, 3, 3, 2, 2, .part 3 1, .got 2, false, .any⟩, ⟨3, 3, 2, 2, 2, .part 3 0, .none, false, .any⟩) (.rest 0 0) ⊢ WP c (kk ⟨v505, v506, (k0_pay39 (xStrip I c 1 1))⟩) Q) :
    St I K c 12 3 (⟨3, 3, 3, 2, 2, .part 3 0, .got 2, false, .any⟩, ⟨3, 3, 2, 2, 2, .part 3 0, .none, false, .any⟩) (.rest 0 0)
      ⊢ WP c (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v2 (scl I c) >>= kk) Q := by
  rw [k0_part16_eq_skeleton]
  unfold k0_part16_skel
  simp only [semSignalWord, semWaitWord, smemLoad, smemLoadElt, Prog.lift, Prog.bind_op, Prog.bind_ret, Prog.pure_eq_ret, Prog.bind_assoc]
  refine step_x I K c 1 0 ?_
  show St I K c 12 3 (⟨3, 3, 3, 2, 2, .part 3 0, .got 2, false, .any⟩, ⟨3, 3, 2, 2, 2, .part 3 0, .none, false, .any⟩) (.rest 0 0) ⊢ _
  refine step_w I K c false ?_
  show St I K c 12 3 (⟨3, 3, 3, 2, 2, .part 3 0, .got 2, false, .any⟩, ⟨3, 3, 2, 2, 2, .part 3 0, .none, false, .any⟩) (.rest 0 0) ⊢ _
  refine step_load I K c false true 0 (f := (snt I false 2 (prv false c))) rfl rfl ?_
  show St I K c 12 3 (⟨3, 3, 3, 2, 2, .part 3 0, .got 2, false, .any⟩, ⟨3, 3, 2, 2, 2, .part 3 0, .none, false, .any⟩) (.rest 0 0) ⊢ _
  refine step_dead I K c false false rfl (fun v533 => ?_)
  show St I K c 12 3 (⟨3, 3, 3, 2, 2, .part 3 0, .got 2, false, .any⟩, ⟨3, 3, 2, 2, 2, .part 3 0, .none, false, .any⟩) (.rest 0 0) ⊢ _
  refine step_store I K c false false 0 3 0 rfl rfl rfl (by decide) (by rfl) ?_
  show St I K c 12 3 (⟨3, 3, 3, 2, 2, .part 3 1, .got 2, false, .any⟩, ⟨3, 3, 2, 2, 2, .part 3 0, .none, false, .any⟩) (.rest 0 0) ⊢ _
  refine step_x I K c 1 1 ?_
  show St I K c 12 3 (⟨3, 3, 3, 2, 2, .part 3 1, .got 2, false, .any⟩, ⟨3, 3, 2, 2, 2, .part 3 0, .none, false, .any⟩) (.rest 0 0) ⊢ _
  exact hk _ _

theorem part17 {Q : α → sProp 𝕄} {kk : (Σ' (v579 : FVec F S256x4096 .f32) (cst_367 : F .f32), FVec F S256x4096 .f32) → Prog (TpuEff nD τ sig (Elt F) Λ₀ .tc) α} (v505 : BitVec 32)
    (hk : St I K c 12 3 (⟨3, 3, 3, 2, 2, .part 3 2, .got 2, false, .any⟩, ⟨3, 3, 2, 2, 2, .part 3 0, .none, false, .any⟩) (.rest 0 0) ⊢ WP c (kk ⟨(k0_pay41 (scl I c) (xStrip I c 1 2) (wHalf I c false) (rdS 2 (snt I false 2 (prv false c)))), (Scalar.ofBits .f32 0x42700000#32 : F .f32), (k0_pay42 (F := F))⟩) Q) :
    St I K c 12 3 (⟨3, 3, 3, 2, 2, .part 3 1, .got 2, false, .any⟩, ⟨3, 3, 2, 2, 2, .part 3 0, .none, false, .any⟩) (.rest 0 0)
      ⊢ WP c (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c (scl I c) v505 (k0_pay39 (xStrip I c 1 1)) >>= kk) Q := by
  rw [k0_part17_eq_skeleton]
  unfold k0_part17_skel
  simp only [semSignalWord, semWaitWord, smemLoad, smemLoadElt, Prog.lift, Prog.bind_op, Prog.bind_ret, Prog.pure_eq_ret, Prog.bind_assoc]
  refine step_w I K c false ?_
  show St I K c 12 3 (⟨3, 3, 3, 2, 2, .part 3 1, .got 2, false, .any⟩, ⟨3, 3, 2, 2, 2, .part 3 0, .none, false, .any⟩) (.rest 0 0) ⊢ _
  refine step_load I K c false true 1 (f := (snt I false 2 (prv false c))) rfl rfl ?_
  show St I K c 12 3 (⟨3, 3, 3, 2, 2, .part 3 1, .got 2, false, .any⟩, ⟨3, 3, 2, 2, 2, .part 3 0, .none, false, .any⟩) (.rest 0 0) ⊢ _
  refine step_dead I K c false false rfl (fun v562 => ?_)
  show St I K c 12 3 (⟨3, 3, 3, 2, 2, .part 3 1, .got 2, false, .any⟩, ⟨3, 3, 2, 2, 2, .part 3 0, .none, false, .any⟩) (.rest 0 0) ⊢ _
  refine step_store I K c false false 1 3 1 rfl rfl rfl (by decide) (by rfl) ?_
  show St I K c 12 3 (⟨3, 3, 3, 2, 2, .part 3 2, .got 2, false, .any⟩, ⟨3, 3, 2, 2, 2, .part 3 0, .none, false, .any⟩) (.rest 0 0) ⊢ _
  refine step_x I K c 1 2 ?_
  show St I K c 12 3 (⟨3, 3, 3, 2, 2, .part 3 2, .got 2, false, .any⟩, ⟨3, 3, 2, 2, 2, .part 3 0, .none, false, .any⟩) (.rest 0 0) ⊢ _
  refine step_w I K c false ?_
  show St I K c 12 3 (⟨3, 3, 3, 2, 2, .part 3 2, .got 2, false, .any⟩, ⟨3, 3, 2, 2, 2, .part 3 0, .none, false, .any⟩) (.rest 0 0) ⊢ _
  refine step_load I K c false true 2 (f := (snt I false 2 (prv false c))) rfl rfl ?_
  show St I K c 12 3 (⟨3, 3, 3, 2, 2, .part 3 2, .got 2, false, .any⟩, ⟨3, 3, 2, 2, 2, .part 3 0, .none, false, .any⟩) (.rest 0 0) ⊢ _
  exact hk

theorem part18 {Q : α → sProp 𝕄} {kk : (FVec F S256x4096 .bf16) → Prog (TpuEff nD τ sig (Elt F) Λ₀ .tc) α} (v505 : BitVec 32)
    (hk : St I K c 12 3 (⟨3, 3, 3, 2, 2, .part 3 3, .got 2, false, .any⟩, ⟨3, 3, 2, 2, 2, .part 3 0, .none, false, .any⟩) (.rest 0 0) ⊢ WP c (kk (k0_pay44 (scl I c) (xStrip I c 1 3) (wHalf I c false) (rdS 3 (snt I false 2 (prv false c))))) Q) :
    St I K c 12 3 (⟨3, 3, 3, 2, 2, .part 3 2, .got 2, false, .any⟩, ⟨3, 3, 2, 2, 2, .part 3 0, .none, false, .any⟩) (.rest 0 0)
      ⊢ WP c (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c (scl I c) v505 (k0_pay41 (scl I c) (xStrip I c 1 2) (wHalf I c false) (rdS 2 (snt I false 2 (prv false c)))) (Scalar.ofBits .f32 0x42700000#32 : F .f32) (k0_pay42 (F := F)) >>= kk) Q := by
  rw [k0_part18_eq_skeleton]
  unfold k0_part18_skel
  simp only [semSignalWord, semWaitWord, smemLoad, smemLoadElt, Prog.lift, Prog.bind_op, Prog.bind_ret, Prog.pure_eq_ret, Prog.bind_assoc]
  refine step_dead I K c false false rfl (fun v591 => ?_)
  show St I K c 12 3 (⟨3, 3, 3, 2, 2, .part 3 2, .got 2, false, .any⟩, ⟨3, 3, 2, 2, 2, .part 3 0, .none, false, .any⟩) (.rest 0 0) ⊢ _
  refine step_store I K c false false 2 3 2 rfl rfl rfl (by decide) (by rfl) ?_
  show St I K c 12 3 (⟨3, 3, 3, 2, 2, .part 3 3, .got 2, false, .any⟩, ⟨3, 3, 2, 2, 2, .part 3 0, .none, false, .any⟩) (.rest 0 0) ⊢ _
  refine step_x I K c 1 3 ?_
  show St I K c 12 3 (⟨3, 3, 3, 2, 2, .part 3 3, .got 2, false, .any⟩, ⟨3, 3, 2, 2, 2, .part 3 0, .none, false, .any⟩) (.rest 0 0) ⊢ _
  refine step_w I K c false ?_
  show St I K c 12 3 (⟨3, 3, 3, 2, 2, .part 3 3, .got 2, false, .any⟩, ⟨3, 3, 2, 2, 2, .part 3 0, .none, false, .any⟩) (.rest 0 0) ⊢ _
  refine step_load I K c false true 3 (f := (snt I false 2 (prv false c))) rfl rfl ?_
  show St I K c 12 3 (⟨3, 3, 3, 2, 2, .part 3 3, .got 2, false, .any⟩, ⟨3, 3, 2, 2, 2, .part 3 0, .none, false, .any⟩) (.rest 0 0) ⊢ _
  refine step_dead I K c false false rfl (fun v620 => ?_)
  show St I K c 12 3 (⟨3, 3, 3, 2, 2, .part 3 3, .got 2, false, .any⟩, ⟨3, 3, 2, 2, 2, .part 3 0, .none, false, .any⟩) (.rest 0 0) ⊢ _
  exact hk

end Cert.KernelIdeal.Hand

end
-- ==== Proof.Body7.lean ====
/-
The kernel's body, parts 19 to 22: each step of the program as a step of the state.
-/
module

public import proofs.«01_k».proof.Proof.Walk

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UAll ℕ

variable (I : Inp F) (K : Dev nD × Kd → ℕ) (c : Dev nD) {α : Type}

set_option maxRecDepth 4096

theorem part19 {Q : α → sProp 𝕄} {kk : (Σ' (v632 : BitVec 32) (v633 : BitVec 32) (v648 : FVec F S256x4096 .f32) (v655 : FVec F S256x4096 .f32), F .f32) → Prog (TpuEff nD τ sig (Elt F) Λ₀ .tc) α} (v2 : BitVec 32) (v7 : BitVec 32)
    (hk : ∀ (v632 : BitVec 32) (v633 : BitVec 32), St I K c 11 3 (⟨3, 3, 3, 2, 3, .full 3, .none, false, .any⟩, ⟨3, 3, 3, 2, 2, .part 3 0, .got 2, false, .any⟩) (.rest 0 0) ⊢ WP c (kk ⟨v632, v633, (k0_pay46 (scl I c) (xStrip I c 3 0) (wHalf I c true) (rdS 0 (snt I true 2 (prv true c)))), (k0_pay47 (scl I c) (xStrip I c 3 0) (wHalf I c true) (rdS 0 (snt I true 2 (prv true c)))), (Scalar.ofBits .f32 0x3F800000#32 : F .f32)⟩) Q) :
    St I K c 12 3 (⟨3, 3, 3, 2, 2, .part 3 3, .got 2, false, .any⟩, ⟨3, 3, 2, 2, 2, .part 3 0, .none, false, .any⟩) (.rest 0 0)
      ⊢ WP c (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v2 v7 (scl I c) (k0_pay44 (scl I c) (xStrip I c 1 3) (wHalf I c false) (rdS 3 (snt I false 2 (prv false c)))) >>= kk) Q := by
  rw [k0_part19_eq_skeleton]
  unfold k0_part19_skel
  simp only [semSignalWord, semWaitWord, smemLoad, smemLoadElt, Prog.lift, Prog.bind_op, Prog.bind_ret, Prog.pure_eq_ret, Prog.bind_assoc]
  refine step_store I K c false false 3 3 3 rfl rfl rfl (by decide) (by rfl) ?_
  show St I K c 12 3 (⟨3, 3, 3, 2, 2, .full 3, .got 2, false, .any⟩, ⟨3, 3, 2, 2, 2, .part 3 0, .none, false, .any⟩) (.rest 0 0) ⊢ _
  refine step_crdsig I K c false 2 rfl (by decide) rfl rfl (Fin.ext (k0_dev13_eq c)) rfl rfl ?_
  show St I K c 11 3 (⟨3, 3, 3, 2, 3, .full 3, .none, false, .any⟩, ⟨3, 3, 2, 2, 2, .part 3 0, .none, false, .any⟩) (.rest 0 0) ⊢ _
  refine step_rcvwait I K c true 2 (.got 2) rfl (by decide) (by decide) (by decide) (land_early I c true _) rfl (credit_eq true true) ?_
  show St I K c 11 3 (⟨3, 3, 3, 2, 3, .full 3, .none, false, .any⟩, ⟨3, 3, 3, 2, 2, .part 3 0, .got 2, false, .any⟩) (.rest 0 0) ⊢ _
  refine step_x I K c 3 0 ?_
  show St I K c 11 3 (⟨3, 3, 3, 2, 3, .full 3, .none, false, .any⟩, ⟨3, 3, 3, 2, 2, .part 3 0, .got 2, false, .any⟩) (.rest 0 0) ⊢ _
  refine step_w I K c true ?_
  show St I K c 11 3 (⟨3, 3, 3, 2, 3, .full 3, .none, false, .any⟩, ⟨3, 3, 3, 2, 2, .part 3 0, .got 2, false, .any⟩) (.rest 0 0) ⊢ _
  refine step_load I K c true true 0 (f := (snt I true 2 (prv true c))) rfl rfl ?_
  show St I K c 11 3 (⟨3, 3, 3, 2, 3, .full 3, .none, false, .any⟩, ⟨3, 3, 3, 2, 2, .part 3 0, .got 2, false, .any⟩) (.rest 0 0) ⊢ _
  exact hk _ _

theorem part20 {Q : α → sProp 𝕄} {kk : (PUnit) → Prog (TpuEff nD τ sig (Elt F) Λ₀ .tc) α} (v632 : BitVec 32)
    (hk : St I K c 11 3 (⟨3, 3, 3, 2, 3, .full 3, .none, false, .any⟩, ⟨3, 3, 3, 2, 2, .part 3 2, .got 2, false, .any⟩) (.rest 0 0) ⊢ WP c (kk ⟨⟩) Q) :
    St I K c 11 3 (⟨3, 3, 3, 2, 3, .full 3, .none, false, .any⟩, ⟨3, 3, 3, 2, 2, .part 3 0, .got 2, false, .any⟩) (.rest 0 0)
      ⊢ WP c (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c (scl I c) v632 (k0_pay46 (scl I c) (xStrip I c 3 0) (wHalf I c true) (rdS 0 (snt I true 2 (prv true c)))) (k0_pay47 (scl I c) (xStrip I c 3 0) (wHalf I c true) (rdS 0 (snt I true 2 (prv true c)))) (Scalar.ofBits .f32 0x3F800000#32 : F .f32) >>= kk) Q := by
  rw [k0_part20_eq_skeleton]
  unfold k0_part20_skel
  simp only [semSignalWord, semWaitWord, smemLoad, smemLoadElt, Prog.lift, Prog.bind_op, Prog.bind_ret, Prog.pure_eq_ret, Prog.bind_assoc]
  refine step_dead I K c true false rfl (fun v660 => ?_)
  show St I K c 11 3 (⟨3, 3, 3, 2, 3, .full 3, .none, false, .any⟩, ⟨3, 3, 3, 2, 2, .part 3 0, .got 2, false, .any⟩) (.rest 0 0) ⊢ _
  refine step_store I K c true false 0 3 0 rfl rfl rfl (by decide) (by rfl) ?_
  show St I K c 11 3 (⟨3, 3, 3, 2, 3, .full 3, .none, false, .any⟩, ⟨3, 3, 3, 2, 2, .part 3 1, .got 2, false, .any⟩) (.rest 0 0) ⊢ _
  refine step_x I K c 3 1 ?_
  show St I K c 11 3 (⟨3, 3, 3, 2, 3, .full 3, .none, false, .any⟩, ⟨3, 3, 3, 2, 2, .part 3 1, .got 2, false, .any⟩) (.rest 0 0) ⊢ _
  refine step_w I K c true ?_
  show St I K c 11 3 (⟨3, 3, 3, 2, 3, .full 3, .none, false, .any⟩, ⟨3, 3, 3, 2, 2, .part 3 1, .got 2, false, .any⟩) (.rest 0 0) ⊢ _
  refine step_load I K c true true 1 (f := (snt I true 2 (prv true c))) rfl rfl ?_
  show St I K c 11 3 (⟨3, 3, 3, 2, 3, .full 3, .none, false, .any⟩, ⟨3, 3, 3, 2, 2, .part 3 1, .got 2, false, .any⟩) (.rest 0 0) ⊢ _
  refine step_dead I K c true false rfl (fun v689 => ?_)
  show St I K c 11 3 (⟨3, 3, 3, 2, 3, .full 3, .none, false, .any⟩, ⟨3, 3, 3, 2, 2, .part 3 1, .got 2, false, .any⟩) (.rest 0 0) ⊢ _
  refine step_store I K c true false 1 3 1 rfl rfl rfl (by decide) (by rfl) ?_
  show St I K c 11 3 (⟨3, 3, 3, 2, 3, .full 3, .none, false, .any⟩, ⟨3, 3, 3, 2, 2, .part 3 2, .got 2, false, .any⟩) (.rest 0 0) ⊢ _
  exact hk

theorem part21 {Q : α → sProp 𝕄} {kk : (Σ' (v733 : FVec F S256x4096 .f32), FVec F S256x4096 .f32) → Prog (TpuEff nD τ sig (Elt F) Λ₀ .tc) α} (v632 : BitVec 32)
    (hk : St I K c 11 3 (⟨3, 3, 3, 2, 3, .full 3, .none, false, .any⟩, ⟨3, 3, 3, 2, 2, .part 3 3, .got 2, false, .any⟩) (.rest 0 0) ⊢ WP c (kk ⟨(k0_pay51 (xStrip I c 3 3) (wHalf I c true) (rdS 3 (snt I true 2 (prv true c)))), (k0_pay52 (scl I c))⟩) Q) :
    St I K c 11 3 (⟨3, 3, 3, 2, 3, .full 3, .none, false, .any⟩, ⟨3, 3, 3, 2, 2, .part 3 2, .got 2, false, .any⟩) (.rest 0 0)
      ⊢ WP c (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c (scl I c) v632 >>= kk) Q := by
  rw [k0_part21_eq_skeleton]
  unfold k0_part21_skel
  simp only [semSignalWord, semWaitWord, smemLoad, smemLoadElt, Prog.lift, Prog.bind_op, Prog.bind_ret, Prog.pure_eq_ret, Prog.bind_assoc]
  refine step_x I K c 3 2 ?_
  show St I K c 11 3 (⟨3, 3, 3, 2, 3, .full 3, .none, false, .any⟩, ⟨3, 3, 3, 2, 2, .part 3 2, .got 2, false, .any⟩) (.rest 0 0) ⊢ _
  refine step_w I K c true ?_
  show St I K c 11 3 (⟨3, 3, 3, 2, 3, .full 3, .none, false, .any⟩, ⟨3, 3, 3, 2, 2, .part 3 2, .got 2, false, .any⟩) (.rest 0 0) ⊢ _
  refine step_load I K c true true 2 (f := (snt I true 2 (prv true c))) rfl rfl ?_
  show St I K c 11 3 (⟨3, 3, 3, 2, 3, .full 3, .none, false, .any⟩, ⟨3, 3, 3, 2, 2, .part 3 2, .got 2, false, .any⟩) (.rest 0 0) ⊢ _
  refine step_dead I K c true false rfl (fun v718 => ?_)
  show St I K c 11 3 (⟨3, 3, 3, 2, 3, .full 3, .none, false, .any⟩, ⟨3, 3, 3, 2, 2, .part 3 2, .got 2, false, .any⟩) (.rest 0 0) ⊢ _
  refine step_store I K c true false 2 3 2 rfl rfl rfl (by decide) (by rfl) ?_
  show St I K c 11 3 (⟨3, 3, 3, 2, 3, .full 3, .none, false, .any⟩, ⟨3, 3, 3, 2, 2, .part 3 3, .got 2, false, .any⟩) (.rest 0 0) ⊢ _
  refine step_x I K c 3 3 ?_
  show St I K c 11 3 (⟨3, 3, 3, 2, 3, .full 3, .none, false, .any⟩, ⟨3, 3, 3, 2, 2, .part 3 3, .got 2, false, .any⟩) (.rest 0 0) ⊢ _
  refine step_w I K c true ?_
  show St I K c 11 3 (⟨3, 3, 3, 2, 3, .full 3, .none, false, .any⟩, ⟨3, 3, 3, 2, 2, .part 3 3, .got 2, false, .any⟩) (.rest 0 0) ⊢ _
  refine step_load I K c true true 3 (f := (snt I true 2 (prv true c))) rfl rfl ?_
  show St I K c 11 3 (⟨3, 3, 3, 2, 3, .full 3, .none, false, .any⟩, ⟨3, 3, 3, 2, 2, .part 3 3, .got 2, false, .any⟩) (.rest 0 0) ⊢ _
  exact hk

theorem part22 {Q : α → sProp 𝕄} {kk : (PUnit) → Prog (TpuEff nD τ sig (Elt F) Λ₀ .tc) α} (v4 : BitVec 32) (v7 : BitVec 32)
    (hk : St I K c 9 3 (⟨4, 3, 3, 3, 3, .half 3, .none, false, .any⟩, ⟨3, 3, 3, 3, 3, .full 3, .none, true, .any⟩) (.rest 0 0) ⊢ WP c (kk ⟨⟩) Q) :
    St I K c 11 3 (⟨3, 3, 3, 2, 3, .full 3, .none, false, .any⟩, ⟨3, 3, 3, 2, 2, .part 3 3, .got 2, false, .any⟩) (.rest 0 0)
      ⊢ WP c (k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v4 v7 (k0_pay51 (xStrip I c 3 3) (wHalf I c true) (rdS 3 (snt I true 2 (prv true c)))) (k0_pay52 (scl I c)) >>= kk) Q := by
  rw [k0_part22_eq_skeleton]
  unfold k0_part22_skel
  simp only [semSignalWord, semWaitWord, smemLoad, smemLoadElt, Prog.lift, Prog.bind_op, Prog.bind_ret, Prog.pure_eq_ret, Prog.bind_assoc]
  refine step_dead I K c true false rfl (fun v747 => ?_)
  show St I K c 11 3 (⟨3, 3, 3, 2, 3, .full 3, .none, false, .any⟩, ⟨3, 3, 3, 2, 2, .part 3 3, .got 2, false, .any⟩) (.rest 0 0) ⊢ _
  refine step_store I K c true false 3 3 3 rfl rfl rfl (by decide) (by rfl) ?_
  show St I K c 11 3 (⟨3, 3, 3, 2, 3, .full 3, .none, false, .any⟩, ⟨3, 3, 3, 2, 2, .full 3, .got 2, false, .any⟩) (.rest 0 0) ⊢ _
  refine step_crdsig I K c true 2 rfl (by decide) rfl rfl (Fin.ext (k0_dev14_eq c)) rfl rfl ?_
  show St I K c 10 3 (⟨3, 3, 3, 2, 3, .full 3, .none, false, .any⟩, ⟨3, 3, 3, 2, 3, .full 3, .none, false, .any⟩) (.rest 0 0) ⊢ _
  refine step_crdwait I K c false 2 rfl (by decide) (by decide) (by decide) rfl ?_
  show St I K c 10 3 (⟨3, 3, 3, 3, 3, .full 3, .none, true, .any⟩, ⟨3, 3, 3, 2, 3, .full 3, .none, false, .any⟩) (.rest 0 0) ⊢ _
  refine step_send I K c false (j := 3) (.half 3) rfl (by decide) rfl (give_late I c false (by decide)) (Fin.ext (k0_dev15_eq c)) rfl rfl rfl ?_
  show St I K c 9 3 (⟨4, 3, 3, 3, 3, .half 3, .none, false, .any⟩, ⟨3, 3, 3, 2, 3, .full 3, .none, false, .any⟩) (.rest 0 0) ⊢ _
  refine step_crdwait I K c true 2 rfl (by decide) (by decide) (by decide) rfl ?_
  show St I K c 9 3 (⟨4, 3, 3, 3, 3, .half 3, .none, false, .any⟩, ⟨3, 3, 3, 3, 3, .full 3, .none, true, .any⟩) (.rest 0 0) ⊢ _
  exact hk

end Cert.KernelIdeal.Hand

end
-- ==== Proof.Body8.lean ====
/-
The kernel's body, parts 23 to 24: each step of the program as a step of the state.
-/
module

public import proofs.«01_k».proof.Proof.Walk

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UAll ℕ

variable (I : Inp F) (K : Dev nD × Kd → ℕ) (c : Dev nD) {α : Type}

set_option maxRecDepth 4096

theorem part23 {Q : α → sProp 𝕄} {kk : (Σ' (v795 : FVec F S256x4096 .f32), Vec F S256x4096 .f32) → Prog (TpuEff nD τ sig (Elt F) Λ₀ .tc) α} (v506 : BitVec 32)
    (hk : ∀ (v796 : Vec F S256x4096 .f32), St I K c 8 3 (⟨4, 3, 3, 3, 3, .half 3, .none, false, .any⟩, ⟨4, 3, 3, 3, 3, .half 3, .none, false, .any⟩) (.rest 2 0) ⊢ WP c (kk ⟨(k0_pay56 (rdS 2 (snt I false 3 c))), v796⟩) Q) :
    St I K c 9 3 (⟨4, 3, 3, 3, 3, .half 3, .none, false, .any⟩, ⟨3, 3, 3, 3, 3, .full 3, .none, true, .any⟩) (.rest 0 0)
      ⊢ WP c (k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v506 >>= kk) Q := by
  rw [k0_part23_eq_skeleton]
  unfold k0_part23_skel
  simp only [semSignalWord, semWaitWord, smemLoad, smemLoadElt, Prog.lift, Prog.bind_op, Prog.bind_ret, Prog.pure_eq_ret, Prog.bind_assoc]
  refine step_send I K c true (j := 3) (.half 3) rfl (by decide) rfl (give_late I c true (by decide)) (Fin.ext (k0_dev16_eq c)) rfl rfl rfl ?_
  show St I K c 8 3 (⟨4, 3, 3, 3, 3, .half 3, .none, false, .any⟩, ⟨4, 3, 3, 3, 3, .half 3, .none, false, .any⟩) (.rest 0 0) ⊢ _
  refine step_load I K c false false 0 (f := (snt I false 3 c)) rfl rfl ?_
  show St I K c 8 3 (⟨4, 3, 3, 3, 3, .half 3, .none, false, .any⟩, ⟨4, 3, 3, 3, 3, .half 3, .none, false, .any⟩) (.rest 0 0) ⊢ _
  refine step_cdead I K c false rfl (fun v772 => ?_)
  show St I K c 8 3 (⟨4, 3, 3, 3, 3, .half 3, .none, false, .any⟩, ⟨4, 3, 3, 3, 3, .half 3, .none, false, .any⟩) (.rest 0 0) ⊢ _
  refine step_cstore I K c false 0 0 rfl rfl (by rfl) ?_
  show St I K c 8 3 (⟨4, 3, 3, 3, 3, .half 3, .none, false, .has 0 0⟩, ⟨4, 3, 3, 3, 3, .half 3, .none, false, .any⟩) (.rest 0 0) ⊢ _
  refine step_copy I K c false 0 0 (k0_off2_eq c 1 0) rfl rfl rfl ?_
  show St I K c 8 3 (⟨4, 3, 3, 3, 3, .half 3, .none, false, .fly⟩, ⟨4, 3, 3, 3, 3, .half 3, .none, false, .any⟩) (.fly false 1 0) ⊢ _
  refine step_copywait I K c false rfl (ocredit _ _ _ false) (by decide) rfl ?_
  show St I K c 8 3 (⟨4, 3, 3, 3, 3, .half 3, .none, false, .any⟩, ⟨4, 3, 3, 3, 3, .half 3, .none, false, .any⟩) (.rest 1 0) ⊢ _
  refine step_load I K c false false 1 (f := (snt I false 3 c)) rfl rfl ?_
  show St I K c 8 3 (⟨4, 3, 3, 3, 3, .half 3, .none, false, .any⟩, ⟨4, 3, 3, 3, 3, .half 3, .none, false, .any⟩) (.rest 1 0) ⊢ _
  refine step_cdead I K c false rfl (fun v784 => ?_)
  show St I K c 8 3 (⟨4, 3, 3, 3, 3, .half 3, .none, false, .any⟩, ⟨4, 3, 3, 3, 3, .half 3, .none, false, .any⟩) (.rest 1 0) ⊢ _
  refine step_cstore I K c false 0 1 rfl rfl (by rfl) ?_
  show St I K c 8 3 (⟨4, 3, 3, 3, 3, .half 3, .none, false, .has 0 1⟩, ⟨4, 3, 3, 3, 3, .half 3, .none, false, .any⟩) (.rest 1 0) ⊢ _
  refine step_copy I K c false 0 1 (k0_off2_eq c 1 1) rfl rfl rfl ?_
  show St I K c 8 3 (⟨4, 3, 3, 3, 3, .half 3, .none, false, .fly⟩, ⟨4, 3, 3, 3, 3, .half 3, .none, false, .any⟩) (.fly false 2 0) ⊢ _
  refine step_copywait I K c false rfl (ocredit _ _ _ false) (by decide) rfl ?_
  show St I K c 8 3 (⟨4, 3, 3, 3, 3, .half 3, .none, false, .any⟩, ⟨4, 3, 3, 3, 3, .half 3, .none, false, .any⟩) (.rest 2 0) ⊢ _
  refine step_load I K c false false 2 (f := (snt I false 3 c)) rfl rfl ?_
  show St I K c 8 3 (⟨4, 3, 3, 3, 3, .half 3, .none, false, .any⟩, ⟨4, 3, 3, 3, 3, .half 3, .none, false, .any⟩) (.rest 2 0) ⊢ _
  refine step_cdead I K c false rfl (fun v796 => ?_)
  show St I K c 8 3 (⟨4, 3, 3, 3, 3, .half 3, .none, false, .any⟩, ⟨4, 3, 3, 3, 3, .half 3, .none, false, .any⟩) (.rest 2 0) ⊢ _
  exact hk _

theorem part24 {Q : α → sProp 𝕄} {kk : (PUnit) → Prog (TpuEff nD τ sig (Elt F) Λ₀ .tc) α} (v506 : BitVec 32) (v633 : BitVec 32) (v796 : Vec F S256x4096 .f32)
    (hk : St I K c 8 3 (⟨4, 3, 3, 3, 3, .half 3, .none, false, .any⟩, ⟨4, 3, 3, 3, 3, .half 3, .none, false, .fly⟩) (.fly true 4 1) ⊢ WP c (kk ⟨⟩) Q) :
    St I K c 8 3 (⟨4, 3, 3, 3, 3, .half 3, .none, false, .any⟩, ⟨4, 3, 3, 3, 3, .half 3, .none, false, .any⟩) (.rest 2 0)
      ⊢ WP c (k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v506 v633 (k0_pay56 (rdS 2 (snt I false 3 c))) v796 >>= kk) Q := by
  rw [k0_part24_eq_skeleton]
  unfold k0_part24_skel
  simp only [semSignalWord, semWaitWord, smemLoad, smemLoadElt, Prog.lift, Prog.bind_op, Prog.bind_ret, Prog.pure_eq_ret, Prog.bind_assoc]
  refine step_cstore I K c false 0 2 rfl rfl (by rfl) ?_
  show St I K c 8 3 (⟨4, 3, 3, 3, 3, .half 3, .none, false, .has 0 2⟩, ⟨4, 3, 3, 3, 3, .half 3, .none, false, .any⟩) (.rest 2 0) ⊢ _
  refine step_copy I K c false 0 2 (k0_off2_eq c 1 2) rfl rfl rfl ?_
  show St I K c 8 3 (⟨4, 3, 3, 3, 3, .half 3, .none, false, .fly⟩, ⟨4, 3, 3, 3, 3, .half 3, .none, false, .any⟩) (.fly false 3 0) ⊢ _
  refine step_copywait I K c false rfl (ocredit _ _ _ false) (by decide) rfl ?_
  show St I K c 8 3 (⟨4, 3, 3, 3, 3, .half 3, .none, false, .any⟩, ⟨4, 3, 3, 3, 3, .half 3, .none, false, .any⟩) (.rest 3 0) ⊢ _
  refine step_load I K c false false 3 (f := (snt I false 3 c)) rfl rfl ?_
  show St I K c 8 3 (⟨4, 3, 3, 3, 3, .half 3, .none, false, .any⟩, ⟨4, 3, 3, 3, 3, .half 3, .none, false, .any⟩) (.rest 3 0) ⊢ _
  refine step_cdead I K c false rfl (fun v808 => ?_)
  show St I K c 8 3 (⟨4, 3, 3, 3, 3, .half 3, .none, false, .any⟩, ⟨4, 3, 3, 3, 3, .half 3, .none, false, .any⟩) (.rest 3 0) ⊢ _
  refine step_cstore I K c false 0 3 rfl rfl (by rfl) ?_
  show St I K c 8 3 (⟨4, 3, 3, 3, 3, .half 3, .none, false, .has 0 3⟩, ⟨4, 3, 3, 3, 3, .half 3, .none, false, .any⟩) (.rest 3 0) ⊢ _
  refine step_copy I K c false 0 3 (k0_off2_eq c 1 3) rfl rfl rfl ?_
  show St I K c 8 3 (⟨4, 3, 3, 3, 3, .half 3, .none, false, .fly⟩, ⟨4, 3, 3, 3, 3, .half 3, .none, false, .any⟩) (.fly false 4 0) ⊢ _
  refine step_copywait I K c false rfl (ocredit _ _ _ false) (by decide) rfl ?_
  show St I K c 8 3 (⟨4, 3, 3, 3, 3, .half 3, .none, false, .any⟩, ⟨4, 3, 3, 3, 3, .half 3, .none, false, .any⟩) (.rest 4 0) ⊢ _
  refine step_load I K c true false 0 (f := (snt I true 3 c)) rfl rfl ?_
  show St I K c 8 3 (⟨4, 3, 3, 3, 3, .half 3, .none, false, .any⟩, ⟨4, 3, 3, 3, 3, .half 3, .none, false, .any⟩) (.rest 4 0) ⊢ _
  refine step_cdead I K c true rfl (fun v820 => ?_)
  show St I K c 8 3 (⟨4, 3, 3, 3, 3, .half 3, .none, false, .any⟩, ⟨4, 3, 3, 3, 3, .half 3, .none, false, .any⟩) (.rest 4 0) ⊢ _
  refine step_cstore I K c true 0 0 rfl rfl (by rfl) ?_
  show St I K c 8 3 (⟨4, 3, 3, 3, 3, .half 3, .none, false, .any⟩, ⟨4, 3, 3, 3, 3, .half 3, .none, false, .has 0 0⟩) (.rest 4 0) ⊢ _
  refine step_copy I K c true 0 0 (k0_off3_eq c 3 0) rfl rfl rfl ?_
  show St I K c 8 3 (⟨4, 3, 3, 3, 3, .half 3, .none, false, .any⟩, ⟨4, 3, 3, 3, 3, .half 3, .none, false, .fly⟩) (.fly true 4 1) ⊢ _
  exact hk

end Cert.KernelIdeal.Hand

end
-- ==== Proof.Body9.lean ====
/-
The kernel's body, parts 25 to 26: each step of the program as a step of the state.
-/
module

public import proofs.«01_k».proof.Proof.Walk

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UAll ℕ

variable (I : Inp F) (K : Dev nD × Kd → ℕ) (c : Dev nD) {α : Type}

set_option maxRecDepth 4096

theorem part25 {Q : α → sProp 𝕄} {kk : (Σ' (v855 : FVec F S256x4096 .f32), Vec F S256x4096 .f32) → Prog (TpuEff nD τ sig (Elt F) Λ₀ .tc) α} (v633 : BitVec 32)
    (hk : ∀ (v856 : Vec F S256x4096 .f32), St I K c 8 3 (⟨4, 3, 3, 3, 3, .half 3, .none, false, .any⟩, ⟨4, 3, 3, 3, 3, .half 3, .none, false, .any⟩) (.rest 4 3) ⊢ WP c (kk ⟨(k0_pay62 (rdS 3 (snt I true 3 c))), v856⟩) Q) :
    St I K c 8 3 (⟨4, 3, 3, 3, 3, .half 3, .none, false, .any⟩, ⟨4, 3, 3, 3, 3, .half 3, .none, false, .fly⟩) (.fly true 4 1)
      ⊢ WP c (k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v633 >>= kk) Q := by
  rw [k0_part25_eq_skeleton]
  unfold k0_part25_skel
  simp only [semSignalWord, semWaitWord, smemLoad, smemLoadElt, Prog.lift, Prog.bind_op, Prog.bind_ret, Prog.pure_eq_ret, Prog.bind_assoc]
  refine step_copywait I K c true rfl (ocredit _ _ _ true) (by decide) rfl ?_
  show St I K c 8 3 (⟨4, 3, 3, 3, 3, .half 3, .none, false, .any⟩, ⟨4, 3, 3, 3, 3, .half 3, .none, false, .any⟩) (.rest 4 1) ⊢ _
  refine step_load I K c true false 1 (f := (snt I true 3 c)) rfl rfl ?_
  show St I K c 8 3 (⟨4, 3, 3, 3, 3, .half 3, .none, false, .any⟩, ⟨4, 3, 3, 3, 3, .half 3, .none, false, .any⟩) (.rest 4 1) ⊢ _
  refine step_cdead I K c true rfl (fun v832 => ?_)
  show St I K c 8 3 (⟨4, 3, 3, 3, 3, .half 3, .none, false, .any⟩, ⟨4, 3, 3, 3, 3, .half 3, .none, false, .any⟩) (.rest 4 1) ⊢ _
  refine step_cstore I K c true 0 1 rfl rfl (by rfl) ?_
  show St I K c 8 3 (⟨4, 3, 3, 3, 3, .half 3, .none, false, .any⟩, ⟨4, 3, 3, 3, 3, .half 3, .none, false, .has 0 1⟩) (.rest 4 1) ⊢ _
  refine step_copy I K c true 0 1 (k0_off3_eq c 3 1) rfl rfl rfl ?_
  show St I K c 8 3 (⟨4, 3, 3, 3, 3, .half 3, .none, false, .any⟩, ⟨4, 3, 3, 3, 3, .half 3, .none, false, .fly⟩) (.fly true 4 2) ⊢ _
  refine step_copywait I K c true rfl (ocredit _ _ _ true) (by decide) rfl ?_
  show St I K c 8 3 (⟨4, 3, 3, 3, 3, .half 3, .none, false, .any⟩, ⟨4, 3, 3, 3, 3, .half 3, .none, false, .any⟩) (.rest 4 2) ⊢ _
  refine step_load I K c true false 2 (f := (snt I true 3 c)) rfl rfl ?_
  show St I K c 8 3 (⟨4, 3, 3, 3, 3, .half 3, .none, false, .any⟩, ⟨4, 3, 3, 3, 3, .half 3, .none, false, .any⟩) (.rest 4 2) ⊢ _
  refine step_cdead I K c true rfl (fun v844 => ?_)
  show St I K c 8 3 (⟨4, 3, 3, 3, 3, .half 3, .none, false, .any⟩, ⟨4, 3, 3, 3, 3, .half 3, .none, false, .any⟩) (.rest 4 2) ⊢ _
  refine step_cstore I K c true 0 2 rfl rfl (by rfl) ?_
  show St I K c 8 3 (⟨4, 3, 3, 3, 3, .half 3, .none, false, .any⟩, ⟨4, 3, 3, 3, 3, .half 3, .none, false, .has 0 2⟩) (.rest 4 2) ⊢ _
  refine step_copy I K c true 0 2 (k0_off3_eq c 3 2) rfl rfl rfl ?_
  show St I K c 8 3 (⟨4, 3, 3, 3, 3, .half 3, .none, false, .any⟩, ⟨4, 3, 3, 3, 3, .half 3, .none, false, .fly⟩) (.fly true 4 3) ⊢ _
  refine step_copywait I K c true rfl (ocredit _ _ _ true) (by decide) rfl ?_
  show St I K c 8 3 (⟨4, 3, 3, 3, 3, .half 3, .none, false, .any⟩, ⟨4, 3, 3, 3, 3, .half 3, .none, false, .any⟩) (.rest 4 3) ⊢ _
  refine step_load I K c true false 3 (f := (snt I true 3 c)) rfl rfl ?_
  show St I K c 8 3 (⟨4, 3, 3, 3, 3, .half 3, .none, false, .any⟩, ⟨4, 3, 3, 3, 3, .half 3, .none, false, .any⟩) (.rest 4 3) ⊢ _
  refine step_cdead I K c true rfl (fun v856 => ?_)
  show St I K c 8 3 (⟨4, 3, 3, 3, 3, .half 3, .none, false, .any⟩, ⟨4, 3, 3, 3, 3, .half 3, .none, false, .any⟩) (.rest 4 3) ⊢ _
  exact hk _

theorem part26 {Q : α → sProp 𝕄} {kk : (Σ' (v872 : BitVec 32) (v879 : BitVec 32) (v884 : BitVec 32), BitVec 32) → Prog (TpuEff nD τ sig (Elt F) Λ₀ .tc) α} (v2 : BitVec 32) (v4 : BitVec 32) (v7 : BitVec 32) (v633 : BitVec 32) (v856 : Vec F S256x4096 .f32)
    (hk : ∀ (v872 : BitVec 32) (v879 : BitVec 32) (v884 : BitVec 32) (c0_i32_562 : BitVec 32), St I K c 8 3 (⟨4, 4, 4, 3, 3, .full 3, .full 4, false, .any⟩, ⟨4, 3, 4, 3, 3, .half 3, .full 4, false, .any⟩) (.rest 4 4) ⊢ WP c (kk ⟨v872, v879, v884, c0_i32_562⟩) Q) :
    St I K c 8 3 (⟨4, 3, 3, 3, 3, .half 3, .none, false, .any⟩, ⟨4, 3, 3, 3, 3, .half 3, .none, false, .any⟩) (.rest 4 3)
      ⊢ WP c (k0_part26 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v2 v4 v7 v633 (k0_pay62 (rdS 3 (snt I true 3 c))) v856 >>= kk) Q := by
  rw [k0_part26_eq_skeleton]
  unfold k0_part26_skel
  simp only [semSignalWord, semWaitWord, smemLoad, smemLoadElt, Prog.lift, Prog.bind_op, Prog.bind_ret, Prog.pure_eq_ret, Prog.bind_assoc]
  refine step_cstore I K c true 0 3 rfl rfl (by rfl) ?_
  show St I K c 8 3 (⟨4, 3, 3, 3, 3, .half 3, .none, false, .any⟩, ⟨4, 3, 3, 3, 3, .half 3, .none, false, .has 0 3⟩) (.rest 4 3) ⊢ _
  refine step_copy I K c true 0 3 (k0_off3_eq c 3 3) rfl rfl rfl ?_
  show St I K c 8 3 (⟨4, 3, 3, 3, 3, .half 3, .none, false, .any⟩, ⟨4, 3, 3, 3, 3, .half 3, .none, false, .fly⟩) (.fly true 4 4) ⊢ _
  refine step_copywait I K c true rfl (ocredit _ _ _ true) (by decide) rfl ?_
  show St I K c 8 3 (⟨4, 3, 3, 3, 3, .half 3, .none, false, .any⟩, ⟨4, 3, 3, 3, 3, .half 3, .none, false, .any⟩) (.rest 4 4) ⊢ _
  refine step_rcvwait I K c false 3 (.full 4) rfl (by decide) (by decide) (by decide) (land_late I c false (by decide) _) rfl (credit_eq false true) ?_
  show St I K c 8 3 (⟨4, 3, 4, 3, 3, .half 3, .full 4, false, .any⟩, ⟨4, 3, 3, 3, 3, .half 3, .none, false, .any⟩) (.rest 4 4) ⊢ _
  refine step_rcvwait I K c true 3 (.full 4) rfl (by decide) (by decide) (by decide) (land_late I c true (by decide) _) rfl (credit_eq true true) ?_
  show St I K c 8 3 (⟨4, 3, 4, 3, 3, .half 3, .full 4, false, .any⟩, ⟨4, 3, 4, 3, 3, .half 3, .full 4, false, .any⟩) (.rest 4 4) ⊢ _
  refine step_sndwait I K c false 3 (.full 3) rfl (by decide) (by decide) rfl (back_late I c false (by decide)) rfl (credit_eq false false) ?_
  show St I K c 8 3 (⟨4, 4, 4, 3, 3, .full 3, .full 4, false, .any⟩, ⟨4, 3, 4, 3, 3, .half 3, .full 4, false, .any⟩) (.rest 4 4) ⊢ _
  exact hk _ _ _ _

end Cert.KernelIdeal.Hand

end
-- ==== Proof.Body10.lean ====
/-
The kernel's body, parts 27 to 28: each step of the program as a step of the state.
-/
module

public import proofs.«01_k».proof.Proof.Walk

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UAll ℕ

variable (I : Inp F) (K : Dev nD × Kd → ℕ) (c : Dev nD) {α : Type}

set_option maxRecDepth 4096

theorem part27 {Q : α → sProp 𝕄} {kk : (FVec F S256x4096 .f32) → Prog (TpuEff nD τ sig (Elt F) Λ₀ .tc) α} (v4 : BitVec 32) (v7 : BitVec 32) (v884 : BitVec 32) (c0_i32_562 : BitVec 32)
    (hk : St I K c 4 3 (⟨5, 4, 4, 4, 4, .none, .half 4, false, .any⟩, ⟨5, 4, 4, 4, 4, .none, .half 4, false, .any⟩) (.rest 4 4) ⊢ WP c (kk (k0_pay64 (rdS 0 (snt I false 4 c)))) Q) :
    St I K c 8 3 (⟨4, 4, 4, 3, 3, .full 3, .full 4, false, .any⟩, ⟨4, 3, 4, 3, 3, .half 3, .full 4, false, .any⟩) (.rest 4 4)
      ⊢ WP c (k0_part27 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v4 v7 v884 c0_i32_562 >>= kk) Q := by
  rw [k0_part27_eq_skeleton]
  unfold k0_part27_skel
  simp only [semSignalWord, semWaitWord, smemLoad, smemLoadElt, Prog.lift, Prog.bind_op, Prog.bind_ret, Prog.pure_eq_ret, Prog.bind_assoc]
  refine step_crdsig I K c false 3 rfl (by decide) rfl rfl (Fin.ext (k0_dev17_eq c)) rfl rfl ?_
  show St I K c 7 3 (⟨4, 4, 4, 3, 4, .none, .full 4, false, .any⟩, ⟨4, 3, 4, 3, 3, .half 3, .full 4, false, .any⟩) (.rest 4 4) ⊢ _
  refine step_sndwait I K c true 3 (.full 3) rfl (by decide) (by decide) rfl (back_late I c true (by decide)) rfl (credit_eq true false) ?_
  show St I K c 7 3 (⟨4, 4, 4, 3, 4, .none, .full 4, false, .any⟩, ⟨4, 4, 4, 3, 3, .full 3, .full 4, false, .any⟩) (.rest 4 4) ⊢ _
  refine step_crdsig I K c true 3 rfl (by decide) rfl rfl (Fin.ext (k0_dev18_eq c)) rfl rfl ?_
  show St I K c 6 3 (⟨4, 4, 4, 3, 4, .none, .full 4, false, .any⟩, ⟨4, 4, 4, 3, 4, .none, .full 4, false, .any⟩) (.rest 4 4) ⊢ _
  refine step_crdwait I K c false 3 rfl (by decide) (by decide) (by decide) rfl ?_
  show St I K c 6 3 (⟨4, 4, 4, 4, 4, .none, .full 4, true, .any⟩, ⟨4, 4, 4, 3, 4, .none, .full 4, false, .any⟩) (.rest 4 4) ⊢ _
  refine step_send I K c false (j := 4) (.half 4) rfl (by decide) rfl (give_late I c false (by decide)) (Fin.ext (k0_dev19_eq c)) rfl rfl rfl ?_
  show St I K c 5 3 (⟨5, 4, 4, 4, 4, .none, .half 4, false, .any⟩, ⟨4, 4, 4, 3, 4, .none, .full 4, false, .any⟩) (.rest 4 4) ⊢ _
  refine step_crdwait I K c true 3 rfl (by decide) (by decide) (by decide) rfl ?_
  show St I K c 5 3 (⟨5, 4, 4, 4, 4, .none, .half 4, false, .any⟩, ⟨4, 4, 4, 4, 4, .none, .full 4, true, .any⟩) (.rest 4 4) ⊢ _
  refine step_send I K c true (j := 4) (.half 4) rfl (by decide) rfl (give_late I c true (by decide)) (Fin.ext (k0_dev20_eq c)) rfl rfl rfl ?_
  show St I K c 4 3 (⟨5, 4, 4, 4, 4, .none, .half 4, false, .any⟩, ⟨5, 4, 4, 4, 4, .none, .half 4, false, .any⟩) (.rest 4 4) ⊢ _
  refine step_load I K c false true 0 (f := (snt I false 4 c)) rfl rfl ?_
  show St I K c 4 3 (⟨5, 4, 4, 4, 4, .none, .half 4, false, .any⟩, ⟨5, 4, 4, 4, 4, .none, .half 4, false, .any⟩) (.rest 4 4) ⊢ _
  refine step_cdead I K c false rfl (fun v910 => ?_)
  show St I K c 4 3 (⟨5, 4, 4, 4, 4, .none, .half 4, false, .any⟩, ⟨5, 4, 4, 4, 4, .none, .half 4, false, .any⟩) (.rest 4 4) ⊢ _
  exact hk

theorem part28 {Q : α → sProp 𝕄} {kk : (PUnit) → Prog (TpuEff nD τ sig (Elt F) Λ₀ .tc) α} (v872 : BitVec 32)
    (hk : St I K c 4 3 (⟨5, 4, 4, 4, 4, .none, .half 4, false, .fly⟩, ⟨5, 4, 4, 4, 4, .none, .half 4, false, .any⟩) (.fly false 7 4) ⊢ WP c (kk ⟨⟩) Q) :
    St I K c 4 3 (⟨5, 4, 4, 4, 4, .none, .half 4, false, .any⟩, ⟨5, 4, 4, 4, 4, .none, .half 4, false, .any⟩) (.rest 4 4)
      ⊢ WP c (k0_part28 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v872 (k0_pay64 (rdS 0 (snt I false 4 c))) >>= kk) Q := by
  rw [k0_part28_eq_skeleton]
  unfold k0_part28_skel
  simp only [semSignalWord, semWaitWord, smemLoad, smemLoadElt, Prog.lift, Prog.bind_op, Prog.bind_ret, Prog.pure_eq_ret, Prog.bind_assoc]
  refine step_cstore I K c false 1 0 rfl rfl (by rfl) ?_
  show St I K c 4 3 (⟨5, 4, 4, 4, 4, .none, .half 4, false, .has 1 0⟩, ⟨5, 4, 4, 4, 4, .none, .half 4, false, .any⟩) (.rest 4 4) ⊢ _
  refine step_copy I K c false 1 0 (k0_off2_eq c 0 0) rfl rfl rfl ?_
  show St I K c 4 3 (⟨5, 4, 4, 4, 4, .none, .half 4, false, .fly⟩, ⟨5, 4, 4, 4, 4, .none, .half 4, false, .any⟩) (.fly false 5 4) ⊢ _
  refine step_copywait I K c false rfl (ocredit _ _ _ false) (by decide) rfl ?_
  show St I K c 4 3 (⟨5, 4, 4, 4, 4, .none, .half 4, false, .any⟩, ⟨5, 4, 4, 4, 4, .none, .half 4, false, .any⟩) (.rest 5 4) ⊢ _
  refine step_load I K c false true 1 (f := (snt I false 4 c)) rfl rfl ?_
  show St I K c 4 3 (⟨5, 4, 4, 4, 4, .none, .half 4, false, .any⟩, ⟨5, 4, 4, 4, 4, .none, .half 4, false, .any⟩) (.rest 5 4) ⊢ _
  refine step_cdead I K c false rfl (fun v922 => ?_)
  show St I K c 4 3 (⟨5, 4, 4, 4, 4, .none, .half 4, false, .any⟩, ⟨5, 4, 4, 4, 4, .none, .half 4, false, .any⟩) (.rest 5 4) ⊢ _
  refine step_cstore I K c false 1 1 rfl rfl (by rfl) ?_
  show St I K c 4 3 (⟨5, 4, 4, 4, 4, .none, .half 4, false, .has 1 1⟩, ⟨5, 4, 4, 4, 4, .none, .half 4, false, .any⟩) (.rest 5 4) ⊢ _
  refine step_copy I K c false 1 1 (k0_off2_eq c 0 1) rfl rfl rfl ?_
  show St I K c 4 3 (⟨5, 4, 4, 4, 4, .none, .half 4, false, .fly⟩, ⟨5, 4, 4, 4, 4, .none, .half 4, false, .any⟩) (.fly false 6 4) ⊢ _
  refine step_copywait I K c false rfl (ocredit _ _ _ false) (by decide) rfl ?_
  show St I K c 4 3 (⟨5, 4, 4, 4, 4, .none, .half 4, false, .any⟩, ⟨5, 4, 4, 4, 4, .none, .half 4, false, .any⟩) (.rest 6 4) ⊢ _
  refine step_load I K c false true 2 (f := (snt I false 4 c)) rfl rfl ?_
  show St I K c 4 3 (⟨5, 4, 4, 4, 4, .none, .half 4, false, .any⟩, ⟨5, 4, 4, 4, 4, .none, .half 4, false, .any⟩) (.rest 6 4) ⊢ _
  refine step_cdead I K c false rfl (fun v934 => ?_)
  show St I K c 4 3 (⟨5, 4, 4, 4, 4, .none, .half 4, false, .any⟩, ⟨5, 4, 4, 4, 4, .none, .half 4, false, .any⟩) (.rest 6 4) ⊢ _
  refine step_cstore I K c false 1 2 rfl rfl (by rfl) ?_
  show St I K c 4 3 (⟨5, 4, 4, 4, 4, .none, .half 4, false, .has 1 2⟩, ⟨5, 4, 4, 4, 4, .none, .half 4, false, .any⟩) (.rest 6 4) ⊢ _
  refine step_copy I K c false 1 2 (k0_off2_eq c 0 2) rfl rfl rfl ?_
  show St I K c 4 3 (⟨5, 4, 4, 4, 4, .none, .half 4, false, .fly⟩, ⟨5, 4, 4, 4, 4, .none, .half 4, false, .any⟩) (.fly false 7 4) ⊢ _
  exact hk

end Cert.KernelIdeal.Hand

end
-- ==== Proof.Body11.lean ====
/-
The kernel's body, parts 29 to 30: each step of the program as a step of the state.
-/
module

public import proofs.«01_k».proof.Proof.Walk

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UAll ℕ

variable (I : Inp F) (K : Dev nD × Kd → ℕ) (c : Dev nD) {α : Type}

set_option maxRecDepth 4096

theorem part29 {Q : α → sProp 𝕄} {kk : (FVec F S256x4096 .f32) → Prog (TpuEff nD τ sig (Elt F) Λ₀ .tc) α} (v872 : BitVec 32) (v879 : BitVec 32)
    (hk : St I K c 4 3 (⟨5, 4, 4, 4, 4, .none, .half 4, false, .any⟩, ⟨5, 4, 4, 4, 4, .none, .half 4, false, .any⟩) (.rest 8 5) ⊢ WP c (kk (k0_pay69 (rdS 1 (snt I true 4 c)))) Q) :
    St I K c 4 3 (⟨5, 4, 4, 4, 4, .none, .half 4, false, .fly⟩, ⟨5, 4, 4, 4, 4, .none, .half 4, false, .any⟩) (.fly false 7 4)
      ⊢ WP c (k0_part29 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v872 v879 >>= kk) Q := by
  rw [k0_part29_eq_skeleton]
  unfold k0_part29_skel
  simp only [semSignalWord, semWaitWord, smemLoad, smemLoadElt, Prog.lift, Prog.bind_op, Prog.bind_ret, Prog.pure_eq_ret, Prog.bind_assoc]
  refine step_copywait I K c false rfl (ocredit _ _ _ false) (by decide) rfl ?_
  show St I K c 4 3 (⟨5, 4, 4, 4, 4, .none, .half 4, false, .any⟩, ⟨5, 4, 4, 4, 4, .none, .half 4, false, .any⟩) (.rest 7 4) ⊢ _
  refine step_load I K c false true 3 (f := (snt I false 4 c)) rfl rfl ?_
  show St I K c 4 3 (⟨5, 4, 4, 4, 4, .none, .half 4, false, .any⟩, ⟨5, 4, 4, 4, 4, .none, .half 4, false, .any⟩) (.rest 7 4) ⊢ _
  refine step_cdead I K c false rfl (fun v946 => ?_)
  show St I K c 4 3 (⟨5, 4, 4, 4, 4, .none, .half 4, false, .any⟩, ⟨5, 4, 4, 4, 4, .none, .half 4, false, .any⟩) (.rest 7 4) ⊢ _
  refine step_cstore I K c false 1 3 rfl rfl (by rfl) ?_
  show St I K c 4 3 (⟨5, 4, 4, 4, 4, .none, .half 4, false, .has 1 3⟩, ⟨5, 4, 4, 4, 4, .none, .half 4, false, .any⟩) (.rest 7 4) ⊢ _
  refine step_copy I K c false 1 3 (k0_off2_eq c 0 3) rfl rfl rfl ?_
  show St I K c 4 3 (⟨5, 4, 4, 4, 4, .none, .half 4, false, .fly⟩, ⟨5, 4, 4, 4, 4, .none, .half 4, false, .any⟩) (.fly false 8 4) ⊢ _
  refine step_copywait I K c false rfl (ocredit _ _ _ false) (by decide) rfl ?_
  show St I K c 4 3 (⟨5, 4, 4, 4, 4, .none, .half 4, false, .any⟩, ⟨5, 4, 4, 4, 4, .none, .half 4, false, .any⟩) (.rest 8 4) ⊢ _
  refine step_load I K c true true 0 (f := (snt I true 4 c)) rfl rfl ?_
  show St I K c 4 3 (⟨5, 4, 4, 4, 4, .none, .half 4, false, .any⟩, ⟨5, 4, 4, 4, 4, .none, .half 4, false, .any⟩) (.rest 8 4) ⊢ _
  refine step_cdead I K c true rfl (fun v958 => ?_)
  show St I K c 4 3 (⟨5, 4, 4, 4, 4, .none, .half 4, false, .any⟩, ⟨5, 4, 4, 4, 4, .none, .half 4, false, .any⟩) (.rest 8 4) ⊢ _
  refine step_cstore I K c true 1 0 rfl rfl (by rfl) ?_
  show St I K c 4 3 (⟨5, 4, 4, 4, 4, .none, .half 4, false, .any⟩, ⟨5, 4, 4, 4, 4, .none, .half 4, false, .has 1 0⟩) (.rest 8 4) ⊢ _
  refine step_copy I K c true 1 0 (k0_off3_eq c 0 0) rfl rfl rfl ?_
  show St I K c 4 3 (⟨5, 4, 4, 4, 4, .none, .half 4, false, .any⟩, ⟨5, 4, 4, 4, 4, .none, .half 4, false, .fly⟩) (.fly true 8 5) ⊢ _
  refine step_copywait I K c true rfl (ocredit _ _ _ true) (by decide) rfl ?_
  show St I K c 4 3 (⟨5, 4, 4, 4, 4, .none, .half 4, false, .any⟩, ⟨5, 4, 4, 4, 4, .none, .half 4, false, .any⟩) (.rest 8 5) ⊢ _
  refine step_load I K c true true 1 (f := (snt I true 4 c)) rfl rfl ?_
  show St I K c 4 3 (⟨5, 4, 4, 4, 4, .none, .half 4, false, .any⟩, ⟨5, 4, 4, 4, 4, .none, .half 4, false, .any⟩) (.rest 8 5) ⊢ _
  refine step_cdead I K c true rfl (fun v970 => ?_)
  show St I K c 4 3 (⟨5, 4, 4, 4, 4, .none, .half 4, false, .any⟩, ⟨5, 4, 4, 4, 4, .none, .half 4, false, .any⟩) (.rest 8 5) ⊢ _
  exact hk

theorem part30 {Q : α → sProp 𝕄} {kk : (PUnit) → Prog (TpuEff nD τ sig (Elt F) Λ₀ .tc) α} (v879 : BitVec 32)
    (hk : St I K c 4 3 (⟨5, 4, 4, 4, 4, .none, .half 4, false, .any⟩, ⟨5, 4, 4, 4, 4, .none, .half 4, false, .fly⟩) (.fly true 8 8) ⊢ WP c (kk ⟨⟩) Q) :
    St I K c 4 3 (⟨5, 4, 4, 4, 4, .none, .half 4, false, .any⟩, ⟨5, 4, 4, 4, 4, .none, .half 4, false, .any⟩) (.rest 8 5)
      ⊢ WP c (k0_part30 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v879 (k0_pay69 (rdS 1 (snt I true 4 c))) >>= kk) Q := by
  rw [k0_part30_eq_skeleton]
  unfold k0_part30_skel
  simp only [semSignalWord, semWaitWord, smemLoad, smemLoadElt, Prog.lift, Prog.bind_op, Prog.bind_ret, Prog.pure_eq_ret, Prog.bind_assoc]
  refine step_cstore I K c true 1 1 rfl rfl (by rfl) ?_
  show St I K c 4 3 (⟨5, 4, 4, 4, 4, .none, .half 4, false, .any⟩, ⟨5, 4, 4, 4, 4, .none, .half 4, false, .has 1 1⟩) (.rest 8 5) ⊢ _
  refine step_copy I K c true 1 1 (k0_off3_eq c 0 1) rfl rfl rfl ?_
  show St I K c 4 3 (⟨5, 4, 4, 4, 4, .none, .half 4, false, .any⟩, ⟨5, 4, 4, 4, 4, .none, .half 4, false, .fly⟩) (.fly true 8 6) ⊢ _
  refine step_copywait I K c true rfl (ocredit _ _ _ true) (by decide) rfl ?_
  show St I K c 4 3 (⟨5, 4, 4, 4, 4, .none, .half 4, false, .any⟩, ⟨5, 4, 4, 4, 4, .none, .half 4, false, .any⟩) (.rest 8 6) ⊢ _
  refine step_load I K c true true 2 (f := (snt I true 4 c)) rfl rfl ?_
  show St I K c 4 3 (⟨5, 4, 4, 4, 4, .none, .half 4, false, .any⟩, ⟨5, 4, 4, 4, 4, .none, .half 4, false, .any⟩) (.rest 8 6) ⊢ _
  refine step_cdead I K c true rfl (fun v982 => ?_)
  show St I K c 4 3 (⟨5, 4, 4, 4, 4, .none, .half 4, false, .any⟩, ⟨5, 4, 4, 4, 4, .none, .half 4, false, .any⟩) (.rest 8 6) ⊢ _
  refine step_cstore I K c true 1 2 rfl rfl (by rfl) ?_
  show St I K c 4 3 (⟨5, 4, 4, 4, 4, .none, .half 4, false, .any⟩, ⟨5, 4, 4, 4, 4, .none, .half 4, false, .has 1 2⟩) (.rest 8 6) ⊢ _
  refine step_copy I K c true 1 2 (k0_off3_eq c 0 2) rfl rfl rfl ?_
  show St I K c 4 3 (⟨5, 4, 4, 4, 4, .none, .half 4, false, .any⟩, ⟨5, 4, 4, 4, 4, .none, .half 4, false, .fly⟩) (.fly true 8 7) ⊢ _
  refine step_copywait I K c true rfl (ocredit _ _ _ true) (by decide) rfl ?_
  show St I K c 4 3 (⟨5, 4, 4, 4, 4, .none, .half 4, false, .any⟩, ⟨5, 4, 4, 4, 4, .none, .half 4, false, .any⟩) (.rest 8 7) ⊢ _
  refine step_load I K c true true 3 (f := (snt I true 4 c)) rfl rfl ?_
  show St I K c 4 3 (⟨5, 4, 4, 4, 4, .none, .half 4, false, .any⟩, ⟨5, 4, 4, 4, 4, .none, .half 4, false, .any⟩) (.rest 8 7) ⊢ _
  refine step_cdead I K c true rfl (fun v994 => ?_)
  show St I K c 4 3 (⟨5, 4, 4, 4, 4, .none, .half 4, false, .any⟩, ⟨5, 4, 4, 4, 4, .none, .half 4, false, .any⟩) (.rest 8 7) ⊢ _
  refine step_cstore I K c true 1 3 rfl rfl (by rfl) ?_
  show St I K c 4 3 (⟨5, 4, 4, 4, 4, .none, .half 4, false, .any⟩, ⟨5, 4, 4, 4, 4, .none, .half 4, false, .has 1 3⟩) (.rest 8 7) ⊢ _
  refine step_copy I K c true 1 3 (k0_off3_eq c 0 3) rfl rfl rfl ?_
  show St I K c 4 3 (⟨5, 4, 4, 4, 4, .none, .half 4, false, .any⟩, ⟨5, 4, 4, 4, 4, .none, .half 4, false, .fly⟩) (.fly true 8 8) ⊢ _
  exact hk

end Cert.KernelIdeal.Hand

end
-- ==== Proof.Body12.lean ====
/-
The kernel's body, parts 31 to 32: each step of the program as a step of the state.
-/
module

public import proofs.«01_k».proof.Proof.Walk

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UAll ℕ

variable (I : Inp F) (K : Dev nD × Kd → ℕ) (c : Dev nD) {α : Type}

set_option maxRecDepth 4096

theorem part31 {Q : α → sProp 𝕄} {kk : (Σ' (v1010 : BitVec 32) (v1017 : BitVec 32), BitVec 32) → Prog (TpuEff nD τ sig (Elt F) Λ₀ .tc) α} (v2 : BitVec 32) (v4 : BitVec 32) (v7 : BitVec 32)
    (hk : ∀ (v1010 : BitVec 32) (v1017 : BitVec 32) (v1028 : BitVec 32), St I K c 3 3 (⟨5, 5, 5, 4, 5, .full 5, .none, false, .any⟩, ⟨5, 5, 5, 4, 4, .full 5, .full 4, false, .any⟩) (.rest 8 8) ⊢ WP c (kk ⟨v1010, v1017, v1028⟩) Q) :
    St I K c 4 3 (⟨5, 4, 4, 4, 4, .none, .half 4, false, .any⟩, ⟨5, 4, 4, 4, 4, .none, .half 4, false, .fly⟩) (.fly true 8 8)
      ⊢ WP c (k0_part31 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v2 v4 v7 >>= kk) Q := by
  rw [k0_part31_eq_skeleton]
  unfold k0_part31_skel
  simp only [semSignalWord, semWaitWord, smemLoad, smemLoadElt, Prog.lift, Prog.bind_op, Prog.bind_ret, Prog.pure_eq_ret, Prog.bind_assoc]
  refine step_copywait I K c true rfl (ocredit _ _ _ true) (by decide) rfl ?_
  show St I K c 4 3 (⟨5, 4, 4, 4, 4, .none, .half 4, false, .any⟩, ⟨5, 4, 4, 4, 4, .none, .half 4, false, .any⟩) (.rest 8 8) ⊢ _
  refine step_rcvwait I K c false 4 (.full 5) rfl (by decide) (by decide) (by decide) (land_late I c false (by decide) _) rfl (credit_eq false false) ?_
  show St I K c 4 3 (⟨5, 4, 5, 4, 4, .full 5, .half 4, false, .any⟩, ⟨5, 4, 4, 4, 4, .none, .half 4, false, .any⟩) (.rest 8 8) ⊢ _
  refine step_rcvwait I K c true 4 (.full 5) rfl (by decide) (by decide) (by decide) (land_late I c true (by decide) _) rfl (credit_eq true false) ?_
  show St I K c 4 3 (⟨5, 4, 5, 4, 4, .full 5, .half 4, false, .any⟩, ⟨5, 4, 5, 4, 4, .full 5, .half 4, false, .any⟩) (.rest 8 8) ⊢ _
  refine step_sndwait I K c false 4 (.full 4) rfl (by decide) (by decide) rfl (back_late I c false (by decide)) rfl (credit_eq false true) ?_
  show St I K c 4 3 (⟨5, 5, 5, 4, 4, .full 5, .full 4, false, .any⟩, ⟨5, 4, 5, 4, 4, .full 5, .half 4, false, .any⟩) (.rest 8 8) ⊢ _
  refine step_crdsig I K c false 4 rfl (by decide) rfl rfl (Fin.ext (k0_dev21_eq c)) rfl rfl ?_
  show St I K c 3 3 (⟨5, 5, 5, 4, 5, .full 5, .none, false, .any⟩, ⟨5, 4, 5, 4, 4, .full 5, .half 4, false, .any⟩) (.rest 8 8) ⊢ _
  refine step_sndwait I K c true 4 (.full 4) rfl (by decide) (by decide) rfl (back_late I c true (by decide)) rfl (credit_eq true true) ?_
  show St I K c 3 3 (⟨5, 5, 5, 4, 5, .full 5, .none, false, .any⟩, ⟨5, 5, 5, 4, 4, .full 5, .full 4, false, .any⟩) (.rest 8 8) ⊢ _
  exact hk _ _ _

theorem part32 {Q : α → sProp 𝕄} {kk : (PUnit) → Prog (TpuEff nD τ sig (Elt F) Λ₀ .tc) α} (v4 : BitVec 32) (v7 : BitVec 32) (v1010 : BitVec 32) (v1028 : BitVec 32)
    (hk : St I K c 0 3 (⟨6, 5, 5, 5, 5, .half 5, .none, false, .fly⟩, ⟨6, 5, 5, 5, 5, .half 5, .none, false, .any⟩) (.fly false 9 8) ⊢ WP c (kk ⟨⟩) Q) :
    St I K c 3 3 (⟨5, 5, 5, 4, 5, .full 5, .none, false, .any⟩, ⟨5, 5, 5, 4, 4, .full 5, .full 4, false, .any⟩) (.rest 8 8)
      ⊢ WP c (k0_part32 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v4 v7 v1010 v1028 >>= kk) Q := by
  rw [k0_part32_eq_skeleton]
  unfold k0_part32_skel
  simp only [semSignalWord, semWaitWord, smemLoad, smemLoadElt, Prog.lift, Prog.bind_op, Prog.bind_ret, Prog.pure_eq_ret, Prog.bind_assoc]
  refine step_crdsig I K c true 4 rfl (by decide) rfl rfl (Fin.ext (k0_dev22_eq c)) rfl rfl ?_
  show St I K c 2 3 (⟨5, 5, 5, 4, 5, .full 5, .none, false, .any⟩, ⟨5, 5, 5, 4, 5, .full 5, .none, false, .any⟩) (.rest 8 8) ⊢ _
  refine step_crdwait I K c false 4 rfl (by decide) (by decide) (by decide) rfl ?_
  show St I K c 2 3 (⟨5, 5, 5, 5, 5, .full 5, .none, true, .any⟩, ⟨5, 5, 5, 4, 5, .full 5, .none, false, .any⟩) (.rest 8 8) ⊢ _
  refine step_send I K c false (j := 5) (.half 5) rfl (by decide) rfl (give_late I c false (by decide)) (Fin.ext (k0_dev23_eq c)) rfl rfl rfl ?_
  show St I K c 1 3 (⟨6, 5, 5, 5, 5, .half 5, .none, false, .any⟩, ⟨5, 5, 5, 4, 5, .full 5, .none, false, .any⟩) (.rest 8 8) ⊢ _
  refine step_crdwait I K c true 4 rfl (by decide) (by decide) (by decide) rfl ?_
  show St I K c 1 3 (⟨6, 5, 5, 5, 5, .half 5, .none, false, .any⟩, ⟨5, 5, 5, 5, 5, .full 5, .none, true, .any⟩) (.rest 8 8) ⊢ _
  refine step_send I K c true (j := 5) (.half 5) rfl (by decide) rfl (give_late I c true (by decide)) (Fin.ext (k0_dev24_eq c)) rfl rfl rfl ?_
  show St I K c 0 3 (⟨6, 5, 5, 5, 5, .half 5, .none, false, .any⟩, ⟨6, 5, 5, 5, 5, .half 5, .none, false, .any⟩) (.rest 8 8) ⊢ _
  refine step_load I K c false false 0 (f := (snt I false 5 c)) rfl rfl ?_
  show St I K c 0 3 (⟨6, 5, 5, 5, 5, .half 5, .none, false, .any⟩, ⟨6, 5, 5, 5, 5, .half 5, .none, false, .any⟩) (.rest 8 8) ⊢ _
  refine step_cdead I K c false rfl (fun v1048 => ?_)
  show St I K c 0 3 (⟨6, 5, 5, 5, 5, .half 5, .none, false, .any⟩, ⟨6, 5, 5, 5, 5, .half 5, .none, false, .any⟩) (.rest 8 8) ⊢ _
  refine step_cstore I K c false 2 0 rfl rfl (by rfl) ?_
  show St I K c 0 3 (⟨6, 5, 5, 5, 5, .half 5, .none, false, .has 2 0⟩, ⟨6, 5, 5, 5, 5, .half 5, .none, false, .any⟩) (.rest 8 8) ⊢ _
  refine step_copy I K c false 2 0 (k0_off2_eq c 3 0) rfl rfl rfl ?_
  show St I K c 0 3 (⟨6, 5, 5, 5, 5, .half 5, .none, false, .fly⟩, ⟨6, 5, 5, 5, 5, .half 5, .none, false, .any⟩) (.fly false 9 8) ⊢ _
  exact hk

end Cert.KernelIdeal.Hand

end
-- ==== Proof.Body13.lean ====
/-
The kernel's body, parts 33 to 34: each step of the program as a step of the state.
-/
module

public import proofs.«01_k».proof.Proof.Walk

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UAll ℕ

variable (I : Inp F) (K : Dev nD × Kd → ℕ) (c : Dev nD) {α : Type}

set_option maxRecDepth 4096

theorem part33 {Q : α → sProp 𝕄} {kk : (BitVec 32) → Prog (TpuEff nD τ sig (Elt F) Λ₀ .tc) α} (v1010 : BitVec 32)
    (hk : ∀ (c768_i32_729 : BitVec 32), St I K c 0 3 (⟨6, 5, 5, 5, 5, .half 5, .none, false, .has 2 3⟩, ⟨6, 5, 5, 5, 5, .half 5, .none, false, .any⟩) (.rest 11 8) ⊢ WP c (kk c768_i32_729) Q) :
    St I K c 0 3 (⟨6, 5, 5, 5, 5, .half 5, .none, false, .fly⟩, ⟨6, 5, 5, 5, 5, .half 5, .none, false, .any⟩) (.fly false 9 8)
      ⊢ WP c (k0_part33 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v1010 >>= kk) Q := by
  rw [k0_part33_eq_skeleton]
  unfold k0_part33_skel
  simp only [semSignalWord, semWaitWord, smemLoad, smemLoadElt, Prog.lift, Prog.bind_op, Prog.bind_ret, Prog.pure_eq_ret, Prog.bind_assoc]
  refine step_copywait I K c false rfl (ocredit _ _ _ false) (by decide) rfl ?_
  show St I K c 0 3 (⟨6, 5, 5, 5, 5, .half 5, .none, false, .any⟩, ⟨6, 5, 5, 5, 5, .half 5, .none, false, .any⟩) (.rest 9 8) ⊢ _
  refine step_load I K c false false 1 (f := (snt I false 5 c)) rfl rfl ?_
  show St I K c 0 3 (⟨6, 5, 5, 5, 5, .half 5, .none, false, .any⟩, ⟨6, 5, 5, 5, 5, .half 5, .none, false, .any⟩) (.rest 9 8) ⊢ _
  refine step_cdead I K c false rfl (fun v1060 => ?_)
  show St I K c 0 3 (⟨6, 5, 5, 5, 5, .half 5, .none, false, .any⟩, ⟨6, 5, 5, 5, 5, .half 5, .none, false, .any⟩) (.rest 9 8) ⊢ _
  refine step_cstore I K c false 2 1 rfl rfl (by rfl) ?_
  show St I K c 0 3 (⟨6, 5, 5, 5, 5, .half 5, .none, false, .has 2 1⟩, ⟨6, 5, 5, 5, 5, .half 5, .none, false, .any⟩) (.rest 9 8) ⊢ _
  refine step_copy I K c false 2 1 (k0_off2_eq c 3 1) rfl rfl rfl ?_
  show St I K c 0 3 (⟨6, 5, 5, 5, 5, .half 5, .none, false, .fly⟩, ⟨6, 5, 5, 5, 5, .half 5, .none, false, .any⟩) (.fly false 10 8) ⊢ _
  refine step_copywait I K c false rfl (ocredit _ _ _ false) (by decide) rfl ?_
  show St I K c 0 3 (⟨6, 5, 5, 5, 5, .half 5, .none, false, .any⟩, ⟨6, 5, 5, 5, 5, .half 5, .none, false, .any⟩) (.rest 10 8) ⊢ _
  refine step_load I K c false false 2 (f := (snt I false 5 c)) rfl rfl ?_
  show St I K c 0 3 (⟨6, 5, 5, 5, 5, .half 5, .none, false, .any⟩, ⟨6, 5, 5, 5, 5, .half 5, .none, false, .any⟩) (.rest 10 8) ⊢ _
  refine step_cdead I K c false rfl (fun v1072 => ?_)
  show St I K c 0 3 (⟨6, 5, 5, 5, 5, .half 5, .none, false, .any⟩, ⟨6, 5, 5, 5, 5, .half 5, .none, false, .any⟩) (.rest 10 8) ⊢ _
  refine step_cstore I K c false 2 2 rfl rfl (by rfl) ?_
  show St I K c 0 3 (⟨6, 5, 5, 5, 5, .half 5, .none, false, .has 2 2⟩, ⟨6, 5, 5, 5, 5, .half 5, .none, false, .any⟩) (.rest 10 8) ⊢ _
  refine step_copy I K c false 2 2 (k0_off2_eq c 3 2) rfl rfl rfl ?_
  show St I K c 0 3 (⟨6, 5, 5, 5, 5, .half 5, .none, false, .fly⟩, ⟨6, 5, 5, 5, 5, .half 5, .none, false, .any⟩) (.fly false 11 8) ⊢ _
  refine step_copywait I K c false rfl (ocredit _ _ _ false) (by decide) rfl ?_
  show St I K c 0 3 (⟨6, 5, 5, 5, 5, .half 5, .none, false, .any⟩, ⟨6, 5, 5, 5, 5, .half 5, .none, false, .any⟩) (.rest 11 8) ⊢ _
  refine step_load I K c false false 3 (f := (snt I false 5 c)) rfl rfl ?_
  show St I K c 0 3 (⟨6, 5, 5, 5, 5, .half 5, .none, false, .any⟩, ⟨6, 5, 5, 5, 5, .half 5, .none, false, .any⟩) (.rest 11 8) ⊢ _
  refine step_cdead I K c false rfl (fun v1084 => ?_)
  show St I K c 0 3 (⟨6, 5, 5, 5, 5, .half 5, .none, false, .any⟩, ⟨6, 5, 5, 5, 5, .half 5, .none, false, .any⟩) (.rest 11 8) ⊢ _
  refine step_cstore I K c false 2 3 rfl rfl (by rfl) ?_
  show St I K c 0 3 (⟨6, 5, 5, 5, 5, .half 5, .none, false, .has 2 3⟩, ⟨6, 5, 5, 5, 5, .half 5, .none, false, .any⟩) (.rest 11 8) ⊢ _
  exact hk _

theorem part34 {Q : α → sProp 𝕄} {kk : (PUnit) → Prog (TpuEff nD τ sig (Elt F) Λ₀ .tc) α} (v1010 : BitVec 32) (v1017 : BitVec 32) (c768_i32_729 : BitVec 32)
    (hk : St I K c 0 3 (⟨6, 5, 5, 5, 5, .half 5, .none, false, .any⟩, ⟨6, 5, 5, 5, 5, .half 5, .none, false, .fly⟩) (.fly true 12 10) ⊢ WP c (kk ⟨⟩) Q) :
    St I K c 0 3 (⟨6, 5, 5, 5, 5, .half 5, .none, false, .has 2 3⟩, ⟨6, 5, 5, 5, 5, .half 5, .none, false, .any⟩) (.rest 11 8)
      ⊢ WP c (k0_part34 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v1010 v1017 c768_i32_729 >>= kk) Q := by
  rw [k0_part34_eq_skeleton]
  unfold k0_part34_skel
  simp only [semSignalWord, semWaitWord, smemLoad, smemLoadElt, Prog.lift, Prog.bind_op, Prog.bind_ret, Prog.pure_eq_ret, Prog.bind_assoc]
  refine step_copy I K c false 2 3 (k0_off2_eq c 3 3) rfl rfl rfl ?_
  show St I K c 0 3 (⟨6, 5, 5, 5, 5, .half 5, .none, false, .fly⟩, ⟨6, 5, 5, 5, 5, .half 5, .none, false, .any⟩) (.fly false 12 8) ⊢ _
  refine step_copywait I K c false rfl (ocredit _ _ _ false) (by decide) rfl ?_
  show St I K c 0 3 (⟨6, 5, 5, 5, 5, .half 5, .none, false, .any⟩, ⟨6, 5, 5, 5, 5, .half 5, .none, false, .any⟩) (.rest 12 8) ⊢ _
  refine step_load I K c true false 0 (f := (snt I true 5 c)) rfl rfl ?_
  show St I K c 0 3 (⟨6, 5, 5, 5, 5, .half 5, .none, false, .any⟩, ⟨6, 5, 5, 5, 5, .half 5, .none, false, .any⟩) (.rest 12 8) ⊢ _
  refine step_cdead I K c true rfl (fun v1096 => ?_)
  show St I K c 0 3 (⟨6, 5, 5, 5, 5, .half 5, .none, false, .any⟩, ⟨6, 5, 5, 5, 5, .half 5, .none, false, .any⟩) (.rest 12 8) ⊢ _
  refine step_cstore I K c true 2 0 rfl rfl (by rfl) ?_
  show St I K c 0 3 (⟨6, 5, 5, 5, 5, .half 5, .none, false, .any⟩, ⟨6, 5, 5, 5, 5, .half 5, .none, false, .has 2 0⟩) (.rest 12 8) ⊢ _
  refine step_copy I K c true 2 0 (k0_off3_eq c 1 0) rfl rfl rfl ?_
  show St I K c 0 3 (⟨6, 5, 5, 5, 5, .half 5, .none, false, .any⟩, ⟨6, 5, 5, 5, 5, .half 5, .none, false, .fly⟩) (.fly true 12 9) ⊢ _
  refine step_copywait I K c true rfl (ocredit _ _ _ true) (by decide) rfl ?_
  show St I K c 0 3 (⟨6, 5, 5, 5, 5, .half 5, .none, false, .any⟩, ⟨6, 5, 5, 5, 5, .half 5, .none, false, .any⟩) (.rest 12 9) ⊢ _
  refine step_load I K c true false 1 (f := (snt I true 5 c)) rfl rfl ?_
  show St I K c 0 3 (⟨6, 5, 5, 5, 5, .half 5, .none, false, .any⟩, ⟨6, 5, 5, 5, 5, .half 5, .none, false, .any⟩) (.rest 12 9) ⊢ _
  refine step_cdead I K c true rfl (fun v1108 => ?_)
  show St I K c 0 3 (⟨6, 5, 5, 5, 5, .half 5, .none, false, .any⟩, ⟨6, 5, 5, 5, 5, .half 5, .none, false, .any⟩) (.rest 12 9) ⊢ _
  refine step_cstore I K c true 2 1 rfl rfl (by rfl) ?_
  show St I K c 0 3 (⟨6, 5, 5, 5, 5, .half 5, .none, false, .any⟩, ⟨6, 5, 5, 5, 5, .half 5, .none, false, .has 2 1⟩) (.rest 12 9) ⊢ _
  refine step_copy I K c true 2 1 (k0_off3_eq c 1 1) rfl rfl rfl ?_
  show St I K c 0 3 (⟨6, 5, 5, 5, 5, .half 5, .none, false, .any⟩, ⟨6, 5, 5, 5, 5, .half 5, .none, false, .fly⟩) (.fly true 12 10) ⊢ _
  exact hk

end Cert.KernelIdeal.Hand

end
-- ==== Proof.Body14.lean ====
/-
The kernel's body, parts 35 to 36: each step of the program as a step of the state.
-/
module

public import proofs.«01_k».proof.Proof.Walk

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UAll ℕ

variable (I : Inp F) (K : Dev nD × Kd → ℕ) (c : Dev nD) {α : Type}

set_option maxRecDepth 4096

theorem part35 {Q : α → sProp 𝕄} {kk : (BitVec 32) → Prog (TpuEff nD τ sig (Elt F) Λ₀ .tc) α} (v2 : BitVec 32) (v4 : BitVec 32) (v1017 : BitVec 32)
    (hk : ∀ (v1146 : BitVec 32), St I K c 0 3 (⟨6, 5, 6, 5, 5, .half 5, .full 6, false, .any⟩, ⟨6, 5, 5, 5, 5, .half 5, .none, false, .any⟩) (.rest 12 12) ⊢ WP c (kk v1146) Q) :
    St I K c 0 3 (⟨6, 5, 5, 5, 5, .half 5, .none, false, .any⟩, ⟨6, 5, 5, 5, 5, .half 5, .none, false, .fly⟩) (.fly true 12 10)
      ⊢ WP c (k0_part35 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v2 v4 v1017 >>= kk) Q := by
  rw [k0_part35_eq_skeleton]
  unfold k0_part35_skel
  simp only [semSignalWord, semWaitWord, smemLoad, smemLoadElt, Prog.lift, Prog.bind_op, Prog.bind_ret, Prog.pure_eq_ret, Prog.bind_assoc]
  refine step_copywait I K c true rfl (ocredit _ _ _ true) (by decide) rfl ?_
  show St I K c 0 3 (⟨6, 5, 5, 5, 5, .half 5, .none, false, .any⟩, ⟨6, 5, 5, 5, 5, .half 5, .none, false, .any⟩) (.rest 12 10) ⊢ _
  refine step_load I K c true false 2 (f := (snt I true 5 c)) rfl rfl ?_
  show St I K c 0 3 (⟨6, 5, 5, 5, 5, .half 5, .none, false, .any⟩, ⟨6, 5, 5, 5, 5, .half 5, .none, false, .any⟩) (.rest 12 10) ⊢ _
  refine step_cdead I K c true rfl (fun v1120 => ?_)
  show St I K c 0 3 (⟨6, 5, 5, 5, 5, .half 5, .none, false, .any⟩, ⟨6, 5, 5, 5, 5, .half 5, .none, false, .any⟩) (.rest 12 10) ⊢ _
  refine step_cstore I K c true 2 2 rfl rfl (by rfl) ?_
  show St I K c 0 3 (⟨6, 5, 5, 5, 5, .half 5, .none, false, .any⟩, ⟨6, 5, 5, 5, 5, .half 5, .none, false, .has 2 2⟩) (.rest 12 10) ⊢ _
  refine step_copy I K c true 2 2 (k0_off3_eq c 1 2) rfl rfl rfl ?_
  show St I K c 0 3 (⟨6, 5, 5, 5, 5, .half 5, .none, false, .any⟩, ⟨6, 5, 5, 5, 5, .half 5, .none, false, .fly⟩) (.fly true 12 11) ⊢ _
  refine step_copywait I K c true rfl (ocredit _ _ _ true) (by decide) rfl ?_
  show St I K c 0 3 (⟨6, 5, 5, 5, 5, .half 5, .none, false, .any⟩, ⟨6, 5, 5, 5, 5, .half 5, .none, false, .any⟩) (.rest 12 11) ⊢ _
  refine step_load I K c true false 3 (f := (snt I true 5 c)) rfl rfl ?_
  show St I K c 0 3 (⟨6, 5, 5, 5, 5, .half 5, .none, false, .any⟩, ⟨6, 5, 5, 5, 5, .half 5, .none, false, .any⟩) (.rest 12 11) ⊢ _
  refine step_cdead I K c true rfl (fun v1132 => ?_)
  show St I K c 0 3 (⟨6, 5, 5, 5, 5, .half 5, .none, false, .any⟩, ⟨6, 5, 5, 5, 5, .half 5, .none, false, .any⟩) (.rest 12 11) ⊢ _
  refine step_cstore I K c true 2 3 rfl rfl (by rfl) ?_
  show St I K c 0 3 (⟨6, 5, 5, 5, 5, .half 5, .none, false, .any⟩, ⟨6, 5, 5, 5, 5, .half 5, .none, false, .has 2 3⟩) (.rest 12 11) ⊢ _
  refine step_copy I K c true 2 3 (k0_off3_eq c 1 3) rfl rfl rfl ?_
  show St I K c 0 3 (⟨6, 5, 5, 5, 5, .half 5, .none, false, .any⟩, ⟨6, 5, 5, 5, 5, .half 5, .none, false, .fly⟩) (.fly true 12 12) ⊢ _
  refine step_copywait I K c true rfl (ocredit _ _ _ true) (by decide) rfl ?_
  show St I K c 0 3 (⟨6, 5, 5, 5, 5, .half 5, .none, false, .any⟩, ⟨6, 5, 5, 5, 5, .half 5, .none, false, .any⟩) (.rest 12 12) ⊢ _
  refine step_rcvwait I K c false 5 (.full 6) rfl (by decide) (by decide) (by decide) (land_late I c false (by decide) _) rfl (credit_eq false true) ?_
  show St I K c 0 3 (⟨6, 5, 6, 5, 5, .half 5, .full 6, false, .any⟩, ⟨6, 5, 5, 5, 5, .half 5, .none, false, .any⟩) (.rest 12 12) ⊢ _
  exact hk _

theorem part36 {Q : α → sProp 𝕄} {kk : (Σ' (v1148 : BitVec 32) (v1155 : BitVec 32), FVec F S256x4096 .f32) → Prog (TpuEff nD τ sig (Elt F) Λ₀ .tc) α} (v2 : BitVec 32) (v7 : BitVec 32) (v1146 : BitVec 32)
    (hk : ∀ (v1148 : BitVec 32) (v1155 : BitVec 32), St I K c 0 3 (⟨6, 6, 6, 5, 5, .full 5, .full 6, false, .any⟩, ⟨6, 6, 6, 5, 5, .full 5, .full 6, false, .any⟩) (.rest 13 12) ⊢ WP c (kk ⟨v1148, v1155, (k0_pay81 (rdS 1 (snt I false 6 c)))⟩) Q) :
    St I K c 0 3 (⟨6, 5, 6, 5, 5, .half 5, .full 6, false, .any⟩, ⟨6, 5, 5, 5, 5, .half 5, .none, false, .any⟩) (.rest 12 12)
      ⊢ WP c (k0_part36 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v2 v7 v1146 >>= kk) Q := by
  rw [k0_part36_eq_skeleton]
  unfold k0_part36_skel
  simp only [semSignalWord, semWaitWord, smemLoad, smemLoadElt, Prog.lift, Prog.bind_op, Prog.bind_ret, Prog.pure_eq_ret, Prog.bind_assoc]
  refine step_rcvwait I K c true 5 (.full 6) rfl (by decide) (by decide) (by decide) (land_late I c true (by decide) _) rfl (credit_eq true true) ?_
  show St I K c 0 3 (⟨6, 5, 6, 5, 5, .half 5, .full 6, false, .any⟩, ⟨6, 5, 6, 5, 5, .half 5, .full 6, false, .any⟩) (.rest 12 12) ⊢ _
  refine step_sndwait I K c false 5 (.full 5) rfl (by decide) (by decide) rfl (back_late I c false (by decide)) rfl (credit_eq false false) ?_
  show St I K c 0 3 (⟨6, 6, 6, 5, 5, .full 5, .full 6, false, .any⟩, ⟨6, 5, 6, 5, 5, .half 5, .full 6, false, .any⟩) (.rest 12 12) ⊢ _
  refine step_sndwait I K c true 5 (.full 5) rfl (by decide) (by decide) rfl (back_late I c true (by decide)) rfl (credit_eq true false) ?_
  show St I K c 0 3 (⟨6, 6, 6, 5, 5, .full 5, .full 6, false, .any⟩, ⟨6, 6, 6, 5, 5, .full 5, .full 6, false, .any⟩) (.rest 12 12) ⊢ _
  refine step_load I K c false true 0 (f := (snt I false 6 c)) rfl rfl ?_
  show St I K c 0 3 (⟨6, 6, 6, 5, 5, .full 5, .full 6, false, .any⟩, ⟨6, 6, 6, 5, 5, .full 5, .full 6, false, .any⟩) (.rest 12 12) ⊢ _
  refine step_cdead I K c false rfl (fun v1162 => ?_)
  show St I K c 0 3 (⟨6, 6, 6, 5, 5, .full 5, .full 6, false, .any⟩, ⟨6, 6, 6, 5, 5, .full 5, .full 6, false, .any⟩) (.rest 12 12) ⊢ _
  refine step_cstore I K c false 3 0 rfl rfl (by rfl) ?_
  show St I K c 0 3 (⟨6, 6, 6, 5, 5, .full 5, .full 6, false, .has 3 0⟩, ⟨6, 6, 6, 5, 5, .full 5, .full 6, false, .any⟩) (.rest 12 12) ⊢ _
  refine step_copy I K c false 3 0 (k0_off2_eq c 2 0) rfl rfl rfl ?_
  show St I K c 0 3 (⟨6, 6, 6, 5, 5, .full 5, .full 6, false, .fly⟩, ⟨6, 6, 6, 5, 5, .full 5, .full 6, false, .any⟩) (.fly false 13 12) ⊢ _
  refine step_copywait I K c false rfl (ocredit _ _ _ false) (by decide) rfl ?_
  show St I K c 0 3 (⟨6, 6, 6, 5, 5, .full 5, .full 6, false, .any⟩, ⟨6, 6, 6, 5, 5, .full 5, .full 6, false, .any⟩) (.rest 13 12) ⊢ _
  refine step_load I K c false true 1 (f := (snt I false 6 c)) rfl rfl ?_
  show St I K c 0 3 (⟨6, 6, 6, 5, 5, .full 5, .full 6, false, .any⟩, ⟨6, 6, 6, 5, 5, .full 5, .full 6, false, .any⟩) (.rest 13 12) ⊢ _
  exact hk _ _

end Cert.KernelIdeal.Hand

end
-- ==== Proof.Body15.lean ====
/-
The kernel's body, parts 37 to 38: each step of the program as a step of the state.
-/
module

public import proofs.«01_k».proof.Proof.Walk

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UAll ℕ

variable (I : Inp F) (K : Dev nD × Kd → ℕ) (c : Dev nD) {α : Type}

set_option maxRecDepth 4096

theorem part37 {Q : α → sProp 𝕄} {kk : (PUnit) → Prog (TpuEff nD τ sig (Elt F) Λ₀ .tc) α} (v1148 : BitVec 32)
    (hk : St I K c 0 3 (⟨6, 6, 6, 5, 5, .full 5, .full 6, false, .has 3 3⟩, ⟨6, 6, 6, 5, 5, .full 5, .full 6, false, .any⟩) (.rest 15 12) ⊢ WP c (kk ⟨⟩) Q) :
    St I K c 0 3 (⟨6, 6, 6, 5, 5, .full 5, .full 6, false, .any⟩, ⟨6, 6, 6, 5, 5, .full 5, .full 6, false, .any⟩) (.rest 13 12)
      ⊢ WP c (k0_part37 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v1148 (k0_pay81 (rdS 1 (snt I false 6 c))) >>= kk) Q := by
  rw [k0_part37_eq_skeleton]
  unfold k0_part37_skel
  simp only [semSignalWord, semWaitWord, smemLoad, smemLoadElt, Prog.lift, Prog.bind_op, Prog.bind_ret, Prog.pure_eq_ret, Prog.bind_assoc]
  refine step_cdead I K c false rfl (fun v1174 => ?_)
  show St I K c 0 3 (⟨6, 6, 6, 5, 5, .full 5, .full 6, false, .any⟩, ⟨6, 6, 6, 5, 5, .full 5, .full 6, false, .any⟩) (.rest 13 12) ⊢ _
  refine step_cstore I K c false 3 1 rfl rfl (by rfl) ?_
  show St I K c 0 3 (⟨6, 6, 6, 5, 5, .full 5, .full 6, false, .has 3 1⟩, ⟨6, 6, 6, 5, 5, .full 5, .full 6, false, .any⟩) (.rest 13 12) ⊢ _
  refine step_copy I K c false 3 1 (k0_off2_eq c 2 1) rfl rfl rfl ?_
  show St I K c 0 3 (⟨6, 6, 6, 5, 5, .full 5, .full 6, false, .fly⟩, ⟨6, 6, 6, 5, 5, .full 5, .full 6, false, .any⟩) (.fly false 14 12) ⊢ _
  refine step_copywait I K c false rfl (ocredit _ _ _ false) (by decide) rfl ?_
  show St I K c 0 3 (⟨6, 6, 6, 5, 5, .full 5, .full 6, false, .any⟩, ⟨6, 6, 6, 5, 5, .full 5, .full 6, false, .any⟩) (.rest 14 12) ⊢ _
  refine step_load I K c false true 2 (f := (snt I false 6 c)) rfl rfl ?_
  show St I K c 0 3 (⟨6, 6, 6, 5, 5, .full 5, .full 6, false, .any⟩, ⟨6, 6, 6, 5, 5, .full 5, .full 6, false, .any⟩) (.rest 14 12) ⊢ _
  refine step_cdead I K c false rfl (fun v1186 => ?_)
  show St I K c 0 3 (⟨6, 6, 6, 5, 5, .full 5, .full 6, false, .any⟩, ⟨6, 6, 6, 5, 5, .full 5, .full 6, false, .any⟩) (.rest 14 12) ⊢ _
  refine step_cstore I K c false 3 2 rfl rfl (by rfl) ?_
  show St I K c 0 3 (⟨6, 6, 6, 5, 5, .full 5, .full 6, false, .has 3 2⟩, ⟨6, 6, 6, 5, 5, .full 5, .full 6, false, .any⟩) (.rest 14 12) ⊢ _
  refine step_copy I K c false 3 2 (k0_off2_eq c 2 2) rfl rfl rfl ?_
  show St I K c 0 3 (⟨6, 6, 6, 5, 5, .full 5, .full 6, false, .fly⟩, ⟨6, 6, 6, 5, 5, .full 5, .full 6, false, .any⟩) (.fly false 15 12) ⊢ _
  refine step_copywait I K c false rfl (ocredit _ _ _ false) (by decide) rfl ?_
  show St I K c 0 3 (⟨6, 6, 6, 5, 5, .full 5, .full 6, false, .any⟩, ⟨6, 6, 6, 5, 5, .full 5, .full 6, false, .any⟩) (.rest 15 12) ⊢ _
  refine step_load I K c false true 3 (f := (snt I false 6 c)) rfl rfl ?_
  show St I K c 0 3 (⟨6, 6, 6, 5, 5, .full 5, .full 6, false, .any⟩, ⟨6, 6, 6, 5, 5, .full 5, .full 6, false, .any⟩) (.rest 15 12) ⊢ _
  refine step_cdead I K c false rfl (fun v1198 => ?_)
  show St I K c 0 3 (⟨6, 6, 6, 5, 5, .full 5, .full 6, false, .any⟩, ⟨6, 6, 6, 5, 5, .full 5, .full 6, false, .any⟩) (.rest 15 12) ⊢ _
  refine step_cstore I K c false 3 3 rfl rfl (by rfl) ?_
  show St I K c 0 3 (⟨6, 6, 6, 5, 5, .full 5, .full 6, false, .has 3 3⟩, ⟨6, 6, 6, 5, 5, .full 5, .full 6, false, .any⟩) (.rest 15 12) ⊢ _
  exact hk

theorem part38 {Q : α → sProp 𝕄} {kk : (FVec F S256x4096 .f32) → Prog (TpuEff nD τ sig (Elt F) Λ₀ .tc) α} (v1155 : BitVec 32)
    (hk : St I K c 0 3 (⟨6, 6, 6, 5, 5, .full 5, .full 6, false, .any⟩, ⟨6, 6, 6, 5, 5, .full 5, .full 6, false, .any⟩) (.rest 16 14) ⊢ WP c (kk (k0_pay87 (rdS 2 (snt I true 6 c)))) Q) :
    St I K c 0 3 (⟨6, 6, 6, 5, 5, .full 5, .full 6, false, .has 3 3⟩, ⟨6, 6, 6, 5, 5, .full 5, .full 6, false, .any⟩) (.rest 15 12)
      ⊢ WP c (k0_part38 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v1155 >>= kk) Q := by
  rw [k0_part38_eq_skeleton]
  unfold k0_part38_skel
  simp only [semSignalWord, semWaitWord, smemLoad, smemLoadElt, Prog.lift, Prog.bind_op, Prog.bind_ret, Prog.pure_eq_ret, Prog.bind_assoc]
  refine step_copy I K c false 3 3 (k0_off2_eq c 2 3) rfl rfl rfl ?_
  show St I K c 0 3 (⟨6, 6, 6, 5, 5, .full 5, .full 6, false, .fly⟩, ⟨6, 6, 6, 5, 5, .full 5, .full 6, false, .any⟩) (.fly false 16 12) ⊢ _
  refine step_copywait I K c false rfl (ocredit _ _ _ false) (by decide) rfl ?_
  show St I K c 0 3 (⟨6, 6, 6, 5, 5, .full 5, .full 6, false, .any⟩, ⟨6, 6, 6, 5, 5, .full 5, .full 6, false, .any⟩) (.rest 16 12) ⊢ _
  refine step_load I K c true true 0 (f := (snt I true 6 c)) rfl rfl ?_
  show St I K c 0 3 (⟨6, 6, 6, 5, 5, .full 5, .full 6, false, .any⟩, ⟨6, 6, 6, 5, 5, .full 5, .full 6, false, .any⟩) (.rest 16 12) ⊢ _
  refine step_cdead I K c true rfl (fun v1210 => ?_)
  show St I K c 0 3 (⟨6, 6, 6, 5, 5, .full 5, .full 6, false, .any⟩, ⟨6, 6, 6, 5, 5, .full 5, .full 6, false, .any⟩) (.rest 16 12) ⊢ _
  refine step_cstore I K c true 3 0 rfl rfl (by rfl) ?_
  show St I K c 0 3 (⟨6, 6, 6, 5, 5, .full 5, .full 6, false, .any⟩, ⟨6, 6, 6, 5, 5, .full 5, .full 6, false, .has 3 0⟩) (.rest 16 12) ⊢ _
  refine step_copy I K c true 3 0 (k0_off3_eq c 2 0) rfl rfl rfl ?_
  show St I K c 0 3 (⟨6, 6, 6, 5, 5, .full 5, .full 6, false, .any⟩, ⟨6, 6, 6, 5, 5, .full 5, .full 6, false, .fly⟩) (.fly true 16 13) ⊢ _
  refine step_copywait I K c true rfl (ocredit _ _ _ true) (by decide) rfl ?_
  show St I K c 0 3 (⟨6, 6, 6, 5, 5, .full 5, .full 6, false, .any⟩, ⟨6, 6, 6, 5, 5, .full 5, .full 6, false, .any⟩) (.rest 16 13) ⊢ _
  refine step_load I K c true true 1 (f := (snt I true 6 c)) rfl rfl ?_
  show St I K c 0 3 (⟨6, 6, 6, 5, 5, .full 5, .full 6, false, .any⟩, ⟨6, 6, 6, 5, 5, .full 5, .full 6, false, .any⟩) (.rest 16 13) ⊢ _
  refine step_cdead I K c true rfl (fun v1222 => ?_)
  show St I K c 0 3 (⟨6, 6, 6, 5, 5, .full 5, .full 6, false, .any⟩, ⟨6, 6, 6, 5, 5, .full 5, .full 6, false, .any⟩) (.rest 16 13) ⊢ _
  refine step_cstore I K c true 3 1 rfl rfl (by rfl) ?_
  show St I K c 0 3 (⟨6, 6, 6, 5, 5, .full 5, .full 6, false, .any⟩, ⟨6, 6, 6, 5, 5, .full 5, .full 6, false, .has 3 1⟩) (.rest 16 13) ⊢ _
  refine step_copy I K c true 3 1 (k0_off3_eq c 2 1) rfl rfl rfl ?_
  show St I K c 0 3 (⟨6, 6, 6, 5, 5, .full 5, .full 6, false, .any⟩, ⟨6, 6, 6, 5, 5, .full 5, .full 6, false, .fly⟩) (.fly true 16 14) ⊢ _
  refine step_copywait I K c true rfl (ocredit _ _ _ true) (by decide) rfl ?_
  show St I K c 0 3 (⟨6, 6, 6, 5, 5, .full 5, .full 6, false, .any⟩, ⟨6, 6, 6, 5, 5, .full 5, .full 6, false, .any⟩) (.rest 16 14) ⊢ _
  refine step_load I K c true true 2 (f := (snt I true 6 c)) rfl rfl ?_
  show St I K c 0 3 (⟨6, 6, 6, 5, 5, .full 5, .full 6, false, .any⟩, ⟨6, 6, 6, 5, 5, .full 5, .full 6, false, .any⟩) (.rest 16 14) ⊢ _
  exact hk

end Cert.KernelIdeal.Hand

end
-- ==== Proof.Body.lean ====
/-
The kernel's body, from the entry state to the exit state.
-/
module

public import proofs.«01_k».proof.Proof.Body1
public import proofs.«01_k».proof.Proof.Body2
public import proofs.«01_k».proof.Proof.Body3
public import proofs.«01_k».proof.Proof.Body4
public import proofs.«01_k».proof.Proof.Body5
public import proofs.«01_k».proof.Proof.Body6
public import proofs.«01_k».proof.Proof.Body7
public import proofs.«01_k».proof.Proof.Body8
public import proofs.«01_k».proof.Proof.Body9
public import proofs.«01_k».proof.Proof.Body10
public import proofs.«01_k».proof.Proof.Body11
public import proofs.«01_k».proof.Proof.Body12
public import proofs.«01_k».proof.Proof.Body13
public import proofs.«01_k».proof.Proof.Body14
public import proofs.«01_k».proof.Proof.Body15

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UAll ℕ

variable (I : Inp F) (K : Dev nD × Kd → ℕ) (c : Dev nD) {α : Type}

set_option maxRecDepth 4096

theorem run_body {Q : PUnit → sProp 𝕄}
    (hk : St I K c 0 3 (⟨6, 6, 6, 5, 5, .full 5, .full 6, false, .any⟩, ⟨6, 6, 6, 5, 5, .full 5, .full 6, false, .any⟩) (.rest 16 16) ⊢ WP c (Prog.ret ⟨⟩) Q) :
    St I K c 24 0 (⟨0, 0, 0, 0, 0, .part 0 0, .part 0 0, false, .any⟩, ⟨0, 0, 0, 0, 0, .part 0 0, .part 0 0, false, .any⟩) (.rest 0 0)
      ⊢ WP c (cc0__ar_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9) Q := by
  rw [cc0__ar_body_eq_skeleton]
  unfold cc0__ar_body_skel
  rw [k0_part39_eq_skeleton]
  unfold k0_part39_skel
  simp only [Prog.lift, Prog.bind_op, Prog.bind_ret, Prog.pure_eq_ret, Prog.bind_assoc]
  refine part1 I K c ?_
  intro _ _ _ _
  refine part2 I K c _ ?_
  refine part3 I K c _ _ ?_
  intro _
  refine part4 I K c _ ?_
  refine part5 I K c _ _ _ ?_
  intro _
  refine part6 I K c _ ?_
  refine part7 I K c _ _ _ _ ?_
  intro _
  refine part8 I K c _ _ ?_
  intro _
  refine part9 I K c _ _ ?_
  refine part10 I K c _ _ _ ?_
  intro _
  refine part11 I K c _ ?_
  refine part12 I K c _ _ ?_
  intro _
  refine part13 I K c _ _ _ _ ?_
  intro _
  refine part14 I K c _ ?_
  refine part15 I K c _ _ ?_
  refine part16 I K c _ ?_
  intro _ _
  refine part17 I K c _ ?_
  refine part18 I K c _ ?_
  refine part19 I K c _ _ ?_
  intro _ _
  refine part20 I K c _ ?_
  refine part21 I K c _ ?_
  refine part22 I K c _ _ ?_
  refine part23 I K c _ ?_
  intro _
  refine part24 I K c _ _ _ ?_
  refine part25 I K c _ ?_
  intro _
  refine part26 I K c _ _ _ _ _ ?_
  intro _ _ _ _
  refine part27 I K c _ _ _ _ ?_
  refine part28 I K c _ ?_
  refine part29 I K c _ _ ?_
  refine part30 I K c _ ?_
  refine part31 I K c _ _ _ ?_
  intro _ _ _
  refine part32 I K c _ _ _ _ ?_
  refine part33 I K c _ ?_
  intro _
  refine part34 I K c _ _ _ ?_
  refine part35 I K c _ _ _ ?_
  intro _
  refine part36 I K c _ _ _ ?_
  intro _ _
  refine part37 I K c _ ?_
  refine part38 I K c _ ?_
  refine step_cdead I K c true rfl (fun v1234 => ?_)
  show St I K c 0 3 (⟨6, 6, 6, 5, 5, .full 5, .full 6, false, .any⟩, ⟨6, 6, 6, 5, 5, .full 5, .full 6, false, .any⟩) (.rest 16 14) ⊢ _
  refine step_cstore I K c true 3 2 rfl rfl (by rfl) ?_
  show St I K c 0 3 (⟨6, 6, 6, 5, 5, .full 5, .full 6, false, .any⟩, ⟨6, 6, 6, 5, 5, .full 5, .full 6, false, .has 3 2⟩) (.rest 16 14) ⊢ _
  refine step_copy I K c true 3 2 (k0_off3_eq c 2 2) rfl rfl rfl ?_
  show St I K c 0 3 (⟨6, 6, 6, 5, 5, .full 5, .full 6, false, .any⟩, ⟨6, 6, 6, 5, 5, .full 5, .full 6, false, .fly⟩) (.fly true 16 15) ⊢ _
  refine step_copywait I K c true rfl (ocredit _ _ _ true) (by decide) rfl ?_
  show St I K c 0 3 (⟨6, 6, 6, 5, 5, .full 5, .full 6, false, .any⟩, ⟨6, 6, 6, 5, 5, .full 5, .full 6, false, .any⟩) (.rest 16 15) ⊢ _
  refine step_load I K c true true 3 (f := (snt I true 6 c)) rfl rfl ?_
  show St I K c 0 3 (⟨6, 6, 6, 5, 5, .full 5, .full 6, false, .any⟩, ⟨6, 6, 6, 5, 5, .full 5, .full 6, false, .any⟩) (.rest 16 15) ⊢ _
  refine step_cdead I K c true rfl (fun v1246 => ?_)
  show St I K c 0 3 (⟨6, 6, 6, 5, 5, .full 5, .full 6, false, .any⟩, ⟨6, 6, 6, 5, 5, .full 5, .full 6, false, .any⟩) (.rest 16 15) ⊢ _
  refine step_cstore I K c true 3 3 rfl rfl (by rfl) ?_
  show St I K c 0 3 (⟨6, 6, 6, 5, 5, .full 5, .full 6, false, .any⟩, ⟨6, 6, 6, 5, 5, .full 5, .full 6, false, .has 3 3⟩) (.rest 16 15) ⊢ _
  refine step_copy I K c true 3 3 (k0_off3_eq c 2 3) rfl rfl rfl ?_
  show St I K c 0 3 (⟨6, 6, 6, 5, 5, .full 5, .full 6, false, .any⟩, ⟨6, 6, 6, 5, 5, .full 5, .full 6, false, .fly⟩) (.fly true 16 16) ⊢ _
  refine step_copywait I K c true rfl (ocredit _ _ _ true) (by decide) rfl ?_
  show St I K c 0 3 (⟨6, 6, 6, 5, 5, .full 5, .full 6, false, .any⟩, ⟨6, 6, 6, 5, 5, .full 5, .full 6, false, .any⟩) (.rest 16 16) ⊢ _
  exact hk

end Cert.KernelIdeal.Hand

end
-- ==== Proof.Ends.lean ====
/-
The body between its entry and its exit: what the pipeline hands it makes the entry state, and the exit state,
its cells closed, is what the pipeline takes back.
-/
module

public import proofs.«01_k».proof.Proof.Body
public import proofs.«01_k».proof.Proof.Gen.KernelIdeal.Points

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UAll ℕ

open Idealize.ShloMosaic.Pipeline (Dat BodyObligation)

/-! ## One direction at the start, and at the end -/

section
variable (I : Inp F)

/-- What one direction has at the start besides its buffers. -/
def dirL (c : Dev nD) (d : Bool) : sProp 𝕄 :=
  iprop(Pos c d 0 0 0 ∗ frm (sndT c d) 6 0 ∗ frm (crdT c d) 5 0)

/-- Its credits. -/
def dirC (c : Dev nD) (d : Bool) : sProp 𝕄 := iprop(frm (rcvC c d) 6 0 ∗ frm (crdC c d) 5 0)

/-- Its scratch buffers, at whatever they hold. -/
def dirB (c : Dev nD) (d : Bool) : sProp 𝕄 :=
  iprop((∃ f, pts (F := F) c d false fullShare f) ∗ (∃ f, pts (F := F) c d true fullShare f) ∗ (∃ f, cpts (F := F) c d f))

theorem dir_start (c : Dev nD) (d : Bool) :
    iprop(dirL c d ∗ dirC c d ∗ dirB (F := F) c d ∗ semVal ((c : Thread nD τ), SemLoc.dma (osem d)) 0)
      ⊢ DSt I c d ⟨0, 0, 0, 0, 0, .part 0 0, .part 0 0, false, .any⟩ := by
  unfold dirL dirC dirB DSt
  iintro ⟨⟨H1, H2, H3⟩, ⟨H4, H5⟩, ⟨⟨%fa, Ha⟩, ⟨%fb, Hb⟩, Hc⟩, Hz⟩
  isplitl [H1]; · iexact H1
  isplitl [H2]; · iexact H2
  isplitl [H3]; · iexact H3
  isplitr [H4 H5 Ha Hb Hc Hz]; · iempintro
  isplitl [H4]; · iexact H4
  isplitl [H5]; · iexact H5
  isplitr [Ha Hb Hc Hz]; · (rw [if_neg (Nat.lt_irrefl 0)]; iempintro)
  isplitr [Ha Hb Hc Hz]; · (rw [if_neg (by decide)]; iempintro)
  isplitl [Ha]
  · unfold bown
    iexists fa
    isplitr [Ha]; · ipureintro; exact Agr_zero _ _
    iexact Ha
  isplitl [Hb]
  · unfold bown
    iexists fb
    isplitr [Hb]; · ipureintro; exact Agr_zero _ _
    iexact Hb
  unfold cown
  isplitl [Hc]; · iexact Hc
  iexact Hz

/-- The counters of a direction's cells, all at zero. -/
def dirZ (c : Dev nD) (d : Bool) : sProp 𝕄 :=
  iprop(semVal (cell c (.snd d)) 0 ∗ semVal (cell c (.rcv d)) 0 ∗ semVal (cell c (.crd d)) 0
    ∗ semVal ((c : Thread nD τ), SemLoc.dma (osem d)) 0)

variable (K : Dev nD × Kd → ℕ)

theorem close (c : Dev nD) (k : Kd) (R : ℕ) (h : R = rounds k) :
    iprop(recs I K ∗ atPos ERing (cell c k) R ∅ 0) ⊢ (|={Set.univ}=> semVal (cell c k) 0 : sProp 𝕄) := by
  subst h
  iintro ⟨#Hr, Ha⟩
  ihave #HI := (recs_inv I K c k) $$ Hr
  imod (Rounds.cell_close ERing (Rd (SS I)) (Set.mem_univ (K (c, k))) (fun h => h) (R := rounds k) (Rd_later (SS I) c k)) $$ [Ha] with Hz
  · isplitr [Ha]; · iexact HI
    iexact Ha
  imodintro
  iexact Hz

theorem dir_end (c : Dev nD) (d : Bool) :
    iprop(recs I K ∗ DSt I c d ⟨6, 6, 6, 5, 5, .full 5, .full 6, false, .any⟩)
      ⊢ (|={Set.univ}=> iprop(dirZ (F := F) c d ∗ dirB (F := F) c d) : sProp 𝕄) := by
  unfold DSt Pos
  iintro ⟨#Hr, ⟨⟨H1, -⟩, ⟨H2, -⟩, ⟨H3, -⟩⟩, -, -, -, -, -, -, -, Ha, Hb, Hc⟩
  imod (close I K c (.snd d) 6 rfl) $$ [H1] with Z1
  · isplitr [H1]; · iexact Hr
    iexact H1
  imod (close I K c (.rcv d) 6 rfl) $$ [H2] with Z2
  · isplitr [H2]; · iexact Hr
    iexact H2
  imod (close I K c (.crd d) 5 rfl) $$ [H3] with Z3
  · isplitr [H3]; · iexact Hr
    iexact H3
  imodintro
  unfold bown cown dirZ dirB
  icases Hc with ⟨Hc, Hz⟩
  isplitl [Z1 Z2 Z3 Hz]
  · isplitl [Z1]; · iexact Z1
    isplitl [Z2]; · iexact Z2
    isplitl [Z3]; · iexact Z3
    iexact Hz
  isplitl [Ha]; · (iexists _; iexact Ha)
  isplitl [Hb]; · (iexists _; iexact Hb)
  iexact Hc

/-! ## The whole device -/

/-- What a device has at the start besides its buffers and credits. -/
def lin (c : Dev nD) : sProp 𝕄 :=
  iprop((dutyTok ERing (cell (prv false c) .bar) 0 false ∗ dutyTok ERing (cell (prv true c) .bar) 0 true ∗ atPos ERing (cell c .bar) 0 ∅ 0)
    ∗ dirL (F := F) c false ∗ dirL (F := F) c true)

def zer (c : Dev nD) : sProp 𝕄 :=
  iprop(semVal ((c : Thread nD τ), SemLoc.dma (osem false)) 0 ∗ semVal ((c : Thread nD τ), SemLoc.dma (osem true)) 0)

/-- All its credits. -/
def creds (c : Dev nD) : sProp 𝕄 := iprop(cred (tallyAt (cell c .bar) 0 2) ∗ dirC (F := F) c false ∗ dirC (F := F) c true)

theorem st_start (c : Dev nD) :
    iprop((recs I K ∗ lin (F := F) c ∗ zer (F := F) c ∗ creds (F := F) c ∗ (∃ f, opts (F := F) c f)) ∗ (dirB (F := F) c false ∗ dirB (F := F) c true) ∗ OW (F := F) c 24 ∗ Xin I c)
      ⊢ St I K c 24 0 (⟨0, 0, 0, 0, 0, .part 0 0, .part 0 0, false, .any⟩, ⟨0, 0, 0, 0, 0, .part 0 0, .part 0 0, false, .any⟩) (.rest 0 0) := by
  unfold lin zer creds
  iintro ⟨⟨#Hr, ⟨⟨Hb1, Hb2, Hb3⟩, HLf, HLt⟩, ⟨Hzf, Hzt⟩, ⟨Hcb, HCf, HCt⟩, ⟨%g, Hg⟩⟩, ⟨HBf, HBt⟩, Ho, Hx⟩
  unfold St
  isplitr [Hb1 Hb2 Hb3 HLf HLt Hzf Hzt Hcb HCf HCt Hg HBf HBt Ho Hx]; · iexact Hr
  isplitl [Ho]; · iexact Ho
  isplitl [Hx]; · iexact Hx
  isplitl [Hb1 Hb2 Hb3 Hcb]
  · rw [show BarSt (F := F) c 0 = iprop(dutyTok ERing (cell (prv false c) .bar) 0 false ∗ dutyTok ERing (cell (prv true c) .bar) 0 true
      ∗ atPos ERing (cell c .bar) 0 ∅ 0 ∗ cred (tallyAt (cell c .bar) 0 2)) from rfl]
    isplitl [Hb1]; · iexact Hb1
    isplitl [Hb2]; · iexact Hb2
    isplitl [Hb3]; · iexact Hb3
    iexact Hcb
  isplitl [HLf HCf HBf Hzf]
  · iapply (dir_start I c false)
    isplitl [HLf]; · iexact HLf
    isplitl [HCf]; · iexact HCf
    isplitl [HBf]; · iexact HBf
    iexact Hzf
  isplitl [HLt HCt HBt Hzt]
  · iapply (dir_start I c true)
    isplitl [HLt]; · iexact HLt
    isplitl [HCt]; · iexact HCt
    isplitl [HBt]; · iexact HBt
    iexact Hzt
  unfold OutSt
  iexists g
  isplitr [Hg]
  · ipureintro
    intro d t k x h
    exact absurd h (by cases d <;> exact Nat.not_lt_zero _)
  iexact Hg

/-- What it leaves. -/
def fin1 (c : Dev nD) : sProp 𝕄 :=
  iprop(opts c (outG I) ∗ (dirB (F := F) c false ∗ dirB (F := F) c true) ∗ semVal (cell c .bar) 0 ∗ dirZ (F := F) c false ∗ dirZ (F := F) c true)

theorem st_end (c : Dev nD) :
    St I K c 0 3 (⟨6, 6, 6, 5, 5, .full 5, .full 6, false, .any⟩, ⟨6, 6, 6, 5, 5, .full 5, .full 6, false, .any⟩) (.rest 16 16)
      ⊢ (|={Set.univ}=> iprop(fin1 I c ∗ OW (F := F) c 0 ∗ Xin I c) : sProp 𝕄) := by
  unfold St
  iintro ⟨#Hr, Ho, Hx, Hb, Hf, Ht, Hu⟩
  imod (dir_end I K c false) $$ [Hf] with ⟨Zf, Bf⟩
  · isplitr [Hf]; · iexact Hr
    iexact Hf
  imod (dir_end I K c true) $$ [Ht] with ⟨Zt, Bt⟩
  · isplitr [Ht]; · iexact Hr
    iexact Ht
  unfold BarSt
  imod (close I K c .bar 1 rfl) $$ [Hb] with Zb
  · isplitr [Hb]; · iexact Hr
    iexact Hb
  imodintro
  unfold OutSt fin1
  icases Hu with ⟨%g, %hg, Hu⟩
  have hg' : g = outG I := AgrO_all (fun d => by cases d <;> rfl) hg
  subst hg'
  isplitr [Ho Hx]
  · isplitl [Hu]; · iexact Hu
    isplitl [Bf Bt]
    · isplitl [Bf]; · iexact Bf
      iexact Bt
    isplitl [Zb]; · iexact Zb
    isplitl [Zf]; · iexact Zf
    iexact Zt
  isplitl [Ho]; · iexact Ho
  iexact Hx

end

/-! ## The data of the pipeline's one point -/

variable (m : (ℓ : Loc nD τ sig) → Buf (Elt F) ℓ) (ρ : Dev nD → PrngReg)

def s₀ : MemSt nD τ sig (Elt F) := ⟨m, fun _ => 0, ρ⟩

/-- What the devices are called with, as staged. -/
def inp : Inp F where
  x c := (win0_0.blk (0 : Fin 1)).view.read (Elt F) (m ((c : Thread nD τ).loc main_arg0))
  w c := (win0_1.blk (0 : Fin 1)).view.read (Elt F) (m ((c : Thread nD τ).loc main_arg1))
  sx c := (win0_2.blk (0 : Fin 1)).view.read (Elt F) (m ((c : Thread nD τ).loc main_arg2))
  sw c := (win0_3.blk (0 : Fin 1)).view.read (Elt F) (m ((c : Thread nD τ).loc main_arg3))

/-- What the body starts from besides the scratch buffers. -/
def start (c : Dev nD) : sProp 𝕄 :=
  iprop(∃ K, recs (inp m) K ∗ lin (F := F) c ∗ zer (F := F) c ∗ creds (F := F) c ∗ ∃ f, opts (F := F) c f)

def Φ₀ (c : Dev nD) : sProp 𝕄 := iprop(start m c ∗ dirB (F := F) c false ∗ dirB (F := F) c true)

def dats (_ : Fin 1) (c : Dev nD) : Dat τ (Elt F) ℕ ℕ UAll ℕ cfg0 c where
  A w := (s₀ m ρ).mem ((cfg0.win w).arr.view.loc (c : Thread nD τ))
  after w _ := match w with
    | ⟨0, _⟩ => (inp m).x c
    | ⟨1, _⟩ => (inp m).w c
    | ⟨2, _⟩ => (inp m).sx c
    | ⟨3, _⟩ => (inp m).sw c
  Φ t := match t with
    | ⟨0, _⟩ => Φ₀ m c
    | ⟨_ + 1, _⟩ => fin1 (inp m) c
  q _ := fullShare
  owed t := match t with
    | ⟨0, _⟩ => owe c 24
    | ⟨_ + 1, _⟩ => 0

theorem owns_whole_eq (c : Dev nD) (b : Ref sig .tc) (X : b.ty.Contents (Elt F)) :
    (owns (Ix := ℕ) (Name := ℕ) (U := UAll) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt 0 t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(fin1 (inp m) c ∗ (dats m ρ 0 c).owesAt 0 t0_0.succ
    ∗ stg c cc0_stg0_0 ((inp m).x c) ∗ stg c cc0_stg1_0 ((inp m).w c) ∗ stg c cc0_stg2_0 ((inp m).sx c) ∗ stg c cc0_stg3_0 ((inp m).sw c))

theorem body_end (K : Dev nD × Kd → ℕ) (c : Dev nD) :
    St (inp m) K c 0 3 (⟨6, 6, 6, 5, 5, .full 5, .full 6, false, .any⟩, ⟨6, 6, 6, 5, 5, .full 5, .full 6, false, .any⟩) (.rest 16 16)
      ⊢ (|={Set.univ}=> bodyPost m ρ c : sProp 𝕄) := by
  iintro H
  imod (st_end (inp m) K c) $$ H with ⟨Hf, Ho, Hx⟩
  imodintro
  unfold bodyPost Dat.owesAt Pipeline.owesWithin OW Xin
  rw [show (dats m ρ 0 c).owed t0_0.succ = 0 from rfl]
  icases Hx with ⟨H0, H1, H2, H3⟩
  icases Ho with ⟨%W, Ho⟩
  isplitl [Hf]; · iexact Hf
  isplitl [Ho]
  · iexists W
    isplitr [Ho]; · ipureintro; exact fun _ _ => Or.inl trivial
    iexact Ho
  isplitl [H0]
  · iexists _; isplitr [H0]; · (ipureintro; rfl)
    iexact H0
  isplitl [H1]
  · iexists _; isplitr [H1]; · (ipureintro; rfl)
    iexact H1
  isplitl [H2]
  · iexists _; isplitr [H2]; · (ipureintro; rfl)
    iexact H2
  iexists _; isplitr [H3]; · (ipureintro; rfl)
  iexact H3

set_option maxRecDepth 8000 in
theorem body_run (c : Dev nD) :
    bodyPre m ρ c ⊢ wp frame (wpE (defs₀ (F := F)) 𝒱₀ c none) Set.univ
      (cc0__ar_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _)
        (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
        cc0_scratch6 cc0_scratch7 cc0_scratch8 cc0_scratch9) (fun _ => bodyPost m ρ c) := by
  unfold bodyPre Φ₀ start
  iintro ⟨⟨⟨%K, Hs⟩, HB⟩, Ho, ⟨%d0, %g0, %h0, H0⟩, ⟨%d1, %g1, %h1, H1⟩, ⟨%d2, %g2, %h2, H2⟩, ⟨%d3, %g3, %h3, H3⟩⟩
  have e0 : g0 = (inp m).x c := by rw [h0]; unfold Dat.before; rw [if_pos (fetch0_0 t0_0)]; rfl
  have e1 : g1 = (inp m).w c := by rw [h1]; unfold Dat.before; rw [if_pos (fetch0_1 t0_0)]; rfl
  have e2 : g2 = (inp m).sx c := by rw [h2]; unfold Dat.before; rw [if_pos (fetch0_2 t0_0)]; rfl
  have e3 : g3 = (inp m).sw c := by rw [h3]; unfold Dat.before; rw [if_pos (fetch0_3 t0_0)]; rfl
  subst e0 e1 e2 e3
  unfold Dat.owesAt Pipeline.owesWithin
  icases Ho with ⟨%W, %hW, HO⟩
  rw [show (dats m ρ 0 c).owed t0_0.castSucc = owe c 24 from rfl]
  iapply ((st_start (inp m) K c).trans (run_body (inp m) K c (Q := fun _ => bodyPost m ρ c)
    (by unfold WP; rw [wp_ret]; exact body_end m ρ K c)))
  isplitl [Hs]; · iexact Hs
  isplitl [HB]; · iexact HB
  isplitl [HO]
  · unfold OW
    iexists W
    iexact HO
  unfold Xin
  isplitl [H0]; · iexact H0
  isplitl [H1]; · iexact H1
  isplitl [H2]; · iexact H2
  iexact H3

set_option maxRecDepth 200000 in
/-- The library's body obligation on core `c`. -/
theorem body_obligation (c : Dev nD) : BodyObligation (dats (F := F) m ρ 0 c) (defs₀ (F := F)) 𝒱₀ 0 Set.univ := fun t => by
  rw [show t = t0_0 from fin_N0 t]
  rw [bigSep_W0, bigSep_W0]
  simp only [owns_whole_eq]
  show bodyPre m ρ c ⊢ wp frame (wpE defs₀ 𝒱₀ c none) Set.univ
      (cc0__ar_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _)
        (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
        cc0_scratch6 cc0_scratch7 cc0_scratch8 cc0_scratch9) (fun _ => bodyPost m ρ c)
  exact body_run m ρ c

end Cert.KernelIdeal.Hand

end
-- ==== Proof.Deal.lean ====
/-
What the launch deals: the credit of every cell, round by round, and the duty tokens, each to the device that pays with it.
-/
module

public import proofs.«01_k».proof.Proof.Ends

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UAll ℕ

open Idealize.ShloMosaic.Pipeline (Dat BodyObligation)

/-! ## The credits at the launch -/

theorem owe_eq (c : Dev nD) (n : ℕ) : owe c n = ∑ k ∈ Finset.range n, payT (payAt c (23 - k)) := by
  induction n with
  | zero => rfl
  | succ n ih => rw [Finset.sum_range_succ, ← ih]; rfl

theorem cell_inj {a b : Dev nD} {k l : Kd} (h : cell a k = cell b l) : a = b ∧ k = l :=
  ⟨by have := congrArg (fun g : GSem nD τ sig => g.1.1) h; exact this, semOf_injective (congrArg Prod.snd h)⟩

theorem payT_cell (x : Dev nD × Kd × ℕ) (c : Dev nD) (k : Kd) (r : ℕ) :
    payT x (cell c k) r = amt k * (if x = (c, k, r) then 1 else 0) := by
  unfold payT
  rw [tallyAt_apply]
  by_cases h : x = (c, k, r)
  · subst h
    rw [if_pos ⟨rfl, rfl⟩, if_pos rfl, Nat.mul_one]
  · rw [if_neg h, if_neg, Nat.mul_zero]
    rintro ⟨h1, h2⟩
    obtain ⟨h3, h4⟩ := cell_inj h1
    exact h (by rw [h2, h3, h4])

/-- How often a round is paid for. -/
def paid (c : Dev nD) (k : Kd) (r : ℕ) : ℕ :=
  ∑ d : Dev nD, ∑ p ∈ Finset.range 24, if payAt d (23 - p) = (c, k, r) then 1 else 0

theorem paid_eq : ∀ (k : Kd) (c : Dev nD) (r : Fin 6),
    k = .snd false ∨ k = .snd true ∨ paid c k r.val = if r.val < rounds k then (if k = .bar then 2 else 1) else 0 := by
  decide +kernel

theorem paid_late (c : Dev nD) (k : Kd) (r : ℕ) (hr : 6 ≤ r) : paid c k r = 0 := by
  unfold paid
  refine Finset.sum_eq_zero fun d _ => Finset.sum_eq_zero fun p hp => if_neg fun h => ?_
  have h1 := (place_payAt d (23 - p) (by omega)).2.2
  rw [h] at h1
  exact absurd h1 (Nat.not_lt.mpr hr)

theorem owed_at (c : Dev nD) (k : Kd) (r : ℕ) : ∑ d : Dev nD, owe d 24 (cell c k) r = amt k * paid c k r := by
  unfold paid
  rw [Finset.mul_sum]
  refine Finset.sum_congr rfl fun d _ => ?_
  rw [owe_eq, Finset.sum_apply, Finsupp.finsetSum_apply, Finset.mul_sum]
  exact Finset.sum_congr rfl fun p _ => payT_cell _ c k r

theorem rounds_le : ∀ k : Kd, rounds k ≤ 6 := by decide

theorem launch_at (c : Dev nD) (k : Kd) (hk : k ≠ .snd false) (hk' : k ≠ .snd true) :
    tallyOn (cell c k) (launchCredit (Pipeline.owing fun d => owe d 24) 0 (cell c k))
      = ∑ r ∈ Finset.range (rounds k), (tallyAt (cell c k) r (amt k * (if k = .bar then 2 else 1)) : CellTallies nD τ sig ℕ) := by
  have e : launchCredit (Pipeline.owing fun d => owe d 24) 0 (cell c k)
      = ∑ r ∈ Finset.range (rounds k), Finsupp.single r (amt k * (if k = .bar then 2 else 1)) := by
    refine Finsupp.ext fun u => ?_
    rw [Pipeline.launchCredit_owing, owed_at, Finsupp.finsetSum_apply]
    have e1 : ∀ r ∈ Finset.range (rounds k), (Finsupp.single r (amt k * (if k = .bar then 2 else 1)) : ℕ →₀ ℕ) u
        = if u = r then amt k * (if k = .bar then 2 else 1) else 0 := fun r _ => by
      rw [Finsupp.single_apply]
      by_cases h : u = r
      · rw [if_pos h, if_pos h.symm]
      · rw [if_neg h, if_neg (fun h' => h h'.symm)]
    rw [Finset.sum_congr rfl e1, Finset.sum_ite_eq (Finset.range (rounds k)) u]
    have hrd : rounds k ≤ 6 := rounds_le k
    by_cases hu : u < 6
    · rcases paid_eq k c ⟨u, hu⟩ with h | h | h
      · exact absurd h hk
      · exact absurd h hk'
      · rw [h]
        by_cases h' : u < rounds k
        · rw [if_pos h', if_pos (Finset.mem_range.mpr h')]
        · rw [if_neg h', if_neg (fun h'' => h' (Finset.mem_range.mp h'')), Nat.mul_zero]
    · rw [paid_late c k u (by omega), Nat.mul_zero, if_neg]
      intro h
      have := Finset.mem_range.mp h
      omega
  rw [e]
  generalize rounds k = n
  induction n with
  | zero => rw [Finset.sum_range_zero, Finset.sum_range_zero, tallyOn_zero]
  | succ n ih => rw [Finset.sum_range_succ, Finset.sum_range_succ, tallyOn_add, ih]; rfl

theorem cred_frm (g : GSem nD τ sig) (a : ℕ) (n i : ℕ) :
    (cred (∑ r ∈ Finset.range n, (tallyAt g (i + r) a : CellTallies nD τ sig ℕ)) : sProp 𝕄) ⊢ frm (fun r => cred (tallyAt g r a)) n i := by
  induction n generalizing i with
  | zero =>
    rw [Finset.sum_range_zero, cred_zero]
    exact Entails.of_eq rfl
  | succ n ih =>
    rw [Finset.sum_range_succ']
    refine (cred_add _ _).1.trans ?_
    unfold frm
    iintro ⟨H1, H2⟩
    isplitl [H2]; · iexact H2
    iapply (ih (i + 1))
    rw [show (∑ r ∈ Finset.range n, (tallyAt g (i + 1 + r) a : CellTallies nD τ sig ℕ)) = ∑ r ∈ Finset.range n, tallyAt g (i + (r + 1)) a from
      Finset.sum_congr rfl fun r _ => by rw [show i + 1 + r = i + (r + 1) by omega]]
    iexact H1

theorem cred_kind (c : Dev nD) (k : Kd) (hk : k ≠ .snd false) (hk' : k ≠ .snd true) :
    (cred (tallyOn (cell c k) (launchCredit (Pipeline.owing fun d => owe d 24) 0 (cell c k))) : sProp 𝕄)
      ⊢ frm (fun r => cred (tallyAt (cell c k) r (amt k * (if k = .bar then 2 else 1)))) (rounds k) 0 := by
  rw [launch_at c k hk hk']
  have h := cred_frm (F := F) (cell c k) (amt k * (if k = .bar then 2 else 1)) (rounds k) 0
  simp only [Nat.zero_add] at h
  exact h

theorem kd_list (Φ : Kd → sProp 𝕄) : bigSep Finset.univ Φ
    = iprop(Φ .bar ∗ (Φ (.snd false) ∗ Φ (.rcv false) ∗ Φ (.crd false) ∗ Φ (.snd true) ∗ Φ (.rcv true) ∗ Φ (.crd true))) :=
  bigSep_univ_eq_bigSepL [Kd.bar, .snd false, .rcv false, .crd false, .snd true, .rcv true, .crd true] (by decide) (by decide) Φ

theorem creds_intro (c : Dev nD) : (Pipeline.launchCred (fun d => owe d 24) c : sProp 𝕄) ⊢ creds (F := F) c := by
  have h0 : (Pipeline.launchCred (fun d => owe d 24) c : sProp 𝕄)
      ⊢ bigSep Finset.univ fun k : Kd => cred (tallyOn (cell c k) (launchCredit (Pipeline.owing fun d => owe d 24) 0 (cell c k))) := by
    unfold Pipeline.launchCred
    refine BIBase.Entails.trans (BI.bigSep_subset (Finset.subset_univ (Finset.univ.map ⟨semOf, semOf_injective⟩))) ?_
    rw [BI.bigSep_map]
    exact BIBase.Entails.of_eq rfl
  have hb : frm (F := F) (fun r => cred (tallyAt (cell c .bar) r (amt .bar * (if Kd.bar = .bar then 2 else 1)))) (rounds .bar) 0
      ⊢ cred (tallyAt (cell c .bar) 0 2) := by
    show iprop(cred (tallyAt (cell c .bar) 0 2) ∗ emp) ⊢ _
    iintro ⟨H0, -⟩
    iexact H0
  have er : ∀ d, frm (F := F) (fun r => cred (tallyAt (cell c (.rcv d)) r (amt (.rcv d) * (if Kd.rcv d = .bar then 2 else 1)))) (rounds (.rcv d)) 0
      ⊢ frm (rcvC c d) 6 0 := fun d => Entails.of_eq (by
    rw [show amt (.rcv d) * (if Kd.rcv d = .bar then 2 else 1) = N from Nat.mul_one N]; rfl)
  have ec : ∀ d, frm (F := F) (fun r => cred (tallyAt (cell c (.crd d)) r (amt (.crd d) * (if Kd.crd d = .bar then 2 else 1)))) (rounds (.crd d)) 0
      ⊢ frm (crdC c d) 5 0 := fun d => Entails.of_eq rfl
  refine h0.trans ?_
  rw [kd_list]
  unfold creds dirC
  iintro ⟨H0, -, H1, H2, -, H3, H4⟩
  ihave H0 := ((cred_kind (F := F) c .bar (by decide) (by decide)).trans hb) $$ H0
  ihave H1 := ((cred_kind (F := F) c (.rcv false) (by decide) (by decide)).trans (er false)) $$ H1
  ihave H2 := ((cred_kind (F := F) c (.crd false) (by decide) (by decide)).trans (ec false)) $$ H2
  ihave H3 := ((cred_kind (F := F) c (.rcv true) (by decide) (by decide)).trans (er true)) $$ H3
  ihave H4 := ((cred_kind (F := F) c (.crd true) (by decide) (by decide)).trans (ec true)) $$ H4
  isplitl [H0]; · iexact H0
  isplitl [H1 H2]
  · isplitl [H1]; · iexact H1
    iexact H2
  isplitl [H3]; · iexact H3
  iexact H4

/-! ## The tokens -/

/-- The duties of a device's cells, numbered. -/
def tk (i : Fin 36) : Kd × ℕ × Bool :=
  if i.val < 2 then (.bar, 0, i.val == 1)
  else if (i.val - 2) % 17 < 6 then (.snd (decide (19 ≤ i.val)), (i.val - 2) % 17, false)
  else if (i.val - 2) % 17 < 12 then (.rcv (decide (19 ≤ i.val)), (i.val - 2) % 17 - 6, false)
  else (.crd (decide (19 ≤ i.val)), (i.val - 2) % 17 - 12, false)

/-- Whose cell a device pays with a duty, and who pays a device's. -/
def payee (i : Fin 36) (c : Dev nD) : Dev nD :=
  match tk i with
  | (.bar, _, b) => prv b c
  | (.snd _, _, _) => c
  | (.rcv d, _, _) => nxt d c
  | (.crd d, _, _) => prv d c
def payer (i : Fin 36) (c : Dev nD) : Dev nD :=
  match tk i with
  | (.bar, _, b) => nxt b c
  | (.snd _, _, _) => c
  | (.rcv d, _, _) => prv d c
  | (.crd d, _, _) => nxt d c

theorem payer_payee : ∀ (i : Fin 36) (c : Dev nD), payer i (payee i c) = c := by decide +kernel
theorem payee_payer : ∀ (i : Fin 36) (c : Dev nD), payee i (payer i c) = c := by decide +kernel
theorem tk_injective : Function.Injective tk := by
  have h : ∀ i j : Fin 36, tk i = tk j → i = j := by decide +kernel
  exact fun i j => h i j

def deal : Dev nD × Fin 36 ≃ Dev nD × Fin 36 where
  toFun p := (payee p.2 p.1, p.2)
  invFun p := (payer p.2 p.1, p.2)
  left_inv p := Prod.ext (payer_payee p.2 p.1) rfl
  right_inv p := Prod.ext (payee_payer p.2 p.1) rfl

abbrev tokOf (p : Dev nD × Fin 36) : GSem nD τ sig × ℕ × Bool := (cell p.1 (tk p.2).1, (tk p.2).2.1, (tk p.2).2.2)
theorem tokOf_injective : Function.Injective tokOf := by
  rintro ⟨c, i⟩ ⟨c', i'⟩ h
  obtain ⟨h1, h2⟩ := cell_inj (congrArg Prod.fst h)
  have h3 : tk i = tk i' := Prod.ext h2 (congrArg (fun z : GSem nD τ sig × ℕ × Bool => z.2) h)
  exact Prod.ext h1 (tk_injective h3)
theorem cell_injective : Function.Injective (fun p : Dev nD × Kd => cell p.1 p.2) := fun p q h =>
  Prod.ext (cell_inj h).1 (cell_inj h).2

def allCells : Finset (GSem nD τ sig) := Finset.univ.map ⟨fun p : Dev nD × Kd => cell p.1 p.2, cell_injective⟩
def allToks : Finset (GSem nD τ sig × ℕ × Bool) := Finset.univ.map ⟨tokOf, tokOf_injective⟩

/-- What a device pays with. -/
def payToks (c : Dev nD) : sProp 𝕄 :=
  iprop((dutyTok ERing (cell (prv false c) .bar) 0 false ∗ dutyTok ERing (cell (prv true c) .bar) 0 true)
    ∗ (frm (sndT (F := F) c false) 6 0 ∗ frm (crdT (F := F) c false) 5 0)
    ∗ (frm (sndT (F := F) c true) 6 0 ∗ frm (crdT (F := F) c true) 5 0))

set_option maxRecDepth 8000 in
theorem pay_intro (c : Dev nD) :
    (bigSep Finset.univ fun i : Fin 36 => dutyTok ERing (cell (payee i c) (tk i).1) (tk i).2.1 (tk i).2.2 : sProp 𝕄) ⊢ payToks (F := F) c := by
  rw [bigSep_univ_eq_bigSepL [0, 1, 2, 3, 4, 5, 6, 7, 8, 9, 10, 11, 12, 13, 14, 15, 16, 17, 18, 19, 20, 21, 22, 23, 24, 25, 26, 27, 28, 29, 30, 31, 32, 33, 34, 35] (by decide) (by decide)]
  show iprop(dutyTok ERing (cell (prv false c) .bar) 0 false
      ∗ dutyTok ERing (cell (prv true c) .bar) 0 true
      ∗ dutyTok ERing (cell c (.snd false)) 0 false
      ∗ dutyTok ERing (cell c (.snd false)) 1 false
      ∗ dutyTok ERing (cell c (.snd false)) 2 false
      ∗ dutyTok ERing (cell c (.snd false)) 3 false
      ∗ dutyTok ERing (cell c (.snd false)) 4 false
      ∗ dutyTok ERing (cell c (.snd false)) 5 false
      ∗ dutyTok ERing (cell (nxt false c) (.rcv false)) 0 false
      ∗ dutyTok ERing (cell (nxt false c) (.rcv false)) 1 false
      ∗ dutyTok ERing (cell (nxt false c) (.rcv false)) 2 false
      ∗ dutyTok ERing (cell (nxt false c) (.rcv false)) 3 false
      ∗ dutyTok ERing (cell (nxt false c) (.rcv false)) 4 false
      ∗ dutyTok ERing (cell (nxt false c) (.rcv false)) 5 false
      ∗ dutyTok ERing (cell (prv false c) (.crd false)) 0 false
      ∗ dutyTok ERing (cell (prv false c) (.crd false)) 1 false
      ∗ dutyTok ERing (cell (prv false c) (.crd false)) 2 false
      ∗ dutyTok ERing (cell (prv false c) (.crd false)) 3 false
      ∗ dutyTok ERing (cell (prv false c) (.crd false)) 4 false
      ∗ dutyTok ERing (cell c (.snd true)) 0 false
      ∗ dutyTok ERing (cell c (.snd true)) 1 false
      ∗ dutyTok ERing (cell c (.snd true)) 2 false
      ∗ dutyTok ERing (cell c (.snd true)) 3 false
      ∗ dutyTok ERing (cell c (.snd true)) 4 false
      ∗ dutyTok ERing (cell c (.snd true)) 5 false
      ∗ dutyTok ERing (cell (nxt true c) (.rcv true)) 0 false
      ∗ dutyTok ERing (cell (nxt true c) (.rcv true)) 1 false
      ∗ dutyTok ERing (cell (nxt true c) (.rcv true)) 2 false
      ∗ dutyTok ERing (cell (nxt true c) (.rcv true)) 3 false
      ∗ dutyTok ERing (cell (nxt true c) (.rcv true)) 4 false
      ∗ dutyTok ERing (cell (nxt true c) (.rcv true)) 5 false
      ∗ dutyTok ERing (cell (prv true c) (.crd true)) 0 false
      ∗ dutyTok ERing (cell (prv true c) (.crd true)) 1 false
      ∗ dutyTok ERing (cell (prv true c) (.crd true)) 2 false
      ∗ dutyTok ERing (cell (prv true c) (.crd true)) 3 false
      ∗ dutyTok ERing (cell (prv true c) (.crd true)) 4 false) ⊢ _
  show _ ⊢ iprop((dutyTok ERing (cell (prv false c) .bar) 0 false ∗ dutyTok ERing (cell (prv true c) .bar) 0 true) ∗ (((dutyTok ERing (cell c (.snd false)) 0 false ∗ dutyTok ERing (cell (nxt false c) (.rcv false)) 0 false) ∗ (dutyTok ERing (cell c (.snd false)) 1 false ∗ dutyTok ERing (cell (nxt false c) (.rcv false)) 1 false) ∗ (dutyTok ERing (cell c (.snd false)) 2 false ∗ dutyTok ERing (cell (nxt false c) (.rcv false)) 2 false) ∗ (dutyTok ERing (cell c (.snd false)) 3 false ∗ dutyTok ERing (cell (nxt false c) (.rcv false)) 3 false) ∗ (dutyTok ERing (cell c (.snd false)) 4 false ∗ dutyTok ERing (cell (nxt false c) (.rcv false)) 4 false) ∗ (dutyTok ERing (cell c (.snd false)) 5 false ∗ dutyTok ERing (cell (nxt false c) (.rcv false)) 5 false) ∗ emp) ∗ (dutyTok ERing (cell (prv false c) (.crd false)) 0 false ∗ dutyTok ERing (cell (prv false c) (.crd false)) 1 false ∗ dutyTok ERing (cell (prv false c) (.crd false)) 2 false ∗ dutyTok ERing (cell (prv false c) (.crd false)) 3 false ∗ dutyTok ERing (cell (prv false c) (.crd false)) 4 false ∗ emp)) ∗ (((dutyTok ERing (cell c (.snd true)) 0 false ∗ dutyTok ERing (cell (nxt true c) (.rcv true)) 0 false) ∗ (dutyTok ERing (cell c (.snd true)) 1 false ∗ dutyTok ERing (cell (nxt true c) (.rcv true)) 1 false) ∗ (dutyTok ERing (cell c (.snd true)) 2 false ∗ dutyTok ERing (cell (nxt true c) (.rcv true)) 2 false) ∗ (dutyTok ERing (cell c (.snd true)) 3 false ∗ dutyTok ERing (cell (nxt true c) (.rcv true)) 3 false) ∗ (dutyTok ERing (cell c (.snd true)) 4 false ∗ dutyTok ERing (cell (nxt true c) (.rcv true)) 4 false) ∗ (dutyTok ERing (cell c (.snd true)) 5 false ∗ dutyTok ERing (cell (nxt true c) (.rcv true)) 5 false) ∗ emp) ∗ (dutyTok ERing (cell (prv true c) (.crd true)) 0 false ∗ dutyTok ERing (cell (prv true c) (.crd true)) 1 false ∗ dutyTok ERing (cell (prv true c) (.crd true)) 2 false ∗ dutyTok ERing (cell (prv true c) (.crd true)) 3 false ∗ dutyTok ERing (cell (prv true c) (.crd true)) 4 false ∗ emp)))
  iintro ⟨H0, H1, H2, H3, H4, H5, H6, H7, H8, H9, H10, H11, H12, H13, H14, H15, H16, H17, H18, H19, H20, H21, H22, H23, H24, H25, H26, H27, H28, H29, H30, H31, H32, H33, H34, H35⟩
  isplitl [H0 H1]
  · isplitl [H0]; · iexact H0
    iexact H1
  isplitl [H2 H3 H4 H5 H6 H7 H8 H9 H10 H11 H12 H13 H14 H15 H16 H17 H18]
  · isplitl [H2 H3 H4 H5 H6 H7 H8 H9 H10 H11 H12 H13]
    · isplitl [H2 H8]
      · isplitl [H2]; · iexact H2
        iexact H8
      isplitl [H3 H9]
      · isplitl [H3]; · iexact H3
        iexact H9
      isplitl [H4 H10]
      · isplitl [H4]; · iexact H4
        iexact H10
      isplitl [H5 H11]
      · isplitl [H5]; · iexact H5
        iexact H11
      isplitl [H6 H12]
      · isplitl [H6]; · iexact H6
        iexact H12
      isplitl [H7 H13]
      · isplitl [H7]; · iexact H7
        iexact H13
      iempintro
    isplitl [H14]; · iexact H14
    isplitl [H15]; · iexact H15
    isplitl [H16]; · iexact H16
    isplitl [H17]; · iexact H17
    isplitl [H18]; · iexact H18
    iempintro
  · isplitl [H19 H20 H21 H22 H23 H24 H25 H26 H27 H28 H29 H30]
    · isplitl [H19 H25]
      · isplitl [H19]; · iexact H19
        iexact H25
      isplitl [H20 H26]
      · isplitl [H20]; · iexact H20
        iexact H26
      isplitl [H21 H27]
      · isplitl [H21]; · iexact H21
        iexact H27
      isplitl [H22 H28]
      · isplitl [H22]; · iexact H22
        iexact H28
      isplitl [H23 H29]
      · isplitl [H23]; · iexact H23
        iexact H29
      isplitl [H24 H30]
      · isplitl [H24]; · iexact H24
        iexact H30
      iempintro
    isplitl [H31]; · iexact H31
    isplitl [H32]; · iexact H32
    isplitl [H33]; · iexact H33
    isplitl [H34]; · iexact H34
    isplitl [H35]; · iexact H35
    iempintro

theorem toks_around :
    (bigSep Finset.univ fun p : Dev nD × Fin 36 => dutyTok ERing (tokOf p).1 (tokOf p).2.1 (tokOf p).2.2 : sProp 𝕄)
      ⊢ bigSep Finset.univ fun c : Dev nD => payToks (F := F) c := by
  rw [BI.bigSep_univ_equiv deal, BI.bigSep_univ_prod]
  exact BI.bigSep_mono fun c _ => pay_intro c

end Cert.KernelIdeal.Hand

end
-- ==== Proof.Run.lean ====
/-
The launch and the run: every cell's invariant allocated, the tokens dealt, the kernels run to their end.
-/
module

public import proofs.«01_k».proof.Proof.Deal
public import Idealize.ShloMosaic.Lib.Pipeline.CollectiveSegs

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UAll ℕ

open Idealize.ShloMosaic.Pipeline (Dat BodyObligation)

/-- The kernel's own semaphores. -/
abbrev own8 : Fin 8 → SemLoc sig := fun
  | 0 => .reg (0 : Sem sig) | 1 => .reg (1 : Sem sig)
  | 2 => .dma (4 : DmaSem sig) | 3 => .dma (5 : DmaSem sig) | 4 => .dma (6 : DmaSem sig) | 5 => .dma (7 : DmaSem sig)
  | 6 => .dma (8 : DmaSem sig) | 7 => .dma (9 : DmaSem sig)

theorem ownSemFacts : Pipeline.OwnSemFacts cfg0.spec own8 := by decide

variable (m : (ℓ : Loc nD τ sig) → Buf (Elt F) ℓ) (ρ : Dev nD → PrngReg)

theorem share_eq (c : Dev nD) (w : Fin cfg0.W) : (dats m ρ 0 c).share w = fullShare := by unfold Dat.share; split <;> rfl

def u₀ : UAll :=
  (initOf (Pipeline.cells cfgs cellOf_inj) (Pipeline.launchToks cfgs cellOf_inj), (initOf allCells allToks, 1))

/-- The tokens of a device's own cells. -/
def toks (c : Dev nD) : sProp 𝕄 :=
  bigSep Finset.univ fun i : Fin 36 => dutyTok ERing (tokOf (c, i)).1 (tokOf (c, i)).2.1 (tokOf (c, i)).2.2

def G (c : Dev nD) : sProp 𝕄 :=
  iprop((bigSep Finset.univ fun k : Kd => roundState ERing (Rd (SS (inp m))) (cell c k) 0)
    ∗ (bigSep Finset.univ fun k : Kd => iprop(atPos ERing (cell c k) 0 ∅ 0 ∗ reached ERing (cell c k) 0)) ∗ toks (F := F) c)

/-- What holds of every cell for good. -/
def known (K : Dev nD × Kd → ℕ) : sProp 𝕄 :=
  iprop((bigSep Finset.univ fun p : Dev nD × Kd => cellInv ERing (Rd (SS (inp m))) (K p) (cell p.1 p.2))
    ∗ bigSep Finset.univ fun p : Dev nD × Kd => reached ERing (cell p.1 p.2) 0)

instance known_persistent (K : Dev nD × Kd → ℕ) : BI.Persistent (known m K) := by unfold known; infer_instance

def G' (c : Dev nD) : sProp 𝕄 := iprop(∃ K, known m K ∗ lin (F := F) c ∗ zer (F := F) c)

theorem fund : BI.own (ERing (initOf allCells allToks)) ⊢ (|==> bigSep Finset.univ (G m) : sProp 𝕄) := by
  have hX (Φ : GSem nD τ sig → sProp 𝕄) : bigSep allCells Φ = bigSep Finset.univ fun c : Dev nD => bigSep Finset.univ fun k : Kd => Φ (cell c k) := by
    unfold allCells; rw [bigSep_map, bigSep_univ_prod]; rfl
  have hT : bigSep allToks (fun x => (dutyTok ERing x.1 x.2.1 x.2.2 : sProp 𝕄)) = bigSep Finset.univ fun c : Dev nD => toks (F := F) c := by
    unfold allToks; rw [bigSep_map, bigSep_univ_prod]; rfl
  iintro HX
  imod (Rounds.fund ERing (Rd (SS (inp m))) allCells allToks) $$ HX with ⟨Hst, Hr, Hat, Htok⟩
  imodintro
  ihave Hst := (Entails.of_eq (hX fun g => roundState ERing (Rd (SS (inp m))) g 0)) $$ Hst
  ihave Hat := (Entails.of_eq (hX fun g => atPos ERing g 0 ∅ 0)) $$ Hat
  ihave Hr := (Entails.of_eq (hX fun g => reached ERing g 0)) $$ Hr
  ihave Htok := (Entails.of_eq hT) $$ Htok
  unfold G
  simp only [bigSep_sep']
  isplitl [Hst]; · iexact Hst
  isplitl [Hat Hr]
  · isplitl [Hat]; · iexact Hat
    iexact Hr
  iexact Htok

abbrev ownZ (c : Dev nD) : sProp 𝕄 :=
  Pipeline.ownSems0 (Ix := ℕ) (Name := ℕ) (U := UAll) (Lvl := ℕ) (Val := Elt F) (τ := τ) own8 c

theorem ownSems0_eq (c : Dev nD) : ownZ (F := F) c
    = iprop(semVal (cell c (.crd false)) 0 ∗ semVal (cell c (.crd true)) 0 ∗ semVal (cell c (.snd false)) 0 ∗ semVal (cell c (.snd true)) 0
      ∗ semVal (cell c (.rcv false)) 0 ∗ semVal (cell c (.rcv true)) 0
      ∗ semVal ((c : Thread nD τ), SemLoc.dma (osem false)) 0 ∗ semVal ((c : Thread nD τ), SemLoc.dma (osem true)) 0) := by
  unfold ownZ
  rw [Pipeline.ownSems0_eq_of_list c own8 [0, 1, 2, 3, 4, 5, 6, 7] (by decide) (by decide)]; rfl

theorem unscopedSems0_eq (c : Dev nD) : (unscopedSems0 c : sProp 𝕄) = semVal (cell c .bar) 0 := by
  unfold unscopedSems0; rw [bigSep_eq_bigSepL_of_eq [SemLoc.reg (2 : Sem sig)] (by decide) (by decide)]; rfl

theorem sems0 (c : Dev nD) : iprop(ownZ (F := F) c ∗ unscopedSems0 c)
    ⊢ (iprop((bigSep Finset.univ fun k : Kd => semVal (cell c k) 0) ∗ zer (F := F) c) : sProp 𝕄) := by
  rw [ownSems0_eq, unscopedSems0_eq, kd_list]
  unfold zer
  iintro ⟨⟨H1, H2, H3, H4, H5, H6, H7, H8⟩, H0⟩
  isplitr [H7 H8]
  · isplitl [H0]; · iexact H0
    isplitl [H3]; · iexact H3
    isplitl [H5]; · iexact H5
    isplitl [H1]; · iexact H1
    isplitl [H4]; · iexact H4
    isplitl [H6]; · iexact H6
    iexact H2
  isplitl [H7]; · iexact H7
  iexact H8

theorem core_alloc (c : Dev nD) :
    iprop(ownZ (F := F) c ∗ unscopedSems0 c ∗ G m c)
      ⊢ |={Set.univ}=> iprop((bigSep Finset.univ fun k : Kd => iprop(∃ κ : ℕ, cellInv ERing (Rd (SS (inp m))) κ (cell c k)))
          ∗ (bigSep Finset.univ fun k : Kd => iprop(atPos ERing (cell c k) 0 ∅ 0 ∗ reached ERing (cell c k) 0)) ∗ toks (F := F) c ∗ zer (F := F) c) := by
  unfold G
  iintro ⟨Hos, Hus, Hst, Hat, Htok⟩
  ihave Hv := (sems0 (F := F) c) $$ [Hos Hus]
  · isplitl [Hos]; · iexact Hos
    iexact Hus
  icases Hv with ⟨Hv, Hz⟩
  imod (show iprop((bigSep Finset.univ fun k : Kd => semVal (cell c k) 0) ∗ bigSep Finset.univ fun k : Kd => roundState ERing (Rd (SS (inp m))) (cell c k) 0)
      ⊢ (|={Set.univ}=> bigSep Finset.univ fun k : Kd => iprop(∃ κ : ℕ, cellInv ERing (Rd (SS (inp m))) κ (cell c k)) : sProp 𝕄) from by
        rw [← bigSep_sep']
        exact (bigSep_mono fun k _ => (Rounds.body_intro ERing (Rd (SS (inp m))) (cell c k)).trans inv_alloc).trans (bigSep_fupd _ _)) $$ [Hv Hst] with Hinv
  · isplitl [Hv]; · iexact Hv
    iexact Hst
  imodintro
  isplitl [Hinv]; · iexact Hinv
  isplitl [Hat]; · iexact Hat
  isplitl [Htok]; · iexact Htok
  iexact Hz

theorem known_reached (K : Dev nD × Kd → ℕ) (c : Dev nD) (k : Kd) : known m K ⊢ reached ERing (cell c k) 0 := by
  unfold known
  iintro ⟨-, H⟩
  iapply (show (bigSep Finset.univ fun p : Dev nD × Kd => (reached ERing (cell p.1 p.2) 0 : sProp 𝕄)) ⊢ reached ERing (cell c k) 0 from
    bigSep_elim (Φ := fun p : Dev nD × Kd => (reached ERing (cell p.1 p.2) 0 : sProp 𝕄)) (Finset.mem_univ (c, k)))
  iexact H

theorem lin_intro (K : Dev nD × Kd → ℕ) (c : Dev nD) :
    iprop(known m K ∗ (bigSep Finset.univ fun k : Kd => atPos ERing (cell c k) 0 ∅ 0) ∗ payToks (F := F) c ∗ zer (F := F) c) ⊢ G' m c := by
  rw [kd_list]
  unfold G' payToks
  iintro ⟨#HK, ⟨A0, A1, A2, A3, A4, A5, A6⟩, ⟨⟨B0, B1⟩, ⟨S0, C0⟩, ⟨S1, C1⟩⟩, Hz⟩
  iexists K
  isplitr; · iexact HK
  isplitr [Hz]
  · unfold lin dirL Pos
    isplitl [B0 B1 A0]
    · isplitl [B0]; · iexact B0
      isplitl [B1]; · iexact B1
      iexact A0
    isplitl [A1 A2 A3 S0 C0]
    · isplitl [A1 A2 A3]
      · isplitl [A1]
        · isplitl; · iexact A1
          iapply (known_reached m K c (.snd false)); iexact HK
        isplitl [A2]
        · isplitl; · iexact A2
          iapply (known_reached m K c (.rcv false)); iexact HK
        isplitl; · iexact A3
        iapply (known_reached m K c (.crd false)); iexact HK
      isplitl [S0]; · iexact S0
      iexact C0
    isplitl [A4 A5 A6]
    · isplitl [A4]
      · isplitl; · iexact A4
        iapply (known_reached m K c (.snd true)); iexact HK
      isplitl [A5]
      · isplitl; · iexact A5
        iapply (known_reached m K c (.rcv true)); iexact HK
      isplitl; · iexact A6
      iapply (known_reached m K c (.crd true)); iexact HK
    isplitl [S1]; · iexact S1
    iexact C1
  iexact Hz

theorem with_known {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Kd => iprop(∃ κ : ℕ, cellInv ERing (Rd (SS (inp m))) κ (cell c k)))
          ∗ (bigSep Finset.univ fun k : Kd => iprop(atPos ERing (cell c k) 0 ∅ 0 ∗ reached ERing (cell c k) 0)) ∗ toks (F := F) c ∗ zer (F := F) c) : sProp 𝕄)
      ⊢ bigSep Finset.univ (G' m) := by
  unfold toks
  rw [bigSep_sep', bigSep_sep', bigSep_sep', ← bigSep_univ_prod (fun p : Dev nD × Kd => iprop(∃ κ : ℕ, cellInv ERing (Rd (SS (inp m))) κ (cell p.1 p.2))),
    bigSep_congr (s := Finset.univ) (fun (c : Dev nD) _ => bigSep_sep' Finset.univ (fun k : Kd => (atPos ERing (cell c k) 0 ∅ 0 : sProp 𝕄)) (fun k => reached ERing (cell c k) 0)),
    bigSep_sep', ← bigSep_univ_prod (fun p : Dev nD × Kd => (reached ERing (cell p.1 p.2) 0 : sProp 𝕄)),
    ← bigSep_univ_prod (fun p : Dev nD × Fin 36 => (dutyTok ERing (tokOf p).1 (tokOf p).2.1 (tokOf p).2.2 : sProp 𝕄))]
  iintro ⟨HI, ⟨Hat, #HR⟩, Htok, Hz⟩
  ihave HK := (BI.bigSep_exists_pi Finset.univ (fun (p : Dev nD × Kd) (κ : ℕ) => (cellInv ERing (Rd (SS (inp m))) κ (cell p.1 p.2) : sProp 𝕄))) $$ HI
  icases HK with ⟨%K, #HI⟩
  ihave Htk := (toks_around (F := F)) $$ Htok
  iapply (with_known (R := known m K) fun c _ => lin_intro m K c)
  isplitr
  · unfold known; isplitl; · iexact HI
    iexact HR
  · simp only [bigSep_sep']
    isplitl [Hat]; · iexact Hat
    isplitl [Htk]; · iexact Htk
    iexact Hz

theorem glob : (bigSep Finset.univ fun c => iprop(ownZ (F := F) c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## Its conditions -/

theorem known_recs (K : Dev nD × Kd → ℕ) : iprop(known m K ∗ levAts L lv) ⊢ recs (inp m) K := by
  unfold known recs
  iintro ⟨⟨HI, #HR⟩, HL⟩
  isplitl [HI]; · iexact HI
  isplitr
  · iapply (show (bigSep Finset.univ fun p : Dev nD × Kd => (reached ERing (cell p.1 p.2) 0 : sProp 𝕄))
        ⊢ bigSep Finset.univ fun y : Dev nD => reached ERing (cell y .bar) 0 from by
      rw [bigSep_univ_prod]
      exact bigSep_mono fun y _ => bigSep_elim (Φ := fun k : Kd => (reached ERing (cell y k) 0 : sProp 𝕄)) (Finset.mem_univ Kd.bar))
    iexact HR
  iexact HL

theorem start_intro (c : Dev nD) :
    iprop(Pipeline.unscopedRestP Pipeline.Prefetch.none cfg0.spec c (fun b => m ((c : Thread nD τ).loc b)) ∗ levAts L lv
        ∗ Pipeline.launchCred (fun d => owe d 24) c ∗ prngReg c (ρ c) ∗ G' m c)
      ⊢ |={Set.univ}=> iprop(start m c ∗ emp) := by
  rw [Pipeline.unscopedRestP_none, unscopedRest0_eq]
  unfold start G'
  iintro ⟨Ho, Hlev, Hcr, -, ⟨%K, HK, HL, HZ⟩⟩
  ihave Hc := (creds_intro (F := F) c) $$ Hcr
  ihave HR := (known_recs m K) $$ [HK Hlev]
  · isplitl [HK]; · iexact HK
    iexact Hlev
  imodintro
  isplitl
  · iexists K
    isplitl [HR]; · iexact HR
    isplitl [HL]; · iexact HL
    isplitl [HZ]; · iexact HZ
    isplitl [Hc]; · iexact Hc
    iexists (m ((c : Thread nD τ).loc main_v1))
    iapply (show (((c : Thread nD τ).loc main_v1) ↦{fullShare} m ((c : Thread nD τ).loc main_v1) : sProp 𝕄) ⊢ opts c (m ((c : Thread nD τ).loc main_v1)) from
      Entails.of_eq rfl)
    iexact Ho
  · iempintro

/-- The scratch buffers. -/
theorem scratch_eq (c : Dev nD) : (Pipeline.scopedRest (Ix := ℕ) (Name := ℕ) (U := UAll) (Lvl := ℕ) (Val := Elt F) cfg0.spec c : sProp 𝕄)
    = iprop((∃ f, pts (F := F) c false false fullShare f) ∗ (∃ f, pts (F := F) c false true fullShare f) ∗ (∃ f, pts (F := F) c true false fullShare f)
      ∗ (∃ f, pts (F := F) c true true fullShare f) ∗ (∃ f, cpts (F := F) c false f) ∗ ∃ f, cpts (F := F) c true f) := by
  rw [scopedRest0_eq]
  unfold pts cpts
  simp only [View.set_whole]
  rfl

theorem phi_in (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_eq]
  unfold Φ₀ dirB
  iintro ⟨Hs, -, H1, H2, H3, H4, H5, H6⟩
  isplitl [Hs]; · iexact Hs
  isplitl [H1 H2 H5]
  · isplitl [H1]; · iexact H1
    isplitl [H2]; · iexact H2
    iexact H5
  isplitl [H3]; · iexact H3
  isplitl [H4]; · iexact H4
  iexact H6

theorem phi_out (c : Dev nD) :
    (dats m ρ 0 c).Φ (Fin.last cfg0.N) ⊢ iprop((unscopedSems0 c ∗ opts c (outG (inp m))) ∗ ownZ (F := F) c ∗ Pipeline.scopedRest cfg0.spec c) := by
  rw [show (dats m ρ 0 c).Φ (Fin.last cfg0.N) = fin1 (inp m) c from rfl, scratch_eq, ownSems0_eq, unscopedSems0_eq]
  unfold fin1 dirB dirZ
  iintro ⟨Ho, ⟨⟨B1, B2, B5⟩, ⟨B3, B4, B6⟩⟩, Zb, ⟨Z1, Z2, Z3, Z4⟩, ⟨Y1, Y2, Y3, Y4⟩⟩
  isplitl [Ho Zb]
  · isplitl [Zb]; · iexact Zb
    iexact Ho
  isplitl [Z1 Z2 Z3 Z4 Y1 Y2 Y3 Y4]
  · isplitl [Z3]; · iexact Z3
    isplitl [Y3]; · iexact Y3
    isplitl [Z1]; · iexact Z1
    isplitl [Y1]; · iexact Y1
    isplitl [Z2]; · iexact Z2
    isplitl [Y2]; · iexact Y2
    isplitl [Z4]; · iexact Z4
    iexact Y4
  isplitl [B1]; · iexact B1
  isplitl [B2]; · iexact B2
  isplitl [B3]; · iexact B3
  isplitl [B4]; · iexact B4
  isplitl [B5]; · iexact B5
  iexact B6

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait c _ 0 24 (by decide) (le_refl _) (by
        refine lt_of_eq_of_lt ?_ (show 0 < max 1 (24 - 24) by decide)
        fin_cases w <;> fin_cases s <;> rfl)
    · exact mayWait c _ 0 0 (by decide) (by decide) (by
        refine lt_of_eq_of_lt ?_ (show 0 < max 1 (24 - 0) by decide)
        fin_cases w <;> fin_cases s <;> rfl)

/-! ## The run -/

def finalA (c : Dev nD) (w : Fin cfg0.W) : Buf (Elt F) ((cfg0.win w).arr.view.loc (c : Thread nD τ)) := (dats m ρ 0 c).arrAt w cfg0.N

/-- After a run: every device's result array at the computed contents, the arguments as they were. -/
def After (r : PUnit × MemSt nD τ sig (Elt F)) : Prop :=
  ∀ c : Dev nD, r.2.mem ((c : Thread nD τ).loc main_v1) = outG (inp m)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)

theorem arg_eq (c : Dev nD) (w : Fin cfg0.W) : finalA m ρ c w = (s₀ m ρ).mem ((cfg0.win w).arr.view.loc (c : Thread nD τ)) := by
  fin_cases w
  · exact (dats (F := F) m ρ 0 c).arrAt_in (0 : Fin 4) rfl _
  · exact (dats (F := F) m ρ 0 c).arrAt_in (1 : Fin 4) rfl _
  · exact (dats (F := F) m ρ 0 c).arrAt_in (2 : Fin 4) rfl _
  · exact (dats (F := F) m ρ 0 c).arrAt_in (3 : Fin 4) rfl _

set_option maxRecDepth 200000 in
theorem run_main : θ_run defs (onTc (τ := τ) (main (F := F))) (s₀ m ρ) (fun r => After m r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EPipe defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owe d 24) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (own_pair_emb EMid (initOf allCells allToks) (1 : Counters)) $$ HX
      icases HX with ⟨HX, -⟩
      imod (fund m) $$ HX with HG
      imodintro
      isplitl [HP]; · iexact HP
      iexact HG)
    (hglob := glob m)
    (hA := fun _ _ => rfl) (hpf := fun _ k => k.elim0)
    (X := start m) (Y := fun c => iprop(unscopedSems0 c ∗ opts c (outG (inp m)))) (Z := fun _ => iprop(emp))
    (hX := start_intro m ρ) (hin := phi_in m ρ) (hout := phi_out m ρ)
    (QY := fun c s => s.mem ((c : Thread nD τ).loc main_v1) = outG (inp m)
      ∧ ∀ sm : SemLoc sig, sm.isScoped .tc = false → s.sem ((c.tc : Thread nD τ), sm) = 0)
    (hY := fun c s' => by
      iintro ⟨⟨Hu, Ho⟩, -, HSI⟩
      unfold opts
      icombine HSI Ho gives %h0
      have h1 := Pipeline.unscopedSems0_read (X := (unscopedSems0 c : sProp 𝕄)) (c := c) fupd_intro s'
      imod h1 $$ [Hu HSI] with ⟨%h2, HSI⟩
      · isplitl [Hu]; · iexact Hu
        iexact HSI
      imodintro
      isplitr
      · ipureintro
        exact ⟨Buf.eq_of_forall_mem_univ h0, h2⟩
      iexact HSI)
    (hQ := fun _ h hs => ⟨fun c => ⟨(h c).2.2.1,
      ((h c).1 (0 : Fin 4)).trans (arg_eq m ρ c (0 : Fin 4)), ((h c).1 (1 : Fin 4)).trans (arg_eq m ρ c (1 : Fin 4)),
      ((h c).1 (2 : Fin 4)).trans (arg_eq m ρ c (2 : Fin 4)), ((h c).1 (3 : Fin 4)).trans (arg_eq m ρ c (3 : Fin 4))⟩,
      sem_eq_zero hs fun c => (h c).2.2.2⟩)

end Cert.KernelIdeal.Hand

end
-- ==== Proof.Frames.lean ====
/-
The frames: each program runs to its end, its arguments unchanged and its counters at zero.
-/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Hand

open Idealize.ShloMosaic Idealize.SL.Sem

section
set_option maxRecDepth 200000
set_option maxHeartbeats 2000000

theorem defs₀_eq : (Cert.Kernel.defs₀ (F := Bits)) = Cert.KernelIdeal.defs₀ (F := Bits) := by
  unfold Cert.Kernel.defs₀ Cert.KernelIdeal.defs₀
  refine congrArg Defs.onTc ?_
  funext l a
  rcases l with ⟨_ | n, h⟩
  · rcases a with ⟨t, s⟩
    rfl
  · exact absurd h (Nat.not_lt.2 (Nat.le_add_left _ _))

theorem defs_eq : (Cert.Kernel.defs (F := Bits)) = Cert.KernelIdeal.defs (F := Bits) := by
  unfold Cert.Kernel.defs
  rw [defs₀_eq]
  rfl

/-- The kernel as compiled is the idealized one's text, read at the machine's floats. -/
theorem frame_kernel : Cert.quiescent_Kernel := fun m g _ => by
  rw [defs_eq]
  have h := (θ_run (Cert.KernelIdeal.defs (F := Bits)) (onTc (τ := Cert.KernelIdeal.τ) (Cert.KernelIdeal.main (F := Bits))) _).mono
    (fun r (h : Cert.KernelIdeal.Hand.After m r ∧ r.2.sem = fun _ => 0) =>
      (⟨fun c => (h.1 c).2, h.2⟩ : (∀ c : Dev Cert.KernelIdeal.nD, _) ∧ r.2.sem = fun _ => 0))
    (Cert.KernelIdeal.Hand.run_main (F := Bits) m g)
  exact h
end

theorem frame_ideal : Cert.quiescent_KernelIdeal := fun m g _ =>
  (θ_run (Cert.KernelIdeal.defs (F := Ideal)) _ _).mono (fun _ h => ⟨fun c => (h.1 c).2, h.2⟩)
    (Cert.KernelIdeal.Hand.run_main (F := Ideal) m g)

/-- The reference declares no semaphore. -/
theorem frame_reference : Cert.quiescent_ReferenceIdeal := fun m g _ =>
  (θ_run (Cert.ReferenceIdeal.defs (F := Ideal)) _ _).mono
    (fun r h => ⟨fun c => (h c).2, funext fun ⟨_, sm⟩ => by rcases sm with i | i <;> exact i.elim0⟩)
    (Cert.ReferenceIdeal.Value.run (F := Ideal) m g)

end Cert.Hand

end
-- ==== Proof.Product.lean ====
/-
What the kernel's arithmetic computes, read at an index over the extended reals: a strip is a sum of products over
the columns a device holds, added to the strip received, and at the last step scaled and put through the activation.
-/
module

public import proofs.«01_k».proof.Proof.Values
public import Idealize.ShloMosaic.Lib.Pointwise

@[expose] public section

noncomputable section

namespace Cert.KernelIdeal.Hand

open Cert.KernelIdeal Cert.KernelIdeal.Gen

open Idealize.ShloMosaic
open Idealize.ShloMosaic.TcCoe

/-- The activation: `v / (1 + exp (- clip v))`, the clip to `[-60, 60]`. -/
def act (v : EReal) : EReal :=
  Ideal.div v (Ideal.ofBits .f32 0x3F800000#32
    + Ideal.exp (-(min (Ideal.ofBits .f32 0x42700000#32) (max (Ideal.ofBits .f32 0xC2700000#32) v))))

theorem pay1_at (v : Vec Ideal S256x4096 .bf16) (j : S256x4096.Idx) : k0_pay1 v j = v j := by
  pointwise [k0_pay1]

theorem pay5_at (x : Vec Ideal S256x1024 .f32) (w : Vec Ideal S1024x4096 .f32) (a : Fin 256) (b : Fin 4096) :
    k0_pay5 x w (ix2 a b) = ∑ q : Fin 1024, x (ix2 a q) * w (ix2 q b) := by
  pointwise [k0_pay5]

theorem pay16_at (x : Vec Ideal S256x1024 .f32) (w : Vec Ideal S1024x4096 .f32) (v : Vec Ideal S256x4096 .bf16)
    (a : Fin 256) (b : Fin 4096) :
    k0_pay16 x w v (ix2 a b) = (∑ q : Fin 1024, x (ix2 a q) * w (ix2 q b)) + v (ix2 a b) := by
  pointwise [k0_pay16]

theorem pay38_at (s : Ideal .f32) (x : Vec Ideal S256x1024 .f32) (w : Vec Ideal S1024x4096 .f32) (v : Vec Ideal S256x4096 .bf16)
    (a : Fin 256) (b : Fin 4096) :
    k0_pay38 s x w v (ix2 a b) = act (((∑ q : Fin 1024, x (ix2 a q) * w (ix2 q b)) + v (ix2 a b)) * s) := by
  pointwise [k0_pay38, act]
  rw [zero_sub]

section
variable (I : Inp Ideal)

theorem off_rows (c : Dev nD) (r k : Fin 4) :
    k0_off1 c (BitVec.ofNat 32 r.val) (BitVec.ofNat 32 (256 * k.val)) = ![1024 * (onDev c r).val + 256 * k.val, 0] := by
  revert c r k; decide

/-- A row of the whole. -/
def rowAt (b : Dev nD) (k : Fin 4) (a : Fin 256) : Fin 4096 :=
  ⟨1024 * b.val + 256 * k.val + a.val, by have := k.isLt; have hb : b.val < 4 := b.isLt; omega⟩

/-- A column of the whole. -/
def colAt (d : Bool) (b : Fin 4096) : Fin 8192 := ⟨4096 * d.toNat + b.val, by have := Bool.toNat_le d; omega⟩

theorem xStrip_at (c : Dev nD) (r k : Fin 4) (a : Fin 256) (q : Fin 1024) :
    xStrip I c r k (ix2 a q) = I.x c (ix2 (rowAt (onDev c r) k a) q) := by
  refine congrArg (I.x c) ?_
  funext t
  have e := congrFun (off_rows c r k)
  rcases t with ⟨_ | _ | t, ht⟩
  · apply Fin.ext
    refine (congrArg (· + 1 * a.val) (e 0)).trans ?_
    show 1024 * (onDev c r).val + 256 * k.val + 1 * a.val = 1024 * (onDev c r).val + 256 * k.val + a.val
    omega
  · apply Fin.ext
    refine (congrArg (· + 1 * q.val) (e 1)).trans ?_
    show 0 + 1 * q.val = q.val
    omega
  · exact absurd (show t + 2 < 2 from ht) (by omega)

theorem wHalf_at (c : Dev nD) (d : Bool) (q : Fin 1024) (b : Fin 4096) :
    wHalf I c d (ix2 q b) = I.w c (ix2 q (colAt d b)) := by
  cases d <;> refine congrArg (I.w c) ?_ <;> funext t <;> rcases t with ⟨_ | _ | t, ht⟩
  · apply Fin.ext
    show 0 + 1 * q.val = q.val
    omega
  · apply Fin.ext
    show 0 + 1 * b.val = 4096 * 0 + b.val
    omega
  · exact absurd (show t + 2 < 2 from ht) (by omega)
  · apply Fin.ext
    show 0 + 1 * q.val = q.val
    omega
  · apply Fin.ext
    show 4096 + 1 * b.val = 4096 * 1 + b.val
    omega
  · exact absurd (show t + 2 < 2 from ht) (by omega)

theorem scl_at (c : Dev nD) : scl I c = I.sx c (ix1 0) * I.sw c (ix1 0) := by
  have e : ∀ f : S1.Idx → EReal, ∀ i j : S1.Idx, f i = f j := fun f i j => congrArg f (by
    funext t
    rcases t with ⟨_ | t, ht⟩
    · apply Fin.ext
      have h1 : (i 0).val < 1 := (i 0).isLt
      have h2 : (j 0).val < 1 := (j 0).isLt
      show (i 0).val = (j 0).val
      omega
    · exact absurd (show t + 1 < 1 from ht) (by omega))
  exact congrArg₂ (fun x y : EReal => x * y) (e (I.sx c) _ _) (e (I.sw c) _ _)

/-- A device's part of the product. -/
def part (c : Dev nD) (R : Fin 4096) (C : Fin 8192) : EReal := ∑ q : Fin 1024, I.x c (ix2 R q) * I.w c (ix2 q C)

theorem part_at (c : Dev nD) (d : Bool) (r k : Fin 4) (a : Fin 256) (b : Fin 4096) :
    (∑ q : Fin 1024, xStrip I c r k (ix2 a q) * wHalf I c d (ix2 q b)) = part I c (rowAt (onDev c r) k a) (colAt d b) :=
  Finset.sum_congr rfl fun q _ => by rw [xStrip_at, wHalf_at]

theorem stv0_at (d : Bool) (c : Dev nD) (k : Fin 4) (a : Fin 256) (b : Fin 4096) :
    snt I d 0 c (atStrip k (ix2 a b)) = part I c (rowAt (onDev c (place4 d 0)) k a) (colAt d b) := by
  rw [snt_atStrip I d c 0 (by decide)]
  exact (pay5_at _ _ a b).trans (part_at I c d _ k a b)

theorem stv1_at (d : Bool) (c : Dev nD) (k : Fin 4) (a : Fin 256) (b : Fin 4096) :
    snt I d 1 c (atStrip k (ix2 a b))
      = part I c (rowAt (onDev c (place4 d 1)) k a) (colAt d b) + snt I d 0 (prv d c) (atStrip k (ix2 a b)) := by
  rw [snt_atStrip I d c 1 (by decide)]
  refine (pay16_at _ _ _ a b).trans ?_
  rw [part_at, rdS_apply]

theorem stv2_at (d : Bool) (c : Dev nD) (k : Fin 4) (a : Fin 256) (b : Fin 4096) :
    snt I d 2 c (atStrip k (ix2 a b))
      = part I c (rowAt (onDev c (place4 d 2)) k a) (colAt d b) + snt I d 1 (prv d c) (atStrip k (ix2 a b)) := by
  rw [snt_atStrip I d c 2 (by decide)]
  refine (pay16_at _ _ _ a b).trans ?_
  rw [part_at, rdS_apply]

theorem stv3_at (d : Bool) (c : Dev nD) (k : Fin 4) (a : Fin 256) (b : Fin 4096) :
    snt I d 3 c (atStrip k (ix2 a b))
      = act ((part I c (rowAt (onDev c (place4 d 3)) k a) (colAt d b) + snt I d 2 (prv d c) (atStrip k (ix2 a b))) * scl I c) := by
  rw [snt_atStrip I d c 3 (by decide)]
  refine (pay38_at _ _ _ _ a b).trans ?_
  rw [part_at, rdS_apply]

theorem same_chunk (d : Bool) (b : Dev nD) :
    onDev (prv d b) (place4 d 3) = b ∧ onDev (prv d (prv d b)) (place4 d 2) = b
      ∧ onDev (prv d (prv d (prv d b))) (place4 d 1) = b ∧ onDev (prv d (prv d (prv d (prv d b)))) (place4 d 0) = b := by
  revert d b; decide

/-- A sum around the ring is the sum over the devices. -/
theorem ring_sum (d : Bool) (b : Dev nD) (f : Dev nD → EReal) :
    f (prv d b) + (f (prv d (prv d b)) + (f (prv d (prv d (prv d b))) + f (prv d (prv d (prv d (prv d b)))))) = ∑ c : Fin 4, f c := by
  rw [Fin.sum_univ_four]
  fin_cases b <;> cases d
  · show f (3 : Fin 4) + (f (2 : Fin 4) + (f (1 : Fin 4) + f (0 : Fin 4))) = _; ac_rfl
  · show f (1 : Fin 4) + (f (2 : Fin 4) + (f (3 : Fin 4) + f (0 : Fin 4))) = _; ac_rfl
  · show f (0 : Fin 4) + (f (3 : Fin 4) + (f (2 : Fin 4) + f (1 : Fin 4))) = _; ac_rfl
  · show f (2 : Fin 4) + (f (3 : Fin 4) + (f (0 : Fin 4) + f (1 : Fin 4))) = _; ac_rfl
  · show f (1 : Fin 4) + (f (0 : Fin 4) + (f (3 : Fin 4) + f (2 : Fin 4))) = _; ac_rfl
  · show f (3 : Fin 4) + (f (0 : Fin 4) + (f (1 : Fin 4) + f (2 : Fin 4))) = _; ac_rfl
  · show f (2 : Fin 4) + (f (1 : Fin 4) + (f (0 : Fin 4) + f (3 : Fin 4))) = _; ac_rfl
  · show f (0 : Fin 4) + (f (1 : Fin 4) + (f (2 : Fin 4) + f (3 : Fin 4))) = _; ac_rfl

/-- The finished chunk: the activation of the scaled sum of all the devices' parts. -/
theorem done_at (d : Bool) (b : Dev nD) (k : Fin 4) (u : Fin 256) (v : Fin 4096) :
    ost I d (prv d b) 0 k (ix2 u v)
      = act ((∑ c : Fin 4, part I c (rowAt b k u) (colAt d v)) * scl I (prv d b)) := by
  rw [← ring_sum d b]
  obtain ⟨h3, h2, h1, h0⟩ := same_chunk d b
  unfold ost
  rw [pay1_at, rdS_apply]
  refine (stv3_at I d (prv d b) k u v).trans ?_
  rw [stv2_at, stv1_at, stv0_at, h3, h2, h1, h0]

theorem rowAt_in (i : S4096x8192.Idx) : rowAt (chunkO i) (stripO i) (inO i 0) = i 0 := by
  have h0 : (i 0).val < 4096 := (i 0).isLt
  apply Fin.ext
  show 1024 * ((i 0).val / 1024) + 256 * ((i 0).val % 1024 / 256) + (i 0).val % 256 = (i 0).val
  omega

theorem colAt_in (i : S4096x8192.Idx) : colAt (dirO i) (inO i 1) = i 1 := congrFun (atO_in i) 1

/-- The result at an index. -/
theorem outG_at (i : S4096x8192.Idx) :
    outG I i = act ((∑ c : Fin 4, part I c (i 0) (i 1)) * scl I (prv (dirO i) (chunkO i))) := by
  have h := done_at I (dirO i) (chunkO i) (stripO i) (inO i 0) (inO i 1)
  rw [rowAt_in, colAt_in] at h
  exact (congrArg (ost I (dirO i) (prv (dirO i) (chunkO i)) 0 (stripO i)) (eq_ix2 (n0 := 256) (n1 := 4096) (inO i))).trans h

end

end Cert.KernelIdeal.Hand

end
-- ==== Proof.Value.lean ====
/-
The value claim: the kernel's result on every device is the reference's, element by element over the extended reals.
-/
module

public import proofs.«01_k».proof.Defs
public import proofs.«01_k».proof.Proof.Run
public import proofs.«01_k».proof.Proof.Product
public import proofs.«01_k».proof.Proof.Gen.ReferenceIdeal.Run

@[expose] public section

noncomputable section

namespace Cert.ReferenceIdeal.Hand

open Cert.ReferenceIdeal Cert.ReferenceIdeal.Gen
open Idealize.ShloMosaic

/-- What the reference computes. -/
def refG (X : FVec Ideal S4096x4096 .f32) (W : FVec Ideal S4096x8192 .f32) (a b : FVec Ideal S1 .f32) :
    FVec Ideal S4096x8192 .f32 :=
  Host.divf (mulf (Host.dotGeneral dot_S4096x4096_S4096x8192_S4096x8192_1_0_0_1_n_n none X W) (broadcastInDim S4096x8192 ![0, 1] bcast_S1x1_S4096x8192_0_1 (broadcastInDim S1x1 ![1] bcast_S1_S1x1_1 (mulf a b)))) (addf (broadcastInDim S4096x8192 ![] bcast_S_S4096x8192 (constant S_ .f32 0x3F800000#32)) (Host.exp (Host.negf (minimumf (broadcastInDim S4096x8192 ![] bcast_S_S4096x8192 (id (constant S_ .f32 0x42700000#32))) (maximumf (broadcastInDim S4096x8192 ![] bcast_S_S4096x8192 (id (constant S_ .f32 0xC2700000#32))) (mulf (Host.dotGeneral dot_S4096x4096_S4096x8192_S4096x8192_1_0_0_1_n_n none X W) (broadcastInDim S4096x8192 ![0, 1] bcast_S1x1_S4096x8192_0_1 (broadcastInDim S1x1 ![1] bcast_S1_S1x1_1 (mulf a b)))))))))

/-- The reference at an index: the activation of the scaled product. -/
theorem refG_at (X : FVec Ideal S4096x4096 .f32) (W : FVec Ideal S4096x8192 .f32) (a b : FVec Ideal S1 .f32)
    (r : Fin 4096) (l : Fin 8192) :
    refG X W a b (ix2 r l)
      = Cert.KernelIdeal.Hand.act ((∑ q : Fin 4096, X (ix2 r q) * W (ix2 q l)) * (a (ix1 0) * b (ix1 0))) := by
  pointwise [refG, Cert.KernelIdeal.Hand.act, id]

end Cert.ReferenceIdeal.Hand

namespace Cert.Hand

open Idealize.ShloMosaic Idealize.ShloMosaic.TcCoe Idealize.SL.Sem
open Cert.KernelIdeal.Hand (Inp part act outG outG_at scl_at scl prv dirO chunkO inp)

/-- A sum over the devices of sums over the columns each holds is the sum over all the columns. -/
theorem sum_devices (f : Fin 4096 → EReal) :
    (∑ c : Fin 4, ∑ q : Fin 1024, f ⟨c.val * 1024 + q.val, by omega⟩) = ∑ q : Fin 4096, f q := by
  rw [← Fintype.sum_prod_type', ← Equiv.sum_comp (finProdFinEquiv (m := 4) (n := 1024)) f]
  refine Finset.sum_congr rfl fun p _ => congrArg f (Fin.ext ?_)
  show p.1.val * 1024 + p.2.val = p.2.val + 1024 * p.1.val
  omega

/-- The kernel's result is the reference's, when each device holds its block of the operands and the scales. -/
theorem out_eq (I : Inp Ideal) (X : FVec Ideal ⟨2, ![4096, 4096]⟩ .f32) (W : FVec Ideal ⟨2, ![4096, 8192]⟩ .f32)
    (a b : FVec Ideal ⟨1, ![1]⟩ .f32)
    (hx : ∀ c, I.x c = Layout.block ⟨2, ![4096, 1024]⟩ ⟨2, ![4096, 4096]⟩ 1 4 c X)
    (hw : ∀ c, I.w c = Layout.block ⟨2, ![1024, 8192]⟩ ⟨2, ![4096, 8192]⟩ 0 4 c W)
    (ha : ∀ c, I.sx c = a) (hb : ∀ c, I.sw c = b) : outG I = Cert.ReferenceIdeal.Hand.refG X W a b := by
  funext i
  rw [outG_at, scl_at, ha, hb]
  have hi : i = ix2 (n0 := 4096) (n1 := 8192) (i 0) (i 1) := eq_ix2 i
  refine Eq.trans ?_ (congrArg (Cert.ReferenceIdeal.Hand.refG X W a b) hi.symm)
  refine Eq.trans ?_ (Cert.ReferenceIdeal.Hand.refG_at X W a b (i 0) (i 1)).symm
  refine congrArg (fun s : EReal => act (s * (a (ix1 0) * b (ix1 0)))) ?_
  rw [← sum_devices]
  refine Finset.sum_congr rfl fun c _ => Finset.sum_congr rfl fun q _ => ?_
  rw [hx, hw]
  refine congrArg₂ (fun u v : EReal => u * v) (congrArg X ?_) (congrArg W ?_)
  · funext t
    rcases t with ⟨_ | _ | t, ht⟩
    · rfl
    · rfl
    · exact absurd (show t + 2 < 2 from ht) (by omega)
  · funext t
    rcases t with ⟨_ | _ | t, ht⟩
    · rfl
    · rfl
    · exact absurd (show t + 2 < 2 from ht) (by omega)

/-! What the kernel is called with is what its arguments hold: each window is a whole array. -/

section
variable (m : (ℓ : Loc Cert.KernelIdeal.nD Cert.KernelIdeal.τ Cert.KernelIdeal.sig) → Buf (Elt Ideal) ℓ)

theorem read_x (c : Dev Cert.KernelIdeal.nD) : (inp m).x c = m ((c : Thread Cert.KernelIdeal.nD Cert.KernelIdeal.τ).loc Cert.KernelIdeal.main_arg0) := by
  refine funext fun i => congrArg (m ((c : Thread Cert.KernelIdeal.nD Cert.KernelIdeal.τ).loc Cert.KernelIdeal.main_arg0)) (funext fun t => Fin.ext ?_)
  rcases t with ⟨_ | _ | t, ht⟩
  · show 0 * 4096 + 1 * (i 0).val = (i 0).val
    omega
  · show 0 * 1024 + 1 * (i 1).val = (i 1).val
    omega
  · exact absurd (show t + 2 < 2 from ht) (by omega)

theorem read_w (c : Dev Cert.KernelIdeal.nD) : (inp m).w c = m ((c : Thread Cert.KernelIdeal.nD Cert.KernelIdeal.τ).loc Cert.KernelIdeal.main_arg1) := by
  refine funext fun i => congrArg (m ((c : Thread Cert.KernelIdeal.nD Cert.KernelIdeal.τ).loc Cert.KernelIdeal.main_arg1)) (funext fun t => Fin.ext ?_)
  rcases t with ⟨_ | _ | t, ht⟩
  · show 0 * 1024 + 1 * (i 0).val = (i 0).val
    omega
  · show 0 * 8192 + 1 * (i 1).val = (i 1).val
    omega
  · exact absurd (show t + 2 < 2 from ht) (by omega)

theorem read_sx (c : Dev Cert.KernelIdeal.nD) : (inp m).sx c = m ((c : Thread Cert.KernelIdeal.nD Cert.KernelIdeal.τ).loc Cert.KernelIdeal.main_arg2) := by
  refine funext fun i => congrArg (m ((c : Thread Cert.KernelIdeal.nD Cert.KernelIdeal.τ).loc Cert.KernelIdeal.main_arg2)) (funext fun t => Fin.ext ?_)
  rcases t with ⟨_ | t, ht⟩
  · show 0 + 1 * (i 0).val = (i 0).val
    omega
  · exact absurd (show t + 1 < 1 from ht) (by omega)

theorem read_sw (c : Dev Cert.KernelIdeal.nD) : (inp m).sw c = m ((c : Thread Cert.KernelIdeal.nD Cert.KernelIdeal.τ).loc Cert.KernelIdeal.main_arg3) := by
  refine funext fun i => congrArg (m ((c : Thread Cert.KernelIdeal.nD Cert.KernelIdeal.τ).loc Cert.KernelIdeal.main_arg3)) (funext fun t => Fin.ext ?_)
  rcases t with ⟨_ | t, ht⟩
  · show 0 + 1 * (i 0).val = (i 0).val
    omega
  · exact absurd (show t + 1 < 1 from ht) (by omega)

end

theorem algebraic : Cert.algebraic_KernelIdeal_ReferenceIdeal := fun m g m' g' _ h => by
  have key := out_eq (inp m)
    (m' ((0 : Dev Cert.ReferenceIdeal.nD).tc.loc Cert.ReferenceIdeal.main_arg0))
    (m' ((0 : Dev Cert.ReferenceIdeal.nD).tc.loc Cert.ReferenceIdeal.main_arg1))
    (m' ((0 : Dev Cert.ReferenceIdeal.nD).tc.loc Cert.ReferenceIdeal.main_arg2))
    (m' ((0 : Dev Cert.ReferenceIdeal.nD).tc.loc Cert.ReferenceIdeal.main_arg3))
    (fun c => (read_x m c).trans (h c).1) (fun c => (read_w m c).trans (h c).2.1)
    (fun c => (read_sx m c).trans (h c).2.2.1) (fun c => (read_sw m c).trans (h c).2.2.2)
  refine ⟨outG (inp m), ?_, ?_⟩
  · exact (θ_run (Cert.KernelIdeal.defs (F := Ideal)) _ _).mono (fun _ r => r.1)
      (Cert.KernelIdeal.Hand.run_main (F := Ideal) m g)
  · exact (θ_run (Cert.ReferenceIdeal.defs (F := Ideal)) _ _).mono (fun _ r => ⟨(r 0).1.trans key.symm, (r 0).2⟩)
      (Cert.ReferenceIdeal.Value.run (F := Ideal) m' g')

end Cert.Hand

end
-- ==== Proof.lean ====
/-
The certificate: the frames, the idealization and the value claim, from the run of the kernel and of the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

theorem claim : Cert.Claim := ⟨Cert.Kernel.Gen.facts, Cert.KernelIdeal.Gen.facts, Cert.ReferenceIdeal.Gen.facts,
  Cert.Hand.frame_kernel, Cert.Hand.frame_ideal, Cert.Hand.frame_reference, trivial, Cert.Hand.algebraic⟩

end Cert.Proof

end
